-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v159) = v0 c
          ∧ r.2.mem ((c.tc : Thread Cert.Reference5Ideal.nD Cert.Reference5Ideal.τ).loc Cert.Reference5Ideal.main_v163) = v1 c
          ∧ r.2.mem ((c.tc : Thread Cert.Reference5Ideal.nD Cert.Reference5Ideal.τ).loc Cert.Reference5Ideal.main_v162) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v32)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S4x8192x1024 : Shape := ⟨3, ![4, 8192, 1024]⟩
abbrev S4x8192x256 : Shape := ⟨3, ![4, 8192, 256]⟩
abbrev S16x256 : Shape := ⟨2, ![16, 256]⟩
abbrev S_ : Shape := ⟨0, ![]⟩

class Facts : Prop where
  bcast_S_S4x8192x1024 : S_.BroadcastsInDim S4x8192x1024 (![] : Fin 0 → Fin S4x8192x1024.rank)
  bcast_S_S4x8192x256 : S_.BroadcastsInDim S4x8192x256 (![] : Fin 0 → Fin S4x8192x256.rank)
  bcast_S_S16x256 : S_.BroadcastsInDim S16x256 (![] : Fin 0 → Fin S16x256.rank)

variable [Facts]

def fn {F : FTy → Type} [FloatOps F] (main_arg0 : FVec F S4x8192x1024 .f32) (main_arg1 : FVec F S4x8192x256 .f32) (main_arg2 : FVec F S4x8192x256 .f32) (main_arg3 : FVec F S16x256 .f32) (main_arg4 : FVec F S16x256 .f32) : IVec S4x8192x1024 1 × IVec S4x8192x256 1 × IVec S16x256 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x8192x256 .f32 := Host.absf main_arg1
  let main_cst_0 : FVec F S_ .f32 := constant S_ .f32 0x7F800000#32
  let main_v4 : FVec F S4x8192x256 .f32 := broadcastInDim S4x8192x256 ![] bcast_S_S4x8192x256 main_cst_0
  let main_v5 : IVec S4x8192x256 1 := cmpf .olt main_v3 main_v4
  let main_v6 : FVec F S16x256 .f32 := Host.absf main_arg3
  let main_cst_1 : FVec F S_ .f32 := constant S_ .f32 0x7F800000#32
  let main_v7 : FVec F S16x256 .f32 := broadcastInDim S16x256 ![] bcast_S_S16x256 main_cst_1
  let main_v8 : IVec S16x256 1 := cmpf .olt main_v6 main_v7
  (main_v2, main_v5, main_v8)
-- ==== Kernel.lean ====
abbrev S4x8192x1024 : Shape := ⟨3, ![4, 8192, 1024]⟩
abbrev S4x8192x256 : Shape := ⟨3, ![4, 8192, 256]⟩
abbrev S16x256 : Shape := ⟨2, ![16, 256]⟩
abbrev S128x256x1024 : Shape := ⟨3, ![128, 256, 1024]⟩
abbrev S128x1024x256 : Shape := ⟨3, ![128, 1024, 256]⟩
abbrev S32768x256 : Shape := ⟨2, ![32768, 256]⟩
abbrev S64x512x2x128 : Shape := ⟨4, ![64, 512, 2, 128]⟩
abbrev S2x64x128x512 : Shape := ⟨4, ![2, 64, 128, 512]⟩
abbrev S_ : Shape := ⟨0, ![]⟩
abbrev S128x256 : Shape := ⟨2, ![128, 256]⟩
abbrev S128x2x128 : Shape := ⟨3, ![128, 2, 128]⟩
abbrev S2x128x128 : Shape := ⟨3, ![2, 128, 128]⟩
abbrev S1x512x256 : Shape := ⟨3, ![1, 512, 256]⟩
abbrev S1x8192x128 : Shape := ⟨3, ![1, 8192, 128]⟩
abbrev S1x16x128x512 : Shape := ⟨4, ![1, 16, 128, 512]⟩
abbrev S128x128 : Shape := ⟨2, ![128, 128]⟩
abbrev S1x128x128 : Shape := ⟨3, ![1, 128, 128]⟩
abbrev S1x256x512 : Shape := ⟨3, ![1, 256, 512]⟩
abbrev S128x1024 : Shape := ⟨2, ![128, 1024]⟩
abbrev S512x1152 : Shape := ⟨2, ![512, 1152]⟩
abbrev S1x1024 : Shape := ⟨2, ![1, 1024]⟩
abbrev S144x1152 : Shape := ⟨2, ![144, 1152]⟩
abbrev S1x128x256 : Shape := ⟨3, ![1, 128, 256]⟩
abbrev S1x512x128 : Shape := ⟨3, ![1, 512, 128]⟩
abbrev S512x128 : Shape := ⟨2, ![512, 128]⟩
abbrev S512x1024 : Shape := ⟨2, ![512, 1024]⟩
abbrev S1024 : Shape := ⟨1, ![1024]⟩
abbrev S16x128 : Shape := ⟨2, ![16, 128]⟩
abbrev S144x128 : Shape := ⟨2, ![144, 128]⟩
abbrev S144x1024 : Shape := ⟨2, ![144, 1024]⟩
abbrev S1x1x128x512 : Shape := ⟨4, ![1, 1, 128, 512]⟩
abbrev S128x512 : Shape := ⟨2, ![128, 512]⟩
abbrev S16x512 : Shape := ⟨2, ![16, 512]⟩
abbrev S144x512 : Shape := ⟨2, ![144, 512]⟩
abbrev S1x128 : Shape := ⟨2, ![1, 128]⟩
abbrev S128 : Shape := ⟨1, ![128]⟩
abbrev S144x256 : Shape := ⟨2, ![144, 256]⟩
abbrev S1x256 : Shape := ⟨2, ![1, 256]⟩
abbrev S512x256 : Shape := ⟨2, ![512, 256]⟩
abbrev S256x128 : Shape := ⟨2, ![256, 128]⟩
abbrev S1x256x128 : Shape := ⟨3, ![1, 256, 128]⟩

abbrev nBuf : Space → Nat
  | .hbm => 25
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S16x256, .f32⟩
  | .hbm, ⟨4, _⟩ => ⟨S16x256, .f32⟩
  | .hbm, ⟨5, _⟩ => ⟨S128x256x1024, .f32⟩
  | .hbm, ⟨6, _⟩ => ⟨S128x1024x256, .f32⟩
  | .hbm, ⟨7, _⟩ => ⟨S128x1024x256, .bf16⟩
  | .hbm, ⟨8, _⟩ => ⟨S32768x256, .f32⟩
  | .hbm, ⟨9, _⟩ => ⟨S32768x256, .bf16⟩
  | .hbm, ⟨10, _⟩ => ⟨S64x512x2x128, .f32⟩
  | .hbm, ⟨11, _⟩ => ⟨S2x64x128x512, .f32⟩
  | .hbm, ⟨12, _⟩ => ⟨S2x64x128x512, .bf16⟩
  | .hbm, ⟨13, _⟩ => ⟨S16x256, .bf16⟩
  | .hbm, ⟨14, _⟩ => ⟨S_, .i32⟩
  | .hbm, ⟨15, _⟩ => ⟨S_, .bf16⟩
  | .hbm, ⟨16, _⟩ => ⟨S128x256, .bf16⟩
  | .hbm, ⟨17, _⟩ => ⟨S16x256, .bf16⟩
  | .hbm, ⟨18, _⟩ => ⟨S_, .i32⟩
  | .hbm, ⟨19, _⟩ => ⟨S_, .bf16⟩
  | .hbm, ⟨20, _⟩ => ⟨S128x256, .bf16⟩
  | .hbm, ⟨21, _⟩ => ⟨S128x2x128, .bf16⟩
  | .hbm, ⟨22, _⟩ => ⟨S2x128x128, .bf16⟩
  | .hbm, ⟨23, _⟩ => ⟨S4x8192x256, .bf16⟩
  | .hbm, ⟨24, _⟩ => ⟨S4x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S128x128, .bf16⟩
  | .local _ .vmem, ⟨7, _⟩ => ⟨S128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x256x512, .bf16⟩
  | .local _ .vmem, ⟨11, _⟩ => ⟨S1x256x512, .bf16⟩
  | .local _ .vmem, ⟨12, _⟩ => ⟨S128x1024, .bf16⟩
  | .local _ .vmem, ⟨13, _⟩ => ⟨S512x1152, .f32⟩
  | .local _ .vmem, ⟨14, _⟩ => ⟨S512x1152, .f32⟩
  | .local _ .vmem, ⟨15, _⟩ => ⟨S1x1024, .f32⟩
  | .local _ .vmem, ⟨16, _⟩ => ⟨S144x1152, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 32], ![false, false, false]⟩

def k0_mult1 : BitVec 32 :=
  let c0_i32 : BitVec 32 := 0#32
  c0_i32
@[reducible] def k0_t1_loop : Scf.Loop 32 :=
  let c0_i32_40 : BitVec 32 := 0#32
  let c7_i32 : BitVec 32 := 7#32
  let v71 : BitVec 32 := Scalar.addi c0_i32_40 c7_i32
  let c1_i32 : BitVec 32 := 1#32
  ⟨c0_i32_40, v71, c1_i32⟩
def k0_mult2 (k0_t1 : Fin k0_t1_loop.trips) : BitVec 32 :=
  let c2_i32 : BitVec 32 := 2#32
  let c0_i32_40 : BitVec 32 := 0#32
  let c1_i32 : BitVec 32 := 1#32
  let arg14 : BitVec 32 := Scf.iv c0_i32_40 c1_i32 k0_t1
  let v423 : BitVec 32 := Scalar.muli c2_i32 arg14
  let c1_i32_224 : BitVec 32 := 1#32
  let v424 : BitVec 32 := Scalar.addi v423 c1_i32_224
  let c512_i32 : BitVec 32 := 512#32
  let v425 : BitVec 32 := Scalar.muli v424 c512_i32
  v425
def k0_off1 (k0_t1 : Fin k0_t1_loop.trips) (c1_i32_224 : BitVec 32) : Fin 3 → Nat :=
  let c0_225 : Index := 0#32
  let c2_i32 : BitVec 32 := 2#32
  let c0_i32_40 : BitVec 32 := 0#32
  let c1_i32 : BitVec 32 := 1#32
  let arg14 : BitVec 32 := Scf.iv c0_i32_40 c1_i32 k0_t1
  let v423 : BitVec 32 := Scalar.muli c2_i32 arg14
  let v424 : BitVec 32 := Scalar.addi v423 c1_i32_224
  let c512_i32 : BitVec 32 := 512#32
  let v425 : BitVec 32 := Scalar.muli v424 c512_i32
  let v426 : BitVec 32 := v425
  let v427 : Index := Scalar.indexCast v426
  let c0_226 : Index := 0#32
  ![0, v427.toNat, 0]
def k0_off2 (k0_t1 : Fin k0_t1_loop.trips) : Fin 4 → Nat :=
  let c0_233 : Index := 0#32
  let c2_i32_232 : BitVec 32 := 2#32
  let c0_i32_40 : BitVec 32 := 0#32
  let c1_i32 : BitVec 32 := 1#32
  let arg14 : BitVec 32 := Scf.iv c0_i32_40 c1_i32 k0_t1
  let v435 : BitVec 32 := Scalar.muli c2_i32_232 arg14
  let v436 : Index := Scalar.indexCast v435
  let c0_234 : Index := 0#32
  let c0_235 : Index := 0#32
  ![0, v436.toNat, 0, 0]
def k0_mult3 (k0_t1 : Fin k0_t1_loop.trips) : BitVec 32 :=
  let c2_i32_313 : BitVec 32 := 2#32
  let c0_i32_40 : BitVec 32 := 0#32
  let c1_i32 : BitVec 32 := 1#32
  let arg14 : BitVec 32 := Scf.iv c0_i32_40 c1_i32 k0_t1
  let v593 : BitVec 32 := Scalar.muli c2_i32_313 arg14
  let c2_i32_314 : BitVec 32 := 2#32
  let v594 : BitVec 32 := Scalar.addi v593 c2_i32_314
  let c512_i32_315 : BitVec 32 := 512#32
  let v595 : BitVec 32 := Scalar.muli v594 c512_i32_315
  v595
def k0_off3 (k0_t1 : Fin k0_t1_loop.trips) : Fin 4 → Nat :=
  let c0_325 : Index := 0#32
  let c2_i32_323 : BitVec 32 := 2#32
  let c0_i32_40 : BitVec 32 := 0#32
  let c1_i32 : BitVec 32 := 1#32
  let arg14 : BitVec 32 := Scf.iv c0_i32_40 c1_i32 k0_t1
  let v605 : BitVec 32 := Scalar.muli c2_i32_323 arg14
  let c1_i32_324 : BitVec 32 := 1#32
  let v606 : BitVec 32 := Scalar.addi v605 c1_i32_324
  let v607 : Index := Scalar.indexCast v606
  let c0_326 : Index := 0#32
  let c0_327 : Index := 0#32
  ![0, v607.toNat, 0, 0]
def k0_mult4 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S4x8192x1024 : Shape := ⟨3, ![4, 8192, 1024]⟩
abbrev S4x8192x256 : Shape := ⟨3, ![4, 8192, 256]⟩
abbrev S16x256 : Shape := ⟨2, ![16, 256]⟩
abbrev S4x8192x2x4x128 : Shape := ⟨5, ![4, 8192, 2, 4, 128]⟩
abbrev S1x16x256 : Shape := ⟨3, ![1, 16, 256]⟩
abbrev S4x16x256 : Shape := ⟨3, ![4, 16, 256]⟩
abbrev S4x8208x256 : Shape := ⟨3, ![4, 8208, 256]⟩
abbrev S4x8208x2x128 : Shape := ⟨4, ![4, 8208, 2, 128]⟩
abbrev S4x2x8208x8192x4 : Shape := ⟨5, ![4, 2, 8208, 8192, 4]⟩
abbrev S4x2x4x8192x8208 : Shape := ⟨5, ![4, 2, 4, 8192, 8208]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S16x256, .f32⟩
  | .hbm, ⟨4, _⟩ => ⟨S16x256, .f32⟩
  | .hbm, ⟨5, _⟩ => ⟨S4x8192x2x4x128, .f32⟩
  | .hbm, ⟨6, _⟩ => ⟨S1x16x256, .f32⟩
  | .hbm, ⟨7, _⟩ => ⟨S4x16x256, .f32⟩
  | .hbm, ⟨8, _⟩ => ⟨S4x8208x256, .f32⟩
  | .hbm, ⟨9, _⟩ => ⟨S1x16x256, .f32⟩
  | .hbm, ⟨10, _⟩ => ⟨S4x16x256, .f32⟩
  | .hbm, ⟨11, _⟩ => ⟨S4x8208x256, .f32⟩
  | .hbm, ⟨12, _⟩ => ⟨S4x8208x2x128, .f32⟩
  | .hbm, ⟨13, _⟩ => ⟨S4x8208x2x128, .f32⟩
  | .hbm, ⟨14, _⟩ => ⟨S4x2x8208x8192x4, .f32⟩
  | .hbm, ⟨15, _⟩ => ⟨S4x2x4x8192x8208, .f32⟩
  | .hbm, ⟨16, _⟩ => ⟨S_, .f32⟩
  | .hbm, ⟨17, _⟩ => ⟨S_, .f32⟩
  | .hbm, ⟨18, _⟩ => ⟨S4x2x4x8192x8208, .f32⟩
  | .hbm, ⟨19, _⟩ => ⟨S4x2x4x8192x8208, .f32⟩
  | .hbm, ⟨20, _⟩ => ⟨S_, .f32⟩
  | .hbm, ⟨21, _⟩ => ⟨S4x2x4x8192, .f32⟩
  | .hbm, ⟨22, _⟩ => ⟨S_, .f32⟩
  | .hbm, ⟨23, _⟩ => ⟨S4x2x4x8192, .f32⟩
  | .hbm, ⟨24, _⟩ => ⟨S4x2x4x8192, .f32⟩
  | .hbm, ⟨25, _⟩ => ⟨S4x2x4x8192x1, .f32⟩
  | .hbm, ⟨26, _⟩ => ⟨S4x2x4x8192x8208, .f32⟩
  | .hbm, ⟨27, _⟩ => ⟨S4x2x4x8192x8208, .f32⟩
  | .hbm, ⟨28, _⟩ => ⟨S4x2x4x8192x8208, .f32⟩
  | .hbm, ⟨29, _⟩ => ⟨S_, .f32⟩
  | .hbm, ⟨30, _⟩ => ⟨S4x2x4x8192, .f32⟩
  | .hbm, ⟨31, _⟩ => ⟨S4x2x4x8192x1, .f32⟩
  | .hbm, ⟨32, _⟩ => ⟨S4x2x4x8192x8208, .f32⟩
  | .hbm, ⟨33, _⟩ => ⟨S4x2x4x8192x8208, .f32⟩
  | .hbm, ⟨34, _⟩ => ⟨S4x2x128x4x8192, .f32⟩
  | .hbm, ⟨35, _⟩ => ⟨S4x8192x2x4x128, .f32⟩
  | .hbm, ⟨36, _⟩ => ⟨S4x8192x1024, .f32⟩
  | .hbm, ⟨37, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel2.lean ====
abbrev S32768x1024 : Shape := ⟨2, ![32768, 1024]⟩
abbrev S32768x32 : Shape := ⟨2, ![32768, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S_ : Shape := ⟨0, ![]⟩
abbrev S32768x128 : Shape := ⟨2, ![32768, 128]⟩
abbrev S32x1024x256 : Shape := ⟨3, ![32, 1024, 256]⟩
abbrev S32x1024x512 : Shape := ⟨3, ![32, 1024, 512]⟩
abbrev S32x256x1024 : Shape := ⟨3, ![32, 256, 1024]⟩
abbrev S1x1024 : Shape := ⟨2, ![1, 1024]⟩
abbrev S2048x1024 : Shape := ⟨2, ![2048, 1024]⟩
abbrev S2048x128 : Shape := ⟨2, ![2048, 128]⟩
abbrev S1x1024x512 : Shape := ⟨3, ![1, 1024, 512]⟩
abbrev S1x256x1024 : Shape := ⟨3, ![1, 256, 1024]⟩
abbrev S1024x512 : Shape := ⟨2, ![1024, 512]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩
abbrev S256x1024 : Shape := ⟨2, ![256, 1024]⟩

abbrev nBuf : Space → Nat
  | .hbm => 19
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x32, .f32⟩
  | .hbm, ⟨2, _⟩ => ⟨S32768x1024, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S32768x128, .f32⟩
  | .hbm, ⟨10, _⟩ => ⟨S32x1024x256, .f32⟩
  | .hbm, ⟨11, _⟩ => ⟨S32x1024x256, .f32⟩
  | .hbm, ⟨12, _⟩ => ⟨S32x1024x512, .f32⟩
  | .hbm, ⟨13, _⟩ => ⟨S32x1024x512, .bf16⟩
  | .hbm, ⟨14, _⟩ => ⟨S32x256x1024, .f32⟩
  | .hbm, ⟨15, _⟩ => ⟨S32x256x1024, .bf16⟩
  | .hbm, ⟨16, _⟩ => ⟨S32768x1024, .bf16⟩
  | .hbm, ⟨17, _⟩ => ⟨S1x1024, .f32⟩
  | .hbm, ⟨18, _⟩ => ⟨S32768x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S2048x1024, .f32⟩
  | .local _ .vmem, ⟨5, _⟩ => ⟨S2048x1024, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S2048x1024, .f32⟩
  | .local _ .vmem, ⟨12, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x1024 : Shape := ⟨2, ![32768, 1024]⟩
abbrev S32768x32 : Shape := ⟨2, ![32768, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S32x1024x256 : Shape := ⟨3, ![32, 1024, 256]⟩
abbrev S32x256x32768 : Shape := ⟨3, ![32, 256, 32768]⟩
abbrev S32x32768x256 : Shape := ⟨3, ![32, 32768, 256]⟩
abbrev S_ : Shape := ⟨0, ![]⟩
abbrev S32x256x1024 : Shape := ⟨3, ![32, 256, 1024]⟩
abbrev S32x32768x1024 : Shape := ⟨3, ![32, 32768, 1024]⟩
abbrev S32x32768 : Shape := ⟨2, ![32, 32768]⟩
abbrev S32x32768x1 : Shape := ⟨3, ![32, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x32, .f32⟩
  | .hbm, ⟨2, _⟩ => ⟨S32768x1024, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S32x1024x256, .f32⟩
  | .hbm, ⟨8, _⟩ => ⟨S32x256x32768, .f32⟩
  | .hbm, ⟨9, _⟩ => ⟨S32x32768x256, .f32⟩
  | .hbm, ⟨10, _⟩ => ⟨S32x1024x256, .f32⟩
  | .hbm, ⟨11, _⟩ => ⟨S32x256x32768, .f32⟩
  | .hbm, ⟨12, _⟩ => ⟨S32x32768x256, .f32⟩
  | .hbm, ⟨13, _⟩ => ⟨S32x32768x256, .f32⟩
  | .hbm, ⟨14, _⟩ => ⟨S32x32768x256, .f32⟩
  | .hbm, ⟨15, _⟩ => ⟨S_, .f32⟩
  | .hbm, ⟨16, _⟩ => ⟨S32x32768x256, .f32⟩
  | .hbm, ⟨17, _⟩ => ⟨S32x32768x256, .f32⟩
  | .hbm, ⟨18, _⟩ => ⟨S_, .f32⟩
  | .hbm, ⟨19, _⟩ => ⟨S32x32768x256, .f32⟩
  | .hbm, ⟨20, _⟩ => ⟨S32x32768x256, .f32⟩
  | .hbm, ⟨21, _⟩ => ⟨S32x32768x256, .f32⟩
  | .hbm, ⟨22, _⟩ => ⟨S32x32768x256, .f32⟩
  | .hbm, ⟨23, _⟩ => ⟨S32x256x1024, .f32⟩
  | .hbm, ⟨24, _⟩ => ⟨S32x32768x1024, .f32⟩
  | .hbm, ⟨25, _⟩ => ⟨S32x32768, .f32⟩
  | .hbm, ⟨26, _⟩ => ⟨S32x32768x1, .f32⟩
  | .hbm, ⟨27, _⟩ => ⟨S32x32768x1024, .f32⟩
  | .hbm, ⟨28, _⟩ => ⟨S32x32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S1x1024x9792 : Shape := ⟨3, ![1, 1024, 9792]⟩
abbrev S64 : Shape := ⟨1, ![64]⟩
abbrev S1024x9792 : Shape := ⟨2, ![1024, 9792]⟩
abbrev S1024x1024 : Shape := ⟨2, ![1024, 1024]⟩
abbrev S1024x2048 : Shape := ⟨2, ![1024, 2048]⟩
abbrev S1024x64 : Shape := ⟨2, ![1024, 64]⟩
abbrev S1024x256 : Shape := ⟨2, ![1024, 256]⟩
abbrev S1024x9728 : Shape := ⟨2, ![1024, 9728]⟩
abbrev S_ : Shape := ⟨0, ![]⟩
abbrev S64x1 : Shape := ⟨2, ![64, 1]⟩
abbrev S1024x128 : Shape := ⟨2, ![1024, 128]⟩
abbrev S32768x1024 : Shape := ⟨2, ![32768, 1024]⟩
abbrev S1024 : Shape := ⟨1, ![1024]⟩
abbrev S32768x9728 : Shape := ⟨2, ![32768, 9728]⟩
abbrev S32768x128 : Shape := ⟨2, ![32768, 128]⟩
abbrev S1024x2432 : Shape := ⟨2, ![1024, 2432]⟩
abbrev S1024x1 : Shape := ⟨2, ![1024, 1]⟩

abbrev nBuf : Space → Nat
  | .hbm => 33
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x9792, .f32⟩
  | .hbm, ⟨3, _⟩ => ⟨S64, .i32⟩
  | .hbm, ⟨4, _⟩ => ⟨S64, .i1⟩
  | .hbm, ⟨5, _⟩ => ⟨S1024x9792, .f32⟩
  | .hbm, ⟨6, _⟩ => ⟨S1024x1024, .f32⟩
  | .hbm, ⟨7, _⟩ => ⟨S1024x1024, .f32⟩
  | .hbm, ⟨8, _⟩ => ⟨S1024x2048, .f32⟩
  | .hbm, ⟨9, _⟩ => ⟨S1024x2048, .f32⟩
  | .hbm, ⟨10, _⟩ => ⟨S1024x64, .f32⟩
  | .hbm, ⟨11, _⟩ => ⟨S1024x1024, .f32⟩
  | .hbm, ⟨12, _⟩ => ⟨S1024x256, .f32⟩
  | .hbm, ⟨13, _⟩ => ⟨S1024x256, .f32⟩
  | .hbm, ⟨14, _⟩ => ⟨S1024x1024, .f32⟩
  | .hbm, ⟨15, _⟩ => ⟨S1024x1024, .f32⟩
  | .hbm, ⟨16, _⟩ => ⟨S1024x9728, .f32⟩
  | .hbm, ⟨17, _⟩ => ⟨S1024x9728, .bf16⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S1024x64, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S32768x1024, .f32⟩
  | .hbm, ⟨29, _⟩ => ⟨S1024, .f32⟩
  | .hbm, ⟨30, _⟩ => ⟨S1x1024, .f32⟩
  | .hbm, ⟨31, _⟩ => ⟨S32768x9728, .bf16⟩
  | .hbm, ⟨32, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .bf16⟩
  | .local _ .vmem, ⟨5, _⟩ => ⟨S1024x128, .bf16⟩
  | .local _ .vmem, ⟨6, _⟩ => ⟨S1024x2432, .bf16⟩
  | .local _ .vmem, ⟨7, _⟩ => ⟨S1024x2432, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4x8192x1024 : Shape := ⟨3, ![4, 8192, 1024]⟩
abbrev S1x1024 : Shape := ⟨2, ![1, 1024]⟩
abbrev S1x1024x9792 : Shape := ⟨3, ![1, 1024, 9792]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x9792 : Shape := ⟨2, ![1024, 9792]⟩
abbrev S4x8192x9792 : Shape := ⟨3, ![4, 8192, 9792]⟩
abbrev S4x8192x2048 : Shape := ⟨3, ![4, 8192, 2048]⟩
abbrev S4x8192x64 : Shape := ⟨3, ![4, 8192, 64]⟩
abbrev S4x8192x256 : Shape := ⟨3, ![4, 8192, 256]⟩
abbrev S4x8192x9728 : Shape := ⟨3, ![4, 8192, 9728]⟩
abbrev S32768x2x2x8x2 : Shape := ⟨5, ![32768, 2, 2, 8, 2]⟩
abbrev S32768x8x2x2x2 : Shape := ⟨5, ![32768, 8, 2, 2, 2]⟩
abbrev S32768x64 : Shape := ⟨2, ![32768, 64]⟩
abbrev S32768x9728 : Shape := ⟨2, ![32768, 9728]⟩
abbrev S32768x128 : Shape := ⟨2, ![32768, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x9792, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x9792, .f32⟩
  | .hbm, ⟨21, _⟩ => ⟨S4x8192x9792, .f32⟩
  | .hbm, ⟨22, _⟩ => ⟨S4x8192x1024, .f32⟩
  | .hbm, ⟨23, _⟩ => ⟨S4x8192x1024, .f32⟩
  | .hbm, ⟨24, _⟩ => ⟨S4x8192x2048, .f32⟩
  | .hbm, ⟨25, _⟩ => ⟨S4x8192x2048, .f32⟩
  | .hbm, ⟨26, _⟩ => ⟨S4x8192x64, .f32⟩
  | .hbm, ⟨27, _⟩ => ⟨S4x8192x1024, .f32⟩
  | .hbm, ⟨28, _⟩ => ⟨S4x8192x256, .f32⟩
  | .hbm, ⟨29, _⟩ => ⟨S4x8192x256, .f32⟩
  | .hbm, ⟨30, _⟩ => ⟨S4x8192x1024, .f32⟩
  | .hbm, ⟨31, _⟩ => ⟨S4x8192x1024, .f32⟩
  | .hbm, ⟨32, _⟩ => ⟨S4x8192x9728, .f32⟩
  | .hbm, ⟨33, _⟩ => ⟨S32768x2x2x8x2, .f32⟩
  | .hbm, ⟨34, _⟩ => ⟨S32768x8x2x2x2, .f32⟩
  | .hbm, ⟨35, _⟩ => ⟨S32768x64, .f32⟩
  | .hbm, ⟨36, _⟩ => ⟨S32768x9728, .f32⟩
  | .hbm, ⟨37, _⟩ => ⟨S32768x9728, .bf16⟩
  | .hbm, ⟨38, _⟩ => ⟨S_, .i32⟩
  | .hbm, ⟨39, _⟩ => ⟨S_, .f32⟩
  | .hbm, ⟨40, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel4.lean ====
abbrev S16x32768x128 : Shape := ⟨3, ![16, 32768, 128]⟩
abbrev S32768x9728 : Shape := ⟨2, ![32768, 9728]⟩
abbrev S32768x1024 : Shape := ⟨2, ![32768, 1024]⟩
abbrev S1x128 : Shape := ⟨2, ![1, 128]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x32 : Shape := ⟨2, ![1024, 32]⟩
abbrev S1024x4 : Shape := ⟨2, ![1024, 4]⟩
abbrev S1024x36 : Shape := ⟨2, ![1024, 36]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S32 : Shape := ⟨1, ![32]⟩
abbrev S4 : Shape := ⟨1, ![4]⟩
abbrev S36 : Shape := ⟨1, ![36]⟩
abbrev S128 : Shape := ⟨1, ![128]⟩
abbrev S2048x1024 : Shape := ⟨2, ![2048, 1024]⟩
abbrev S1024x1024 : Shape := ⟨2, ![1024, 1024]⟩
abbrev S1024 : Shape := ⟨1, ![1024]⟩
abbrev S32768x128 : Shape := ⟨2, ![32768, 128]⟩
abbrev S16x256x128 : Shape := ⟨3, ![16, 256, 128]⟩
abbrev S256x2048 : Shape := ⟨2, ![256, 2048]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 47
  | .vmem => 27
  | .smem => 0
  | _ => 0

abbrev bufTy : (tb : Table) → Fin (tcTables nBuf tb) → BufTy
  | .hbm, ⟨0, _⟩ => ⟨S16x32768x128, .f32⟩
  | .hbm, ⟨1, _⟩ => ⟨S16x32768x128, .f32⟩
  | .hbm, ⟨2, _⟩ => ⟨S32768x9728, .bf16⟩
  | .hbm, ⟨3, _⟩ => ⟨S32768x1024, .bf16⟩
  | .hbm, ⟨4, _⟩ => ⟨S32768x1024, .f32⟩
  | .hbm, ⟨5, _⟩ => ⟨S1x128, .f32⟩
  | .hbm, ⟨6, _⟩ => ⟨S1x2048x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S1024x32, .f32⟩
  | .hbm, ⟨15, _⟩ => ⟨S1024x4, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1x1024x128, .bf16⟩
  | .hbm, ⟨25, _⟩ => ⟨S1x1024x128, .bf16⟩
  | .hbm, ⟨26, _⟩ => ⟨S2x1024x128, .bf16⟩
  | .hbm, ⟨27, _⟩ => ⟨S32, .f32⟩
  | .hbm, ⟨28, _⟩ => ⟨S4, .f32⟩
  | .hbm, ⟨29, _⟩ => ⟨S36, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S2048x1024, .f32⟩
  | .hbm, ⟨37, _⟩ => ⟨S2048x1024, .bf16⟩
  | .hbm, ⟨38, _⟩ => ⟨S1024x1024, .f32⟩
  | .hbm, ⟨39, _⟩ => ⟨S1024x1024, .bf16⟩
  | .hbm, ⟨40, _⟩ => ⟨S1024x1024, .f32⟩
  | .hbm, ⟨41, _⟩ => ⟨S1024x1024, .bf16⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S32768x1024, .bf16⟩
  | .hbm, ⟨46, _⟩ => ⟨S32768x128, .f32⟩
  | .local _ .vmem, ⟨0, _⟩ => ⟨S16x256x128, .f32⟩
  | .local _ .vmem, ⟨1, _⟩ => ⟨S16x256x128, .f32⟩
  | .local _ .vmem, ⟨2, _⟩ => ⟨S16x256x128, .f32⟩
  | .local _ .vmem, ⟨3, _⟩ => ⟨S16x256x128, .f32⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S2x1024x128, .bf16⟩
  | .local _ .vmem, ⟨20, _⟩ => ⟨S1x128, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x128, .f32⟩
  | .local _ .vmem, ⟨26, _⟩ => ⟨S256x128, .f32⟩
  | _, _ => ⟨S16x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16x32768x128 : Shape := ⟨3, ![16, 32768, 128]⟩
abbrev S32768x9728 : Shape := ⟨2, ![32768, 9728]⟩
abbrev S32768x1024 : Shape := ⟨2, ![32768, 1024]⟩
abbrev S1x128 : Shape := ⟨2, ![1, 128]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S32768x2048 : Shape := ⟨2, ![32768, 2048]⟩
abbrev S32768x16x128 : Shape := ⟨3, ![32768, 16, 128]⟩
abbrev S_ : Shape := ⟨0, ![]⟩
abbrev S32768x16 : Shape := ⟨2, ![32768, 16]⟩
abbrev S32768x16x1 : Shape := ⟨3, ![32768, 16, 1]⟩
abbrev S128 : Shape := ⟨1, ![128]⟩
abbrev S1x1x128 : Shape := ⟨3, ![1, 1, 128]⟩
abbrev S2048x1024 : Shape := ⟨2, ![2048, 1024]⟩
abbrev S1024x1024 : Shape := ⟨2, ![1024, 1024]⟩
abbrev S32768 : Shape := ⟨1, ![32768]⟩
abbrev S32768x1 : Shape := ⟨2, ![32768, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S16x32768x128, .f32⟩
  | .hbm, ⟨1, _⟩ => ⟨S16x32768x128, .f32⟩
  | .hbm, ⟨2, _⟩ => ⟨S32768x9728, .bf16⟩
  | .hbm, ⟨3, _⟩ => ⟨S32768x1024, .bf16⟩
  | .hbm, ⟨4, _⟩ => ⟨S32768x1024, .f32⟩
  | .hbm, ⟨5, _⟩ => ⟨S1x128, .f32⟩
  | .hbm, ⟨6, _⟩ => ⟨S1x2048x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S32768x9728, .f32⟩
  | .hbm, ⟨15, _⟩ => ⟨S32768x2048, .f32⟩
  | .hbm, ⟨16, _⟩ => ⟨S32768x1024, .f32⟩
  | .hbm, ⟨17, _⟩ => ⟨S32768x1024, .f32⟩
  | .hbm, ⟨18, _⟩ => ⟨S16x32768x128, .f32⟩
  | .hbm, ⟨19, _⟩ => ⟨S32768x16x128, .f32⟩
  | .hbm, ⟨20, _⟩ => ⟨S32768x16x128, .f32⟩
  | .hbm, ⟨21, _⟩ => ⟨S_, .f32⟩
  | .hbm, ⟨22, _⟩ => ⟨S32768x16, .f32⟩
  | .hbm, ⟨23, _⟩ => ⟨S32768x16x1, .f32⟩
  | .hbm, ⟨24, _⟩ => ⟨S_, .f32⟩
  | .hbm, ⟨25, _⟩ => ⟨S32768x16x1, .f32⟩
  | .hbm, ⟨26, _⟩ => ⟨S32768x16x1, .f32⟩
  | .hbm, ⟨27, _⟩ => ⟨S_, .f32⟩
  | .hbm, ⟨28, _⟩ => ⟨S32768x16x1, .f32⟩
  | .hbm, ⟨29, _⟩ => ⟨S32768x16x1, .f32⟩
  | .hbm, ⟨30, _⟩ => ⟨S32768x16x1, .f32⟩
  | .hbm, ⟨31, _⟩ => ⟨S32768x16x128, .f32⟩
  | .hbm, ⟨32, _⟩ => ⟨S32768x16x128, .f32⟩
  | .hbm, ⟨33, _⟩ => ⟨S128, .f32⟩
  | .hbm, ⟨34, _⟩ => ⟨S1x1x128, .f32⟩
  | .hbm, ⟨35, _⟩ => ⟨S32768x16x128, .f32⟩
  | .hbm, ⟨36, _⟩ => ⟨S32768x16x128, .f32⟩
  | .hbm, ⟨37, _⟩ => ⟨S32768x16x128, .f32⟩
  | .hbm, ⟨38, _⟩ => ⟨S32768x16x128, .f32⟩
  | .hbm, ⟨39, _⟩ => ⟨S32768x16x128, .f32⟩
  | .hbm, ⟨40, _⟩ => ⟨S_, .f32⟩
  | .hbm, ⟨41, _⟩ => ⟨S32768x16x128, .f32⟩
  | .hbm, ⟨42, _⟩ => ⟨S32768x16x128, .f32⟩
  | .hbm, ⟨43, _⟩ => ⟨S_, .f32⟩
  | .hbm, ⟨44, _⟩ => ⟨S32768x16x128, .f32⟩
  | .hbm, ⟨45, _⟩ => ⟨S32768x16x128, .f32⟩
  | .hbm, ⟨46, _⟩ => ⟨S32768x16x128, .f32⟩
  | .hbm, ⟨47, _⟩ => ⟨S32768x16x128, .f32⟩
  | .hbm, ⟨48, _⟩ => ⟨S32768x2048, .f32⟩
  | .hbm, ⟨49, _⟩ => ⟨S2048x1024, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S1024x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x1024, .f32⟩
  | .hbm, ⟨88, _⟩ => ⟨S32768x1024, .f32⟩
  | .hbm, ⟨89, _⟩ => ⟨S1024, .f32⟩
  | .hbm, ⟨90, _⟩ => ⟨S1x1024, .f32⟩
  | .hbm, ⟨91, _⟩ => ⟨S32768x1024, .f32⟩
  | .hbm, ⟨92, _⟩ => ⟨S32768x1024, .f32⟩
  | .hbm, ⟨93, _⟩ => ⟨S32768x1024, .bf16⟩
  | _, _ => ⟨S16x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Kernel5.lean ====
abbrev S32768x9728 : Shape := ⟨2, ![32768, 9728]⟩
abbrev S1x128 : Shape := ⟨2, ![1, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S128 : Shape := ⟨1, ![128]⟩
abbrev S128x1024x256 : Shape := ⟨3, ![128, 1024, 256]⟩
abbrev S32768x256 : Shape := ⟨2, ![32768, 256]⟩
abbrev S2x64x128x512 : Shape := ⟨4, ![2, 64, 128, 512]⟩
abbrev S512x1024 : Shape := ⟨2, ![512, 1024]⟩
abbrev S512x256 : Shape := ⟨2, ![512, 256]⟩
abbrev S512x128 : Shape := ⟨2, ![512, 128]⟩
abbrev S2x1024x256 : Shape := ⟨3, ![2, 1024, 256]⟩
abbrev S2x1x128x512 : Shape := ⟨4, ![2, 1, 128, 512]⟩
abbrev S512 : Shape := ⟨1, ![512]⟩
abbrev S512x1 : Shape := ⟨2, ![512, 1]⟩
abbrev S128x512 : Shape := ⟨2, ![128, 512]⟩
abbrev S128x256 : Shape := ⟨2, ![128, 256]⟩
abbrev S1x128x256 : Shape := ⟨3, ![1, 128, 256]⟩
abbrev S1x1x128x512 : Shape := ⟨4, ![1, 1, 128, 512]⟩

abbrev nBuf : Space → Nat
  | .hbm => 46
  | .vmem => 18
  | .smem => 0
  | _ => 0

abbrev bufTy : (tb : Table) → Fin (tcTables nBuf tb) → BufTy
  | .hbm, ⟨0, _⟩ => ⟨S32768x9728, .bf16⟩
  | .hbm, ⟨1, _⟩ => ⟨S1x128, .f32⟩
  | .hbm, ⟨2, _⟩ => ⟨S1x128, .f32⟩
  | .hbm, ⟨3, _⟩ => ⟨S8192, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x128, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x128, .f32⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S128x1024x256, .bf16⟩
  | .hbm, ⟨44, _⟩ => ⟨S32768x256, .bf16⟩
  | .hbm, ⟨45, _⟩ => ⟨S2x64x128x512, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S2x1024x256, .bf16⟩
  | .local _ .vmem, ⟨13, _⟩ => ⟨S2x1024x256, .bf16⟩
  | .local _ .vmem, ⟨14, _⟩ => ⟨S512x256, .bf16⟩
  | .local _ .vmem, ⟨15, _⟩ => ⟨S512x256, .bf16⟩
  | .local _ .vmem, ⟨16, _⟩ => ⟨S2x1x128x512, .bf16⟩
  | .local _ .vmem, ⟨17, _⟩ => ⟨S2x1x128x512, .bf16⟩
  | _, _ => ⟨S32768x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_2 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x9728 : Shape := ⟨2, ![32768, 9728]⟩
abbrev S1x128 : Shape := ⟨2, ![1, 128]⟩
abbrev S8192 : Shape := ⟨1, ![8192]⟩
abbrev S4x8192x9728 : Shape := ⟨3, ![4, 8192, 9728]⟩
abbrev S4x8192x1024 : Shape := ⟨3, ![4, 8192, 1024]⟩
abbrev S4x8192x8x128 : Shape := ⟨4, ![4, 8192, 8, 128]⟩
abbrev S4x8192x256 : Shape := ⟨3, ![4, 8192, 256]⟩
abbrev S4x8192x2x128 : Shape := ⟨4, ![4, 8192, 2, 128]⟩
abbrev S32 : Shape := ⟨1, ![32]⟩
abbrev S_ : Shape := ⟨0, ![]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x8x64 : Shape := ⟨4, ![4, 8192, 8, 64]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x8x32 : Shape := ⟨4, ![4, 8192, 8, 32]⟩
abbrev S1x8192x1x32 : Shape := ⟨4, ![1, 8192, 1, 32]⟩
abbrev S4x8192x2 : Shape := ⟨3, ![4, 8192, 2]⟩
abbrev S4x8192x2x1 : Shape := ⟨4, ![4, 8192, 2, 1]⟩
abbrev S4x8192x2x64 : Shape := ⟨4, ![4, 8192, 2, 64]⟩
abbrev S4x8192x2x32 : Shape := ⟨4, ![4, 8192, 2, 32]⟩
abbrev S128x256x1024 : Shape := ⟨3, ![128, 256, 1024]⟩
abbrev S128x1024x256 : Shape := ⟨3, ![128, 1024, 256]⟩
abbrev S64x512x2x128 : Shape := ⟨4, ![64, 512, 2, 128]⟩
abbrev S2x64x128x512 : Shape := ⟨4, ![2, 64, 128, 512]⟩
abbrev S32768x256 : Shape := ⟨2, ![32768, 256]⟩

abbrev nBuf : Space → Nat
  | .hbm => 179
  | .vmem => 0
  | .smem => 0
  | _ => 0

abbrev hbmTy0_0 (i : Nat) : BufTy := match i % 128 with
  | 0 => ⟨S32768x9728, .bf16⟩
  | 1 => ⟨S1x128, .f32⟩
  | 2 => ⟨S1x128, .f32⟩
  | 3 => ⟨S8192, .f32⟩
  | 4 => ⟨S8192, .f32⟩
  | 5 => ⟨S4x8192x9728, .bf16⟩
  | 6 => ⟨S4x8192x9728, .f32⟩
  | 7 => ⟨S4x8192x1024, .f32⟩
  | 8 => ⟨S4x8192x8x128, .f32⟩
  | 9 => ⟨S4x8192x256, .f32⟩
  | 10 => ⟨S4x8192x2x128, .f32⟩
  | 11 => ⟨S4x8192x256, .f32⟩
  | 12 => ⟨S4x8192x2x128, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S128, .f32⟩
  | 28 => ⟨S4x8192x8x128, .f32⟩
  | 29 => ⟨S_, .f32⟩
  | 30 => ⟨S4x8192x8, .f32⟩
  | 31 => ⟨S4x8192x8x1, .f32⟩
  | 32 => ⟨S_, .f32⟩
  | 33 => ⟨S4x8192x8x1, .f32⟩
  | 34 => ⟨S4x8192x8x1, .f32⟩
  | 35 => ⟨S_, .f32⟩
  | 36 => ⟨S4x8192x8x1, .f32⟩
  | 37 => ⟨S4x8192x8x1, .f32⟩
  | 38 => ⟨S4x8192x8x1, .f32⟩
  | 39 => ⟨S4x8192x8x128, .f32⟩
  | 40 => ⟨S4x8192x8x128, .f32⟩
  | 41 => ⟨S1x1x1x128, .f32⟩
  | 42 => ⟨S4x8192x8x128, .f32⟩
  | 43 => ⟨S4x8192x8x128, .f32⟩
  | 44 => ⟨S4x8192x8x64, .f32⟩
  | 45 => ⟨S8192x1, .f32⟩
  | 46 => ⟨S1x32, .f32⟩
  | 47 => ⟨S8192x32, .f32⟩
  | 48 => ⟨S8192x32, .f32⟩
  | 49 => ⟨S8192x32, .f32⟩
  | 50 => ⟨S8192x32, .f32⟩
  | 51 => ⟨S8192x1x32, .f32⟩
  | 52 => ⟨S8192x32, .f32⟩
  | 53 => ⟨S8192x1x32, .f32⟩
  | 54 => ⟨S4x8192x8x32, .f32⟩
  | 55 => ⟨S4x8192x8x32, .f32⟩
  | 56 => ⟨S1x8192x1x32, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S4x8192x8x32, .f32⟩
  | 63 => ⟨S1x8192x1x32, .f32⟩
  | 64 => ⟨S4x8192x8x32, .f32⟩
  | 65 => ⟨S4x8192x8x32, .f32⟩
  | 66 => ⟨S1x8192x1x32, .f32⟩
  | 67 => ⟨S4x8192x8x32, .f32⟩
  | 68 => ⟨S4x8192x8x32, .f32⟩
  | 69 => ⟨S4x8192x8x32, .f32⟩
  | 70 => ⟨S4x8192x8x64, .f32⟩
  | 71 => ⟨S4x8192x8x64, .f32⟩
  | 72 => ⟨S8192x1, .f32⟩
  | 73 => ⟨S1x32, .f32⟩
  | 74 => ⟨S8192x32, .f32⟩
  | 75 => ⟨S8192x32, .f32⟩
  | 76 => ⟨S8192x32, .f32⟩
  | 77 => ⟨S8192x32, .f32⟩
  | 78 => ⟨S8192x1x32, .f32⟩
  | 79 => ⟨S8192x32, .f32⟩
  | 80 => ⟨S8192x1x32, .f32⟩
  | 81 => ⟨S4x8192x8x32, .f32⟩
  | 82 => ⟨S4x8192x8x32, .f32⟩
  | 83 => ⟨S1x8192x1x32, .f32⟩
  | 84 => ⟨S4x8192x8x32, .f32⟩
  | 85 => ⟨S4x8192x8x32, .f32⟩
  | 86 => ⟨S1x8192x1x32, .f32⟩
  | 87 => ⟨S4x8192x8x32, .f32⟩
  | 88 => ⟨S4x8192x8x32, .f32⟩
  | 89 => ⟨S4x8192x8x32, .f32⟩
  | 90 => ⟨S1x8192x1x32, .f32⟩
  | 91 => ⟨S4x8192x8x32, .f32⟩
  | 92 => ⟨S4x8192x8x32, .f32⟩
  | 93 => ⟨S1x8192x1x32, .f32⟩
  | 94 => ⟨S4x8192x8x32, .f32⟩
  | 95 => ⟨S4x8192x8x32, .f32⟩
  | 96 => ⟨S4x8192x8x32, .f32⟩
  | 97 => ⟨S4x8192x8x64, .f32⟩
  | 98 => ⟨S4x8192x8x128, .f32⟩
  | 99 => ⟨S4x8192x8x128, .bf16⟩
  | 100 => ⟨S128, .f32⟩
  | 101 => ⟨S4x8192x2x128, .f32⟩
  | 102 => ⟨S_, .f32⟩
  | 103 => ⟨S4x8192x2, .f32⟩
  | 104 => ⟨S4x8192x2x1, .f32⟩
  | 105 => ⟨S_, .f32⟩
  | 106 => ⟨S4x8192x2x1, .f32⟩
  | 107 => ⟨S4x8192x2x1, .f32⟩
  | 108 => ⟨S_, .f32⟩
  | 109 => ⟨S4x8192x2x1, .f32⟩
  | 110 => ⟨S4x8192x2x1, .f32⟩
  | 111 => ⟨S4x8192x2x1, .f32⟩
  | 112 => ⟨S4x8192x2x128, .f32⟩
  | 113 => ⟨S4x8192x2x128, .f32⟩
  | 114 => ⟨S1x1x1x128, .f32⟩
  | 115 => ⟨S4x8192x2x128, .f32⟩
  | 116 => ⟨S4x8192x2x128, .f32⟩
  | 117 => ⟨S4x8192x2x64, .f32⟩
  | 118 => ⟨S8192x1, .f32⟩
  | 119 => ⟨S1x32, .f32⟩
  | 120 => ⟨S8192x32, .f32⟩
  | 121 => ⟨S8192x32, .f32⟩
  | 122 => ⟨S8192x32, .f32⟩
  | 123 => ⟨S8192x32, .f32⟩
  | 124 => ⟨S8192x1x32, .f32⟩
  | 125 => ⟨S8192x32, .f32⟩
  | 126 => ⟨S8192x1x32, .f32⟩
  | 127 => ⟨S4x8192x2x32, .f32⟩
  | _ => ⟨S32768x9728, .bf16⟩

abbrev hbmTy0_1 (i : Nat) : BufTy := match i % 128 with
  | 0 => ⟨S4x8192x2x32, .f32⟩
  | 1 => ⟨S1x8192x1x32, .f32⟩
  | 2 => ⟨S4x8192x2x32, .f32⟩
  | 3 => ⟨S4x8192x2x32, .f32⟩
  | 4 => ⟨S1x8192x1x32, .f32⟩
  | 5 => ⟨S4x8192x2x32, .f32⟩
  | 6 => ⟨S4x8192x2x32, .f32⟩
  | 7 => ⟨S4x8192x2x32, .f32⟩
  | 8 => ⟨S1x8192x1x32, .f32⟩
  | 9 => ⟨S4x8192x2x32, .f32⟩
  | 10 => ⟨S4x8192x2x32, .f32⟩
  | 11 => ⟨S1x8192x1x32, .f32⟩
  | 12 => ⟨S4x8192x2x32, .f32⟩
  | 13 => ⟨S4x8192x2x32, .f32⟩
  | 14 => ⟨S4x8192x2x32, .f32⟩
  | 15 => ⟨S4x8192x2x64, .f32⟩
  | 16 => ⟨S4x8192x2x64, .f32⟩
  | 17 => ⟨S8192x1, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S8192x1x32, .f32⟩
  | 24 => ⟨S8192x32, .f32⟩
  | 25 => ⟨S8192x1x32, .f32⟩
  | 26 => ⟨S4x8192x2x32, .f32⟩
  | 27 => ⟨S4x8192x2x32, .f32⟩
  | 28 => ⟨S1x8192x1x32, .f32⟩
  | 29 => ⟨S4x8192x2x32, .f32⟩
  | 30 => ⟨S4x8192x2x32, .f32⟩
  | 31 => ⟨S1x8192x1x32, .f32⟩
  | 32 => ⟨S4x8192x2x32, .f32⟩
  | 33 => ⟨S4x8192x2x32, .f32⟩
  | 34 => ⟨S4x8192x2x32, .f32⟩
  | 35 => ⟨S1x8192x1x32, .f32⟩
  | 36 => ⟨S4x8192x2x32, .f32⟩
  | 37 => ⟨S4x8192x2x32, .f32⟩
  | 38 => ⟨S1x8192x1x32, .f32⟩
  | 39 => ⟨S4x8192x2x32, .f32⟩
  | 40 => ⟨S4x8192x2x32, .f32⟩
  | 41 => ⟨S4x8192x2x32, .f32⟩
  | 42 => ⟨S4x8192x2x64, .f32⟩
  | 43 => ⟨S4x8192x2x128, .f32⟩
  | 44 => ⟨S4x8192x2x128, .bf16⟩
  | 45 => ⟨S128x256x1024, .bf16⟩
  | 46 => ⟨S128x1024x256, .bf16⟩
  | 47 => ⟨S4x8192x2x128, .bf16⟩
  | 48 => ⟨S64x512x2x128, .bf16⟩
  | 49 => ⟨S2x64x128x512, .bf16⟩
  | 50 => ⟨S32768x256, .bf16⟩
  | _ => ⟨S32768x9728, .bf16⟩

abbrev hbmTy (i : Nat) : BufTy := match i / 128 with
  | 0 => hbmTy0_0 i
  | 1 => hbmTy0_1 i
  | _ => ⟨S32768x9728, .bf16⟩

abbrev bufTy : (tb : Table) → Fin (tcTables nBuf tb) → BufTy
  | .hbm, ⟨i, _⟩ => hbmTy i
  | _, _ => ⟨S32768x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_6 : Ref sig .tc := ⟨.hbm, 102, rfl⟩
abbrev main_v90 : Ref sig .tc := ⟨.hbm, 103, rfl⟩
abbrev main_v91 : Ref sig .tc := ⟨.hbm, 104, rfl⟩
abbrev main_cst_7 : Ref sig .tc := ⟨.hbm, 105, rfl⟩
abbrev main_v92 : Ref sig .tc := ⟨.hbm, 106, rfl⟩
abbrev main_v93 : Ref sig .tc := ⟨.hbm, 107, rfl⟩
abbrev main_cst_8 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩

abbrev nD : Nat := 1
abbrev τ : Topo := Topo.v7x

variable {F : FTy → Type} [FloatOps F]
-- ==== Kernel6.lean ====
abbrev S16x9728 : Shape := ⟨2, ![16, 9728]⟩
abbrev S1x128 : Shape := ⟨2, ![1, 128]⟩
abbrev S16 : Shape := ⟨1, ![16]⟩
abbrev S32 : Shape := ⟨1, ![32]⟩
abbrev S_ : Shape := ⟨0, ![]⟩
abbrev S16x1 : Shape := ⟨2, ![16, 1]⟩
abbrev S1x32 : Shape := ⟨2, ![1, 32]⟩
abbrev S16x32 : Shape := ⟨2, ![16, 32]⟩
abbrev S16x128 : Shape := ⟨2, ![16, 128]⟩
abbrev S128 : Shape := ⟨1, ![128]⟩
abbrev S16x256 : Shape := ⟨2, ![16, 256]⟩

abbrev nBuf : Space → Nat
  | .hbm => 41
  | .vmem => 5
  | .smem => 0
  | _ => 0

abbrev bufTy : (tb : Table) → Fin (tcTables nBuf tb) → BufTy
  | .hbm, ⟨0, _⟩ => ⟨S16x9728, .bf16⟩
  | .hbm, ⟨1, _⟩ => ⟨S1x128, .f32⟩
  | .hbm, ⟨2, _⟩ => ⟨S16, .f32⟩
  | .hbm, ⟨3, _⟩ => ⟨S16, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16x1, .f32⟩
  | .hbm, ⟨19, _⟩ => ⟨S1x32, .f32⟩
  | .hbm, ⟨20, _⟩ => ⟨S16x32, .f32⟩
  | .hbm, ⟨21, _⟩ => ⟨S16x32, .f32⟩
  | .hbm, ⟨22, _⟩ => ⟨S16x32, .f32⟩
  | .hbm, ⟨23, _⟩ => ⟨S16x1, .f32⟩
  | .hbm, ⟨24, _⟩ => ⟨S1x32, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S16x32, .f32⟩
  | .hbm, ⟨29, _⟩ => ⟨S16x32, .f32⟩
  | .hbm, ⟨30, _⟩ => ⟨S16x128, .f32⟩
  | .hbm, ⟨31, _⟩ => ⟨S16x32, .f32⟩
  | .hbm, ⟨32, _⟩ => ⟨S16x32, .f32⟩
  | .hbm, ⟨33, _⟩ => ⟨S16x32, .f32⟩
  | .hbm, ⟨34, _⟩ => ⟨S16x32, .f32⟩
  | .hbm, ⟨35, _⟩ => ⟨S16x32, .f32⟩
  | .hbm, ⟨36, _⟩ => ⟨S16x32, .f32⟩
  | .hbm, ⟨37, _⟩ => ⟨S16x128, .f32⟩
  | .hbm, ⟨38, _⟩ => ⟨S128, .f32⟩
  | .hbm, ⟨39, _⟩ => ⟨S1x128, .f32⟩
  | .hbm, ⟨40, _⟩ => ⟨S16x256, .bf16⟩
  | .local _ .vmem, ⟨0, _⟩ => ⟨S16x256, .bf16⟩
  | .local _ .vmem, ⟨1, _⟩ => ⟨S16x128, .f32⟩
  | .local _ .vmem, ⟨2, _⟩ => ⟨S16x128, .f32⟩
  | .local _ .vmem, ⟨3, _⟩ => ⟨S1x128, .f32⟩
  | .local _ .vmem, ⟨4, _⟩ => ⟨S16x256, .bf16⟩
  | _, _ => ⟨S16x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c36_i32 : BitVec 32 := 36#32
  let c0_i32_0 : BitVec 32 := 0#32
  ![c0_i32.toNat, c36_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S16x9728 : Shape := ⟨2, ![16, 9728]⟩
abbrev S1x128 : Shape := ⟨2, ![1, 128]⟩
abbrev S16 : Shape := ⟨1, ![16]⟩
abbrev S16x256 : Shape := ⟨2, ![16, 256]⟩
abbrev S16x2x128 : Shape := ⟨3, ![16, 2, 128]⟩
abbrev S32 : Shape := ⟨1, ![32]⟩
abbrev S_ : Shape := ⟨0, ![]⟩
abbrev S128 : Shape := ⟨1, ![128]⟩
abbrev S16x2 : Shape := ⟨2, ![16, 2]⟩
abbrev S16x2x1 : Shape := ⟨3, ![16, 2, 1]⟩
abbrev S1x1x128 : Shape := ⟨3, ![1, 1, 128]⟩
abbrev S16x2x64 : Shape := ⟨3, ![16, 2, 64]⟩
abbrev S16x1 : Shape := ⟨2, ![16, 1]⟩
abbrev S1x32 : Shape := ⟨2, ![1, 32]⟩
abbrev S16x32 : Shape := ⟨2, ![16, 32]⟩
abbrev S16x1x32 : Shape := ⟨3, ![16, 1, 32]⟩
abbrev S16x2x32 : Shape := ⟨3, ![16, 2, 32]⟩

abbrev nBuf : Space → Nat
  | .hbm => 87
  | .vmem => 0
  | .smem => 0
  | _ => 0

abbrev bufTy : (tb : Table) → Fin (tcTables nBuf tb) → BufTy
  | .hbm, ⟨0, _⟩ => ⟨S16x9728, .bf16⟩
  | .hbm, ⟨1, _⟩ => ⟨S1x128, .f32⟩
  | .hbm, ⟨2, _⟩ => ⟨S16, .f32⟩
  | .hbm, ⟨3, _⟩ => ⟨S16, .f32⟩
  | .hbm, ⟨4, _⟩ => ⟨S16x9728, .f32⟩
  | .hbm, ⟨5, _⟩ => ⟨S16x256, .f32⟩
  | .hbm, ⟨6, _⟩ => ⟨S16x2x128, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S128, .f32⟩
  | .hbm, ⟨22, _⟩ => ⟨S16x2x128, .f32⟩
  | .hbm, ⟨23, _⟩ => ⟨S_, .f32⟩
  | .hbm, ⟨24, _⟩ => ⟨S16x2, .f32⟩
  | .hbm, ⟨25, _⟩ => ⟨S16x2x1, .f32⟩
  | .hbm, ⟨26, _⟩ => ⟨S_, .f32⟩
  | .hbm, ⟨27, _⟩ => ⟨S16x2x1, .f32⟩
  | .hbm, ⟨28, _⟩ => ⟨S16x2x1, .f32⟩
  | .hbm, ⟨29, _⟩ => ⟨S_, .f32⟩
  | .hbm, ⟨30, _⟩ => ⟨S16x2x1, .f32⟩
  | .hbm, ⟨31, _⟩ => ⟨S16x2x1, .f32⟩
  | .hbm, ⟨32, _⟩ => ⟨S16x2x1, .f32⟩
  | .hbm, ⟨33, _⟩ => ⟨S16x2x128, .f32⟩
  | .hbm, ⟨34, _⟩ => ⟨S16x2x128, .f32⟩
  | .hbm, ⟨35, _⟩ => ⟨S1x1x128, .f32⟩
  | .hbm, ⟨36, _⟩ => ⟨S16x2x128, .f32⟩
  | .hbm, ⟨37, _⟩ => ⟨S16x2x128, .f32⟩
  | .hbm, ⟨38, _⟩ => ⟨S16x2x64, .f32⟩
  | .hbm, ⟨39, _⟩ => ⟨S16x1, .f32⟩
  | .hbm, ⟨40, _⟩ => ⟨S1x32, .f32⟩
  | .hbm, ⟨41, _⟩ => ⟨S16x32, .f32⟩
  | .hbm, ⟨42, _⟩ => ⟨S16x32, .f32⟩
  | .hbm, ⟨43, _⟩ => ⟨S16x32, .f32⟩
  | .hbm, ⟨44, _⟩ => ⟨S16x32, .f32⟩
  | .hbm, ⟨45, _⟩ => ⟨S16x1x32, .f32⟩
  | .hbm, ⟨46, _⟩ => ⟨S16x32, .f32⟩
  | .hbm, ⟨47, _⟩ => ⟨S16x1x32, .f32⟩
  | .hbm, ⟨48, _⟩ => ⟨S16x2x32, .f32⟩
  | .hbm, ⟨49, _⟩ => ⟨S16x2x32, .f32⟩
  | .hbm, ⟨50, _⟩ => ⟨S16x2x32, .f32⟩
  | .hbm, ⟨51, _⟩ => ⟨S16x2x32, .f32⟩
  | .hbm, ⟨52, _⟩ => ⟨S16x2x32, .f32⟩
  | .hbm, ⟨53, _⟩ => ⟨S16x2x32, .f32⟩
  | .hbm, ⟨54, _⟩ => ⟨S16x2x32, .f32⟩
  | .hbm, ⟨55, _⟩ => ⟨S16x2x32, .f32⟩
  | .hbm, ⟨56, _⟩ => ⟨S16x2x32, .f32⟩
  | .hbm, ⟨57, _⟩ => ⟨S16x2x32, .f32⟩
  | .hbm, ⟨58, _⟩ => ⟨S16x2x32, .f32⟩
  | .hbm, ⟨59, _⟩ => ⟨S16x2x32, .f32⟩
  | .hbm, ⟨60, _⟩ => ⟨S16x2x64, .f32⟩
  | .hbm, ⟨61, _⟩ => ⟨S16x2x64, .f32⟩
  | .hbm, ⟨62, _⟩ => ⟨S16x1, .f32⟩
  | .hbm, ⟨63, _⟩ => ⟨S1x32, .f32⟩
  | .hbm, ⟨64, _⟩ => ⟨S16x32, .f32⟩
  | .hbm, ⟨65, _⟩ => ⟨S16x32, .f32⟩
  | .hbm, ⟨66, _⟩ => ⟨S16x32, .f32⟩
  | .hbm, ⟨67, _⟩ => ⟨S16x32, .f32⟩
  | .hbm, ⟨68, _⟩ => ⟨S16x1x32, .f32⟩
  | .hbm, ⟨69, _⟩ => ⟨S16x32, .f32⟩
  | .hbm, ⟨70, _⟩ => ⟨S16x1x32, .f32⟩
  | .hbm, ⟨71, _⟩ => ⟨S16x2x32, .f32⟩
  | .hbm, ⟨72, _⟩ => ⟨S16x2x32, .f32⟩
  | .hbm, ⟨73, _⟩ => ⟨S16x2x32, .f32⟩
  | .hbm, ⟨74, _⟩ => ⟨S16x2x32, .f32⟩
  | .hbm, ⟨75, _⟩ => ⟨S16x2x32, .f32⟩
  | .hbm, ⟨76, _⟩ => ⟨S16x2x32, .f32⟩
  | .hbm, ⟨77, _⟩ => ⟨S16x2x32, .f32⟩
  | .hbm, ⟨78, _⟩ => ⟨S16x2x32, .f32⟩
  | .hbm, ⟨79, _⟩ => ⟨S16x2x32, .f32⟩
  | .hbm, ⟨80, _⟩ => ⟨S16x2x32, .f32⟩
  | .hbm, ⟨81, _⟩ => ⟨S16x2x32, .f32⟩
  | .hbm, ⟨82, _⟩ => ⟨S16x2x32, .f32⟩
  | .hbm, ⟨83, _⟩ => ⟨S16x2x64, .f32⟩
  | .hbm, ⟨84, _⟩ => ⟨S16x2x128, .f32⟩
  | .hbm, ⟨85, _⟩ => ⟨S16x2x128, .bf16⟩
  | .hbm, ⟨86, _⟩ => ⟨S16x256, .bf16⟩
  | _, _ => ⟨S16x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== Proof.Flash.Run.lean ====
/-
  The flash attention body on any whole memrefs: run once from any contents of its five scratch buffers, it
  leaves the five input blocks as they were and the output block at the pieces the run finds.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop's invariant, the two values that the loop's region carries but never reads fixed at zeros. -/
@[sl_loop] def keyLoop
    (𝒱 : Variants) (c : Dev nD) (bd : Option 𝒱.V) (E : Set ℕ) (i : grid0.Coords) (arg3 : Memref sig .tc .vmem S1x512x256 .bf16) (harg3 : arg3.IsWhole)
    (arg4 : Memref sig .tc .vmem S1x8192x128 .bf16) (harg4 : arg4.IsWhole) (arg5 : Memref sig .tc .vmem S1x16x128x512 .bf16) (harg5 : arg5.IsWhole)
    (arg6 : Memref sig .tc .vmem S128x128 .bf16) (harg6 : arg6.IsWhole) (arg7 : Memref sig .tc .vmem S1x128x128 .bf16) (harg7 : arg7.IsWhole)
    (arg8 : Memref sig .tc .vmem S1x256x512 .bf16) (harg8 : arg8.IsWhole) (arg9 : Memref sig .tc .vmem S128x1024 .bf16) (harg9 : arg9.IsWhole)
    (arg10 : Memref sig .tc .vmem S512x1152 .f32) (harg10 : arg10.IsWhole) (arg11 : Memref sig .tc .vmem S512x1152 .f32) (harg11 : arg11.IsWhole)
    (arg12 : Memref sig .tc .vmem S1x1024 .f32) (harg12 : arg12.IsWhole) (arg13 : Memref sig .tc .vmem S144x1152 .f32) (harg13 : arg13.IsWhole)
    (X_arg4 : BufTy.Contents (Elt F) arg4.view.ty) (X_arg5 : BufTy.Contents (Elt F) arg5.view.ty) (X_arg9 : BufTy.Contents (Elt F) arg9.view.ty)
    (G_arg10 : BufTy.Contents (Elt F) arg10.view.ty) (G_arg11 : BufTy.Contents (Elt F) arg11.view.ty) (G_arg12 : BufTy.Contents (Elt F) arg12.view.ty)
    (G_arg13 : BufTy.Contents (Elt F) arg13.view.ty) :=
  loopInv_k0_t1 (F := F) 𝒱 c bd E i arg3 harg3 arg4 harg4 arg5 harg5 arg6 harg6 arg7 harg7 arg8 harg8 arg9 harg9 arg10 harg10 arg11 harg11 arg12
  harg12 arg13 harg13 (constant S144x128 .bf16 0#16) (constant S128x1024 .f32 0#32) X_arg4 X_arg5 X_arg9 G_arg10 G_arg11 G_arg12 G_arg13

set_option maxHeartbeats 4000000 in
/-- The pieces the body leaves in the output block, with the triple: the inputs at their blocks `x0 … x4`, the scratch at
    any contents `f9 … f13`, the output at anything. -/
noncomputable def kernelRun (c : Dev nD) (i : grid0.Coords)
    (arg3 : Memref sig .tc .vmem S1x512x256 .bf16) (harg3 : arg3.IsWhole) (arg4 : Memref sig .tc .vmem S1x8192x128 .bf16) (harg4 : arg4.IsWhole)
    (arg5 : Memref sig .tc .vmem S1x16x128x512 .bf16) (harg5 : arg5.IsWhole) (arg6 : Memref sig .tc .vmem S128x128 .bf16) (harg6 : arg6.IsWhole)
    (arg7 : Memref sig .tc .vmem S1x128x128 .bf16) (harg7 : arg7.IsWhole) (arg8 : Memref sig .tc .vmem S1x256x512 .bf16) (harg8 : arg8.IsWhole)
    (arg9 : Memref sig .tc .vmem S128x1024 .bf16) (harg9 : arg9.IsWhole) (arg10 : Memref sig .tc .vmem S512x1152 .f32) (harg10 : arg10.IsWhole)
    (arg11 : Memref sig .tc .vmem S512x1152 .f32) (harg11 : arg11.IsWhole) (arg12 : Memref sig .tc .vmem S1x1024 .f32) (harg12 : arg12.IsWhole)
    (arg13 : Memref sig .tc .vmem S144x1152 .f32) (harg13 : arg13.IsWhole)
    (x0 : Vec F S1x512x256 .bf16) (x1 : Vec F S1x8192x128 .bf16) (x2 : Vec F S1x16x128x512 .bf16) (x3 : Vec F S128x128 .bf16) (x4 : Vec F S1x128x128 .bf16)
    (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    { L8 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (arg9.view.loc (c : Thread nD τ) ↦[arg9.view.set]{fullShare} f9) ∗ (arg10.view.loc (c : Thread nD τ) ↦[arg10.view.set]{fullShare} f10)
            ∗ (arg11.view.loc (c : Thread nD τ) ↦[arg11.view.set]{fullShare} f11) ∗ (arg12.view.loc (c : Thread nD τ) ↦[arg12.view.set]{fullShare} f12)
            ∗ (arg13.view.loc (c : Thread nD τ) ↦[arg13.view.set]{fullShare} f13)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L8)
                ∗ (∃ f, arg9.view.loc (c : Thread nD τ) ↦[arg9.view.set]{fullShare} f) ∗ (∃ f, arg10.view.loc (c : Thread nD τ) ↦[arg10.view.set]{fullShare} f)
                ∗ (∃ f, arg11.view.loc (c : Thread nD τ) ↦[arg11.view.set]{fullShare} f) ∗ (∃ f, arg12.view.loc (c : Thread nD τ) ↦[arg12.view.set]{fullShare} f)
                ∗ (∃ f, arg13.view.loc (c : Thread nD τ) ↦[arg13.view.set]{fullShare} f)) -∗ K ⟨⟩))
          ⊢ wp frame (wpE (defs₀ (F := F)) Variants.none c none) E
              (cc0_flash_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold owns
    iintro ⟨⟨%g0, %hg0, H0⟩, ⟨%g1, %hg1, H1⟩, ⟨%g2, %hg2, H2⟩, ⟨%g3, %hg3, H3⟩, ⟨%g4, %hg4, H4⟩, ⟨%d5, %g5, -, H5⟩, H9, H10, H11, H12, H13, Hk⟩
    obtain rfl := harg3.eq_unread hg0; obtain rfl := harg4.eq_unread hg1; obtain rfl := harg5.eq_unread hg2; obtain rfl := harg6.eq_unread hg3; obtain rfl := harg7.eq_unread hg4
    sl_unfold [cc0_flash_attn]
    sl_exec!
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [H9]
    · iexists _; iexact H9
    isplitl [H10]
    · iexists _; iexact H10
    isplitl [H11]
    · iexists _; iexact H11
    isplitl [H12]
    · iexists _; iexact H12
    iexists _; iexact H13

end Cert.Proof.Flash

end
-- ==== Proof.Flash.Frame.lean ====
/-
  The launch of the flash attention kernel, from any memory: every argument array ends as it was. At every grid point
  the body runs from whatever the point before left in the scratch; nothing is said here of what it leaves in the output.
-/
module

public import proofs.«01_k».proof.Proof.Flash.Run

@[expose] public section

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging memrefs at a point, and that each is whole. -/
abbrev ms0 (t : Fin cfg0.N) : Memref sig .tc .vmem S1x512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x512 .bf16 := win0_5.stage (cfg0.slots t 5)
abbrev hs5 (t : Fin cfg0.N) : (ms5 t).IsWhole := hstage0_5 ((cfg0.slots t 5).cast nbuf0_5)

/-- The pieces the body leaves in the output block at point `t`, from scratch contents `f9 … f13`. -/
abbrev pieces (c : Dev nD) (t : Fin cfg0.N) (x0 : Vec F S1x512x256 .bf16) (x1 : Vec F S1x8192x128 .bf16) (x2 : Vec F S1x16x128x512 .bf16)
    (x3 : Vec F S128x128 .bf16) (x4 : Vec F S1x128x128 .bf16)
    (f9 : (Memref.whole cc0_scratch0).view.ty.Contents (Elt F)) (f10 : (Memref.whole cc0_scratch1).view.ty.Contents (Elt F))
    (f11 : (Memref.whole cc0_scratch2).view.ty.Contents (Elt F)) (f12 : (Memref.whole cc0_scratch3).view.ty.Contents (Elt F))
    (f13 : (Memref.whole cc0_scratch4).view.ty.Contents (Elt F)) : List (View.Piece (Elt F) S1x256x512 .bf16) :=
  (kernelRun c (grid0.coords t) (ms0 t) (hs0 t) (ms1 t) (hs1 t) (ms2 t) (hs2 t) (ms3 t) (hs3 t) (ms4 t) (hs4 t) (ms5 t) (hs5 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) x0 x1 x2 x3 x4 f9 f10 f11 f12 f13).1

/-- What the body may leave in the output block at point `t`: its pieces written over some contents, from some scratch. -/
def Leaves (c : Dev nD) (t : Fin cfg0.N) (x0 : Vec F S1x512x256 .bf16) (x1 : Vec F S1x8192x128 .bf16) (x2 : Vec F S1x16x128x512 .bf16)
    (x3 : Vec F S128x128 .bf16) (x4 : Vec F S1x128x128 .bf16) (X : Vec F S1x256x512 .bf16) : Prop :=
  ∃ f8 f9 f10 f11 f12 f13, X = (ms5 t).view.read (Elt F) ((ms5 t).view.writes (Elt F) f8 (pieces c t x0 x1 x2 x3 x4 f9 f10 f11 f12 f13))

/-- The body at a point: from the class invariant (the scratch at some contents) and the blocks, back to both. -/
theorem body_wp (c : Dev nD) (t : Fin cfg0.N) (x0 : Vec F S1x512x256 .bf16) (x1 : Vec F S1x8192x128 .bf16) (x2 : Vec F S1x16x128x512 .bf16)
    (x3 : Vec F S128x128 .bf16) (x4 : Vec F S1x128x128 .bf16) (K : PUnit → sProp 𝕄) :
    iprop(Pipeline.ΦA spec0 c ∗ owns (c : Thread nD τ) (ms0 t) fullShare x0 ∗ owns (c : Thread nD τ) (ms1 t) fullShare x1
        ∗ owns (c : Thread nD τ) (ms2 t) fullShare x2 ∗ owns (c : Thread nD τ) (ms3 t) fullShare x3 ∗ owns (c : Thread nD τ) (ms4 t) fullShare x4
        ∗ (∃ d, owns (c : Thread nD τ) (ms5 t) fullShare d)
        ∗ (iprop(Pipeline.ΦA spec0 c ∗ owns (c : Thread nD τ) (ms0 t) fullShare x0 ∗ owns (c : Thread nD τ) (ms1 t) fullShare x1
            ∗ owns (c : Thread nD τ) (ms2 t) fullShare x2 ∗ owns (c : Thread nD τ) (ms3 t) fullShare x3 ∗ owns (c : Thread nD τ) (ms4 t) fullShare x4
            ∗ (∃ X, ⌜Leaves c t x0 x1 x2 x3 x4 X⌝ ∗ owns (c : Thread nD τ) (ms5 t) fullShare X)) -∗ K ⟨⟩))
      ⊢ wp frame (wpE (defs₀ (F := F)) Variants.none c none) Set.univ (bodyAt0 t) K := by
  unfold Pipeline.ΦA
  rw [scopedRest0_eq]
  iintro ⟨⟨⟨⟨%f9, H9⟩, ⟨%f10, H10⟩, ⟨%f11, H11⟩, ⟨%f12, H12⟩, ⟨%f13, H13⟩⟩, Hp⟩, H0, H1, H2, H3, H4, H5, Hk⟩
  iapply ((kernelRun c (grid0.coords t) (ms0 t) (hs0 t) (ms1 t) (hs1 t) (ms2 t) (hs2 t) (ms3 t) (hs3 t) (ms4 t) (hs4 t) (ms5 t) (hs5 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) x0 x1 x2 x3 x4 f9 f10 f11 f12 f13).2 Set.univ _)
  simp only [Memref.view_whole, View.set_whole]
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  iintro ⟨H0, H1, H2, H3, H4, ⟨%f8, H5⟩, H9, H10, H11, H12, H13⟩
  iapply Hk
  isplitl [H9 H10 H11 H12 H13 Hp]
  · isplitr [Hp]
    · isplitl [H9]; · iexact H9
      isplitl [H10]; · iexact H10
      isplitl [H11]; · iexact H11
      isplitl [H12]; · iexact H12
      iexact H13
    · iexact Hp
  isplitl [H0]; · iexact H0
  isplitl [H1]; · iexact H1
  isplitl [H2]; · iexact H2
  isplitl [H3]; · iexact H3
  isplitl [H4]; · iexact H4
  iexists _; isplitr
  swap
  · unfold owns; iexists _; isplitr; swap
    · iexact H5
    ipureintro; rfl
  ipureintro; exact ⟨f8, f9, f10, f11, f12, f13, rfl⟩

/-! ## The frame: the output forgotten -/

/-- The output is the one window of which nothing is said. -/
def forgets : Fin 6 → Bool := fun w => decide (w = 5)

/-- The arrays as the region finds them; each input left at its block, the output unnamed; the scratch at some contents. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem fA_eq (c : Dev nD) (w : Fin cfg0.W) : (fdats m 0 c).A w = V m c (Pipeline.arrRef spec0 w) := by dsimp only [fdats]
theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fafter4 (c : Dev nD) (t : Fin cfg0.N) : (fdats m 0 c).after 4 t = iblk m c 4 t := by dsimp only [fdats]
theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d
theorem fbefore4 (c : Dev nD) (t : Fin cfg0.N) (d) : (fdats m 0 c).before 4 t d = iblk m c 4 t :=
  before0_4_of m (fdats m 0 c) (fA_eq m c 4) (fafter4 m c) t d

theorem defs₀_row (t : Fin cfg0.N) : defs₀ (F := F) .tc cfg0.body (cfg0.bodyArgs t (cfg0.slots t)) = bodyAt0 t := by
  unfold defs₀; rw [Defs.onTc_tc]

/-- The body's triple at a point, the output at anything on both sides. -/
theorem fsound (c : Dev nD) (t : Fin cfg0.N) :
    iprop((fdats (F := F) m 0 c).Φ t.castSucc ∗ (fdats m 0 c).owesAt () t.castSucc
        ∗ (∃ d, owns (c : Thread nD τ) (ms0 t) fullShare ((fdats m 0 c).before 0 t d))
        ∗ (∃ d, owns (c : Thread nD τ) (ms1 t) fullShare ((fdats m 0 c).before 1 t d))
        ∗ (∃ d, owns (c : Thread nD τ) (ms2 t) fullShare ((fdats m 0 c).before 2 t d))
        ∗ (∃ d, owns (c : Thread nD τ) (ms3 t) fullShare ((fdats m 0 c).before 3 t d))
        ∗ (∃ d, owns (c : Thread nD τ) (ms4 t) fullShare ((fdats m 0 c).before 4 t d))
        ∗ (∃ X, owns (c : Thread nD τ) (ms5 t) fullShare X))
      ⊢ wp frame (wpE (defs₀ (F := F)) Variants.none c none) Set.univ (bodyAt0 t) (fun _ =>
        iprop((fdats m 0 c).Φ t.succ ∗ (fdats m 0 c).owesAt () t.succ
          ∗ owns (c : Thread nD τ) (ms0 t) fullShare ((fdats m 0 c).after 0 t)
          ∗ owns (c : Thread nD τ) (ms1 t) fullShare ((fdats m 0 c).after 1 t)
          ∗ owns (c : Thread nD τ) (ms2 t) fullShare ((fdats m 0 c).after 2 t)
          ∗ owns (c : Thread nD τ) (ms3 t) fullShare ((fdats m 0 c).after 3 t)
          ∗ owns (c : Thread nD τ) (ms4 t) fullShare ((fdats m 0 c).after 4 t)
          ∗ (∃ X, owns (c : Thread nD τ) (ms5 t) fullShare X))) := by
  simp only [fbefore0, fbefore1, fbefore2, fbefore3, fbefore4]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl,
    fafter0, fafter1, fafter2, fafter3, fafter4]
  iintro ⟨HΦ, Ho, ⟨%d0, H0⟩, ⟨%d1, H1⟩, ⟨%d2, H2⟩, ⟨%d3, H3⟩, ⟨%d4, H4⟩, H5⟩
  iapply (body_wp c t (iblk m c 0 t) (iblk m c 1 t) (iblk m c 2 t) (iblk m c 3 t) (iblk m c 4 t))
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iintro ⟨HΦ, H0, H1, H2, H3, H4, ⟨%X, -, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

theorem fbody_obligation (c : Dev nD) : BodyObligation (fdats (F := F) m 0 c) (defs₀ (F := F)) Variants.none () Set.univ forgets := fun t => by
  rw [bigSep_W0, bigSep_W0, defs₀_row]
  exact triple_restated (fsound m c t) rfl .rfl fun _ => .rfl

-- the library's implicit arguments are found by unifying its conclusion with this one
set_option backward.isDefEq.respectTransparency.types false in
theorem frun_main : θ_run defs (onTc (τ := τ) (main (F := F))) (s₀ m ρ)
    (fun r => Pipeline.RDat.FramePost (cfgs 0) (fun c => (fdats m 0 c).toRForget forgets) (V m) r ∧ r.2.sem = fun _ => 0) :=
  Pipeline.θ_run_frame_forget (Q' := _) cfgs (fdats m) (0 : Fin 1) launch0 defs₀ Variants.none forgets m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: from any memory the launch ends with every argument array as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (frun_main m ρ)

end Cert.Proof.Flash

end
-- ==== Proof.FlashBits.Run.lean ====
/-
  The flash attention body on any whole memrefs: run once from any contents of its five scratch buffers, it
  leaves the five input blocks as they were and the output block at the pieces the run finds.
-/
module

public import proofs.«01_k».proof.Proof.Gen.Kernel.Frame
public import proofs.«01_k».proof.Proof.Gen.Kernel.Loops
public import proofs.«01_k».proof.Proof.Gen.Kernel.Points
public import Idealize.ShloMosaic.Lib.Tactic

@[expose] public section

noncomputable section

namespace Cert.Proof.FlashBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The pieces the body leaves in the output block, with the triple: the inputs at their blocks `x0 … x4`, the scratch at
    any contents `f9 … f13`, the output at anything. -/
noncomputable def kernelRun (c : Dev nD) (i : grid0.Coords)
    (arg3 : Memref sig .tc .vmem S1x512x256 .bf16) (harg3 : arg3.IsWhole) (arg4 : Memref sig .tc .vmem S1x8192x128 .bf16) (harg4 : arg4.IsWhole)
    (arg5 : Memref sig .tc .vmem S1x16x128x512 .bf16) (harg5 : arg5.IsWhole) (arg6 : Memref sig .tc .vmem S128x128 .bf16) (harg6 : arg6.IsWhole)
    (arg7 : Memref sig .tc .vmem S1x128x128 .bf16) (harg7 : arg7.IsWhole) (arg8 : Memref sig .tc .vmem S1x256x512 .bf16) (harg8 : arg8.IsWhole)
    (arg9 : Memref sig .tc .vmem S128x1024 .bf16) (harg9 : arg9.IsWhole) (arg10 : Memref sig .tc .vmem S512x1152 .f32) (harg10 : arg10.IsWhole)
    (arg11 : Memref sig .tc .vmem S512x1152 .f32) (harg11 : arg11.IsWhole) (arg12 : Memref sig .tc .vmem S1x1024 .f32) (harg12 : arg12.IsWhole)
    (arg13 : Memref sig .tc .vmem S144x1152 .f32) (harg13 : arg13.IsWhole)
    (x0 : Vec F S1x512x256 .bf16) (x1 : Vec F S1x8192x128 .bf16) (x2 : Vec F S1x16x128x512 .bf16) (x3 : Vec F S128x128 .bf16) (x4 : Vec F S1x128x128 .bf16)
    (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) :
    { L8 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (arg9.view.loc (c : Thread nD τ) ↦[arg9.view.set]{fullShare} f9) ∗ (arg10.view.loc (c : Thread nD τ) ↦[arg10.view.set]{fullShare} f10)
            ∗ (arg11.view.loc (c : Thread nD τ) ↦[arg11.view.set]{fullShare} f11) ∗ (arg12.view.loc (c : Thread nD τ) ↦[arg12.view.set]{fullShare} f12)
            ∗ (arg13.view.loc (c : Thread nD τ) ↦[arg13.view.set]{fullShare} f13)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L8)
                ∗ (∃ f, arg9.view.loc (c : Thread nD τ) ↦[arg9.view.set]{fullShare} f) ∗ (∃ f, arg10.view.loc (c : Thread nD τ) ↦[arg10.view.set]{fullShare} f)
                ∗ (∃ f, arg11.view.loc (c : Thread nD τ) ↦[arg11.view.set]{fullShare} f) ∗ (∃ f, arg12.view.loc (c : Thread nD τ) ↦[arg12.view.set]{fullShare} f)
                ∗ (∃ f, arg13.view.loc (c : Thread nD τ) ↦[arg13.view.set]{fullShare} f)) -∗ K ⟨⟩))
          ⊢ wp frame (wpE (defs₀ (F := F)) Variants.none c none) E
              (cc0_flash_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold owns
    iintro ⟨⟨%g0, %hg0, H0⟩, ⟨%g1, %hg1, H1⟩, ⟨%g2, %hg2, H2⟩, ⟨%g3, %hg3, H3⟩, ⟨%g4, %hg4, H4⟩, ⟨%d5, %g5, -, H5⟩, H9, H10, H11, H12, H13, Hk⟩
    obtain rfl := harg3.eq_unread hg0; obtain rfl := harg4.eq_unread hg1; obtain rfl := harg5.eq_unread hg2; obtain rfl := harg6.eq_unread hg3; obtain rfl := harg7.eq_unread hg4
    sl_unfold [cc0_flash_attn]
    sl_exec!
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [H9]
    · iexists _; iexact H9
    isplitl [H10]
    · iexists _; iexact H10
    isplitl [H11]
    · iexists _; iexact H11
    isplitl [H12]
    · iexists _; iexact H12
    iexists _; iexact H13

end Cert.Proof.FlashBits

end
-- ==== Proof.Moe.Blocks.lean ====
/-
  What one grid point of the expert kernel computes, read at an index, in terms of the arrays the call was given.

  The grid is 16 token tiles by 32 experts. Point `t` works on token tile `t / 32` and expert `t % 32`. Each window's
  block is read here through to the argument array it was cut from (`iblk*_apply`), and the addend of one point
  (`Gen.k0_pay4`) becomes one expert's weighted output at one token (`addend`).
-/
module

public import proofs.«01_k».proof.Defs
public import proofs.«01_k».proof.Proof.Gen.Kernel2Ideal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Proof.Moe

open Cert.Kernel2Ideal Cert.Kernel2Ideal.Gen

/-- One expert's gate or up projection of one token: column `f` of expert `e`'s weights against row `R` of `xn`. -/
def proj (xn : FVec Ideal S32768x1024 .f32) (w : FVec Ideal S1x32x1024x256 .f32) (R : Fin 32768) (e : Fin 32) (f : Fin 256) : EReal :=
  ∑ k : Fin 1024, w (ix4 0 e k f) * xn (ix2 R k)

/-- One expert's weighted output at token `R`, feature `l`: the routing weight times the down projection of
    `silu(gate) * up`. -/
def addend (xn : FVec Ideal S32768x1024 .f32) (cw : FVec Ideal S32768x32 .f32) (wg wu : FVec Ideal S1x32x1024x256 .f32)
    (wd : FVec Ideal S1x32x256x1024 .f32) (R : Fin 32768) (e : Fin 32) (l : Fin 1024) : EReal :=
  cw (ix2 R e) * ∑ f : Fin 256,
    (proj xn wg R e f * Ideal.div 1 (1 + Ideal.exp (-proj xn wg R e f)) * proj xn wu R e f) * wd (ix4 0 e f l)

/-- The routing weights padded to a full register of lanes. -/
def padded (cw : FVec Ideal S32768x32 .f32) : FVec Ideal S32768x128 .f32 :=
  pad S32768x128 ![0, 0] ![0, 96] ![0, 0] cw (sitofp (F := Ideal) .f32 (constantI S_ 32 0#32)) pads_S32768x32_S32768x128_000_0960 h_S_

theorem padded_apply (cw : FVec Ideal S32768x32 .f32) (R : Fin 32768) (e : Fin 32) :
    padded cw (ix2 R ⟨e.val, by omega⟩) = cw (ix2 R e) := by
  have he := e.isLt
  unfold padded
  pointwise

/-- The gate and up weights side by side. -/
def gateUp (wg wu : FVec Ideal S1x32x1024x256 .f32) : FVec Ideal S32x1024x512 .bf16 :=
  truncf .bf16 (concatenate S32x1024x512 2
    [⟨S32x1024x256, shapeCast S32x1024x256 wg shapeCasts_S1x32x1024x256_S32x1024x256⟩,
     ⟨S32x1024x256, shapeCast S32x1024x256 wu shapeCasts_S1x32x1024x256_S32x1024x256⟩]
    concatenates_S32x1024x256_S32x1024x256_S32x1024x512_d2 : FVec Ideal S32x1024x512 .f32) bitsLt_bf16_f32

theorem gateUp_left (wg wu : FVec Ideal S1x32x1024x256 .f32) (e : Fin 32) (k : Fin 1024) (f : Fin 256) (h : f.val < 512) :
    gateUp wg wu (ix3 e k ⟨f.val, h⟩) = wg (ix4 0 e k f) := by
  have hf := f.isLt
  unfold gateUp
  pointwise

theorem gateUp_right (wg wu : FVec Ideal S1x32x1024x256 .f32) (e : Fin 32) (k : Fin 1024) (f : Fin 256) (h : 256 + f.val < 512) :
    gateUp wg wu (ix3 e k ⟨256 + f.val, h⟩) = wu (ix4 0 e k f) := by
  have hf := f.isLt
  unfold gateUp
  pointwise

variable (m : (ℓ : Loc nD τ sig) → Buf (Elt Ideal) ℓ) (c : Dev nD)

/-- The call's arguments, as arrays. -/
abbrev aXn : FVec Ideal S32768x1024 .f32 := m ((c : Thread nD τ).loc main_arg0)
abbrev aCw : FVec Ideal S32768x32 .f32 := m ((c : Thread nD τ).loc main_arg1)
abbrev aH : FVec Ideal S32768x1024 .f32 := m ((c : Thread nD τ).loc main_arg2)
abbrev aWg : FVec Ideal S1x32x1024x256 .f32 := m ((c : Thread nD τ).loc main_arg3)
abbrev aWu : FVec Ideal S1x32x1024x256 .f32 := m ((c : Thread nD τ).loc main_arg4)
abbrev aWd : FVec Ideal S1x32x256x1024 .f32 := m ((c : Thread nD τ).loc main_arg5)
abbrev aNf : FVec Ideal S1024 .f32 := m ((c : Thread nD τ).loc main_arg6)

/-! ## The arrays the windows are cut from, after the host operations -/

theorem V_v0 : (V m c main_v0 : Vec Ideal S32768x128 .f32) = padded (aCw m c) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v4 : (V m c main_v4 : Vec Ideal S32x1024x512 .bf16) = gateUp (aWg m c) (aWu m c) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v6 : (V m c main_v6 : Vec Ideal S32x256x1024 .bf16) = fun i => shapeCast S32x256x1024 (aWd m c) shapeCasts_S1x32x256x1024_S32x256x1024 i := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v7 : (V m c main_v7 : Vec Ideal S32768x1024 .bf16) = fun i => aXn m c i := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v8 : (V m c main_v8 : Vec Ideal S1x1024 .f32) = broadcastInDim S1x1024 ![1] bcast_S1024_S1x1024_1 (aNf m c) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  try rfl

/-! ## The blocks at a grid point -/

/-- The printed index maps over the grid. -/
theorem idx_facts : ∀ t : Fin cfg0.N, (grid0.coords t 1).val = t.val % 32
    ∧ (win0_0.index t (0 : Fin 2) = t.val / 32 ∧ win0_0.index t (1 : Fin 2) = 0)
    ∧ (win0_1.index t (0 : Fin 2) = t.val / 32 ∧ win0_1.index t (1 : Fin 2) = 0)
    ∧ (win0_2.index t (0 : Fin 2) = t.val / 32 ∧ win0_2.index t (1 : Fin 2) = 0)
    ∧ (win0_3.index t (0 : Fin 3) = t.val % 32 ∧ win0_3.index t (1 : Fin 3) = 0 ∧ win0_3.index t (2 : Fin 3) = 0)
    ∧ (win0_4.index t (0 : Fin 3) = t.val % 32 ∧ win0_4.index t (1 : Fin 3) = 0 ∧ win0_4.index t (2 : Fin 3) = 0)
    ∧ (win0_5.index t (0 : Fin 2) = 0 ∧ win0_5.index t (1 : Fin 2) = 0) :=
  (by decide +kernel : ∀ t : Fin grid0.N, _)

theorem N_eq : cfg0.N = 512 := N_0

/-- Row `r` of point `t`'s token tile, as a token. -/
def tok (t : Fin cfg0.N) (r : Fin 2048) : Fin 32768 :=
  ⟨t.val / 32 * 2048 + r.val, by have := t.isLt; have := N_eq; omega⟩
/-- Point `t`'s expert. -/
def ex (t : Fin cfg0.N) : Fin 32 := ⟨t.val % 32, by omega⟩

theorem iblk0_apply (t : Fin cfg0.N) (r : Fin 2048) (k : Fin 1024) :
    (iblk m c 0 t : Vec Ideal S2048x1024 .bf16) (ix2 r k) = aXn m c (ix2 (tok t r) k) := by
  obtain ⟨-, ⟨e0, e1⟩, -⟩ := idx_facts t
  refine Eq.trans ?_ (congrFun (V_v7 m c) (ix2 (tok t r) k))
  unfold iblk
  rw [View.read_apply]
  show V m c main_v7 _ = V m c main_v7 _
  congr 1; funext a; apply Fin.ext
  match a with
  | ⟨0, _⟩ => show win0_0.index t 0 * 2048 + 1 * r.val = _; rw [e0]; simp [tok, ix2]
  | ⟨1, _⟩ => show win0_0.index t 1 * 1024 + 1 * k.val = k.val; rw [e1]; omega

theorem iblk1_apply (t : Fin cfg0.N) (r : Fin 2048) (k : Fin 128) :
    (iblk m c 1 t : Vec Ideal S2048x128 .f32) (ix2 r k) = padded (aCw m c) (ix2 (tok t r) k) := by
  obtain ⟨-, -, ⟨e0, e1⟩, -⟩ := idx_facts t
  refine Eq.trans ?_ (congrFun (V_v0 m c) (ix2 (tok t r) k))
  unfold iblk
  rw [View.read_apply]
  show V m c main_v0 _ = V m c main_v0 _
  congr 1; funext a; apply Fin.ext
  match a with
  | ⟨0, _⟩ => show win0_1.index t 0 * 2048 + 1 * r.val = _; rw [e0]; simp [tok, ix2]
  | ⟨1, _⟩ => show win0_1.index t 1 * 128 + 1 * k.val = k.val; rw [e1]; omega

theorem iblk2_apply (t : Fin cfg0.N) (r : Fin 2048) (k : Fin 1024) :
    (iblk m c 2 t : Vec Ideal S2048x1024 .f32) (ix2 r k) = aH m c (ix2 (tok t r) k) := by
  obtain ⟨-, -, -, ⟨e0, e1⟩, -⟩ := idx_facts t
  refine Eq.trans ?_ (congrFun (V_main_arg2 m c) (ix2 (tok t r) k))
  unfold iblk
  rw [View.read_apply]
  show V m c main_arg2 _ = V m c main_arg2 _
  congr 1; funext a; apply Fin.ext
  match a with
  | ⟨0, _⟩ => show win0_2.index t 0 * 2048 + 1 * r.val = _; rw [e0]; simp [tok, ix2]
  | ⟨1, _⟩ => show win0_2.index t 1 * 1024 + 1 * k.val = k.val; rw [e1]; omega

theorem iblk3_apply (t : Fin cfg0.N) (k : Fin 1024) (f : Fin 512) :
    (iblk m c 3 t : Vec Ideal S1x1024x512 .bf16) (ix3 0 k f) = gateUp (aWg m c) (aWu m c) (ix3 (ex t) k f) := by
  obtain ⟨-, -, -, -, ⟨e0, e1, e2⟩, -⟩ := idx_facts t
  refine Eq.trans ?_ (congrFun (V_v4 m c) (ix3 (ex t) k f))
  unfold iblk
  rw [View.read_apply]
  show V m c main_v4 _ = V m c main_v4 _
  congr 1; funext a; apply Fin.ext
  match a with
  | ⟨0, _⟩ => show win0_3.index t 0 * 1 + 1 * 0 = _; rw [e0]; simp [ex, ix3]
  | ⟨1, _⟩ => show win0_3.index t 1 * 1024 + 1 * k.val = k.val; rw [e1]; omega
  | ⟨2, _⟩ => show win0_3.index t 2 * 512 + 1 * f.val = f.val; rw [e2]; omega

theorem iblk4_apply (t : Fin cfg0.N) (f : Fin 256) (l : Fin 1024) :
    (iblk m c 4 t : Vec Ideal S1x256x1024 .bf16) (ix3 0 f l) = aWd m c (ix4 0 (ex t) f l) := by
  obtain ⟨-, -, -, -, -, ⟨e0, e1, e2⟩, -⟩ := idx_facts t
  have h : (V m c main_v6 : Vec Ideal S32x256x1024 .bf16) (ix3 (ex t) f l) = aWd m c (ix4 0 (ex t) f l) := by
    rw [V_v6]; generalize aWd m c = w; pointwise
  refine Eq.trans ?_ h
  unfold iblk
  rw [View.read_apply]
  show V m c main_v6 _ = V m c main_v6 _
  congr 1; funext a; apply Fin.ext
  match a with
  | ⟨0, _⟩ => show win0_4.index t 0 * 1 + 1 * 0 = _; rw [e0]; simp [ex, ix3]
  | ⟨1, _⟩ => show win0_4.index t 1 * 256 + 1 * f.val = f.val; rw [e1]; omega
  | ⟨2, _⟩ => show win0_4.index t 2 * 1024 + 1 * l.val = l.val; rw [e2]; omega

theorem iblk5_apply (t : Fin cfg0.N) (l : Fin 1024) :
    (iblk m c 5 t : Vec Ideal S1x1024 .f32) (ix2 0 l) = aNf m c (ix1 l) := by
  obtain ⟨-, -, -, -, -, -, ⟨e0, e1⟩⟩ := idx_facts t
  have h : (V m c main_v8 : Vec Ideal S1x1024 .f32) (ix2 0 l) = aNf m c (ix1 l) := by
    rw [V_v8]; generalize aNf m c = w; pointwise
  refine Eq.trans ?_ h
  unfold iblk
  rw [View.read_apply]
  show V m c main_v8 _ = V m c main_v8 _
  congr 1; funext a; apply Fin.ext
  match a with
  | ⟨0, _⟩ => show win0_5.index t 0 * 1 + 1 * 0 = 0; rw [e0]
  | ⟨1, _⟩ => show win0_5.index t 1 * 1024 + 1 * l.val = l.val; rw [e1]; omega

/-! ## One point's addend -/

/-- The lane selected by the expert's number, summed over the lanes, is that lane. -/
theorem lane_sum (e : Fin 32) (f : Fin 128 → EReal) :
    (∑ x : Fin 128, Scalar.select (IntOp.cmpi CmpIPredicate.eq (BitVec.ofNat 32 x.val) (BitVec.ofNat 32 e.val)) (f x) 0)
      = f ⟨e.val, by omega⟩ := by
  have he := e.isLt
  rw [Finset.sum_eq_single ⟨e.val, by omega⟩]
  · simp [Scalar.select, IntOp.cmpi]
  · intro b _ hb
    have hbl := b.isLt
    have hne : ¬ (BitVec.ofNat 32 b.val = BitVec.ofNat 32 e.val) := by
      intro h
      apply hb
      apply Fin.ext
      have := congrArg BitVec.toNat h
      simp only [BitVec.toNat_ofNat] at this
      show b.val = e.val
      omega
    have hb' : (BitVec.ofNat 32 b.val == BitVec.ofNat 32 e.val) = false := beq_eq_false_iff_ne.mpr hne
    simp [Scalar.select, IntOp.cmpi, hb']
  · intro h; exact absurd (Finset.mem_univ _) h

/-- The payload of one point, at any blocks that read as the given arrays. -/
theorem pay4_of (i : grid0.Coords) (x0 : Vec Ideal S2048x1024 .bf16) (x1 : Vec Ideal S2048x128 .f32) (x3 : Vec Ideal S1x1024x512 .bf16)
    (x4 : Vec Ideal S1x256x1024 .bf16) (xn : FVec Ideal S32768x1024 .f32) (cw : FVec Ideal S32768x32 .f32)
    (wg wu : FVec Ideal S1x32x1024x256 .f32) (wd : FVec Ideal S1x32x256x1024 .f32) (r : Fin 2048) (R : Fin 32768) (e : Fin 32) (l : Fin 1024)
    (hi : (i 1).val = e.val) (h0 : ∀ k, x0 (ix2 r k) = xn (ix2 R k)) (h1 : ∀ k, x1 (ix2 r k) = padded cw (ix2 R k))
    (h3 : ∀ k f, x3 (ix3 0 k f) = gateUp wg wu (ix3 e k f)) (h4 : ∀ f, x4 (ix3 0 f l) = wd (ix4 0 e f l)) :
    k0_pay4 i x0 x3 x1 x4 (ix2 r l) = addend xn cw wg wu wd R e l := by
  pointwise [k0_pay4]
  simp only [h0, h1, h3, h4, hi, lane_sum, padded_apply, gateUp_left, gateUp_right, zero_sub]
  unfold addend proj
  simp only [mul_comm]

theorem pay4_apply (t : Fin cfg0.N) (r : Fin 2048) (l : Fin 1024) :
    k0_pay4 (grid0.coords t) (iblk m c 0 t) (iblk m c 3 t) (iblk m c 1 t) (iblk m c 4 t) (ix2 r l)
      = addend (aXn m c) (aCw m c) (aWg m c) (aWu m c) (aWd m c) (tok t r) (ex t) l :=
  pay4_of (grid0.coords t) (iblk m c 0 t) (iblk m c 1 t) (iblk m c 3 t) (iblk m c 4 t) _ _ _ _ _ r (tok t r) (ex t) l
    (idx_facts t).1 (fun k => iblk0_apply m c t r k) (fun k => iblk1_apply m c t r k) (fun k f => iblk3_apply m c t k f)
    (fun f => iblk4_apply m c t f l)

end Cert.Proof.Moe
-- ==== Proof.Moe.Value.lean ====
/-
  The expert kernel's result array, and the reference's, are the same array.

  Over one token tile the kernel's output buffer starts from the residual `h`, takes one expert's weighted output per
  grid point, and at the last expert is normalized. Read at an index that is `normed` of the row `h + Σ experts`, and
  so is the reference (`ref_apply`). Addition of extended reals is associative and commutative, so the order of the
  experts needs no further argument.
-/
module

public import proofs.«01_k».proof.Proof.Moe.Blocks
public import proofs.«01_k».proof.Proof.Gen.Reference2Ideal.Read

@[expose] public section

set_option maxRecDepth 16384

noncomputable section

open Idealize.ShloMosaic Idealize.ShloMosaic.TcCoe Idealize.SL.Sem

namespace Cert.Proof.Moe

open Cert.Kernel2Ideal Cert.Kernel2Ideal.Gen Cert.Kernel2Ideal.Value

/-- The root-mean-square normalization of one row, times its scale, at feature `l`. -/
def normed (y : Fin 1024 → EReal) (nf : FVec Ideal S1024 .f32) (l : Fin 1024) : EReal :=
  y l * Ideal.rsqrt (Ideal.div (∑ x, y x * y x) (Ideal.ofBits FTy.f32 1149239296#32) + Ideal.ofBits FTy.f32 897988541#32) * nf (ix1 l)

/-- The residual plus every expert's weighted output, at token `R`, feature `l`. -/
def mixed (xn : FVec Ideal S32768x1024 .f32) (cw : FVec Ideal S32768x32 .f32) (h : FVec Ideal S32768x1024 .f32)
    (wg wu : FVec Ideal S1x32x1024x256 .f32) (wd : FVec Ideal S1x32x256x1024 .f32) (R : Fin 32768) (l : Fin 1024) : EReal :=
  h (ix2 R l) + ∑ e : Fin 32, addend xn cw wg wu wd R e l

section

variable (m : (ℓ : Loc nD τ sig) → Buf (Elt Ideal) ℓ) (c : Dev nD)

theorem pay1_apply (x y : Vec Ideal S2048x1024 .f32) (i : S2048x1024.Idx) : k0_pay1 (k0_pay3 x) y i = x i + y i := by
  pointwise [k0_pay1, k0_pay3]

theorem pay2_apply (y : Vec Ideal S2048x1024 .f32) (w : Vec Ideal S1x1024 .f32) (nf : FVec Ideal S1024 .f32) (r : Fin 2048) (l : Fin 1024)
    (hw : w (ix2 0 l) = nf (ix1 l)) : k0_pay2 y w (ix2 r l) = normed (fun x => y (ix2 r x)) nf l := by
  pointwise [k0_pay2]
  rw [hw, normed]

/-- Point `n`'s addend, as a function of the place in the block. -/
def M (n : ℕ) (i : S2048x1024.Idx) : EReal :=
  if h : n < cfg0.N then addend (aXn m c) (aCw m c) (aWg m c) (aWu m c) (aWd m c) (tok ⟨n, h⟩ (i 0)) (ex ⟨n, h⟩) (i 1) else 0

/-- The residual's tile `q`, as a function of the place in the block. -/
def Z (n : ℕ) (i : S2048x1024.Idx) : EReal :=
  if h : n < cfg0.N then aH m c (ix2 (tok ⟨n, h⟩ (i 0)) (i 1)) else 0

theorem pay4_M (n : ℕ) (h : n < cfg0.N) (i : S2048x1024.Idx) :
    k0_pay4 (grid0.coords ⟨n, h⟩) (iblk m c 0 ⟨n, h⟩) (iblk m c 3 ⟨n, h⟩) (iblk m c 1 ⟨n, h⟩) (iblk m c 4 ⟨n, h⟩) i = M m c n i := by
  obtain ⟨r, l, rfl⟩ : ∃ (r : Fin 2048) (l : Fin 1024), i = ix2 r l := ⟨i 0, i 1, eq_ix2 i⟩
  rw [M, dif_pos h]
  exact pay4_apply m c ⟨n, h⟩ r l

/-- The running sum before the last expert. -/
theorem acc_apply (q : ℕ) (h : 32 * q + 30 < cfg0.N) (i : S2048x1024.Idx) :
    Pipeline.accAt (reset6 m c) (step6 m c) (32 * q) 30 h i = Z m c (32 * q) i + ∑ s ∈ Finset.range 31, M m c (32 * q + s) i := by
  refine Pipeline.accAt_add_apply (β := EReal) (reset6 m c) (step6 m c) (Z m c (32 * q)) (M m c) (32 * q) 30 ?_ ?_ 30 le_rfl h i
  · intro h i
    unfold reset6
    rw [pay1_apply, pay4_M]
    congr 1
    obtain ⟨r, l, rfl⟩ : ∃ (r : Fin 2048) (l : Fin 1024), i = ix2 r l := ⟨i 0, i 1, eq_ix2 i⟩
    rw [Z, dif_pos h]
    exact iblk2_apply m c _ r l
  · intro n h acc i h1 h2
    unfold step6
    rw [if_pos (by omega), pay1_apply, pay4_M]

theorem M_eq (q : ℕ) (s : Fin 32) (h : 32 * q + s.val < cfg0.N) (R : Fin 32768) (r : Fin 2048) (l : Fin 1024) (hR : R.val = q * 2048 + r.val) :
    M m c (32 * q + s.val) (ix2 r l) = addend (aXn m c) (aCw m c) (aWg m c) (aWu m c) (aWd m c) R s l := by
  rw [M, dif_pos h]
  have e1 : tok ⟨32 * q + s.val, h⟩ r = R := Fin.ext (by rw [hR]; show (32 * q + s.val) / 32 * 2048 + r.val = _; have := s.isLt; omega)
  have e2 : ex ⟨32 * q + s.val, h⟩ = s := Fin.ext (by show (32 * q + s.val) % 32 = _; have := s.isLt; omega)
  show addend _ _ _ _ _ (tok _ r) _ l = _
  rw [e1, e2]

/-- The last expert's point. -/
theorem step6_last (n : ℕ) (h : n < cfg0.N) (hn : n % 32 = 31) (acc : Vec Ideal S2048x1024 .f32) :
    step6 m c n h acc = k0_pay2 (k0_pay1 (k0_pay3 acc) (k0_pay4 (grid0.coords ⟨n, h⟩) (iblk m c 0 ⟨n, h⟩) (iblk m c 3 ⟨n, h⟩) (iblk m c 1 ⟨n, h⟩) (iblk m c 4 ⟨n, h⟩))) (iblk m c 5 ⟨n, h⟩) := by
  unfold step6
  rw [if_neg (by omega), if_pos (by omega)]

/-- The whole tile after its last expert. -/
theorem fold_apply (q : ℕ) (h : 32 * q + 31 < cfg0.N) (R : Fin 32768) (r : Fin 2048) (l : Fin 1024) (hR : R.val = q * 2048 + r.val) :
    Pipeline.accAt (reset6 m c) (step6 m c) (32 * q) 31 h (ix2 r l)
      = normed (mixed (aXn m c) (aCw m c) (aH m c) (aWg m c) (aWu m c) (aWd m c) R) (aNf m c) l := by
  rw [Pipeline.accAt_succ, step6_last m c (32 * q + (30 + 1)) h (by omega), pay2_apply _ _ (aNf m c) r l (iblk5_apply m c _ l)]
  congr 1
  funext x
  rw [pay1_apply, pay4_M, acc_apply, mixed, add_assoc, ← Finset.sum_range_succ]
  congr 1
  · rw [Z, dif_pos (by omega)]
    show aH m c (ix2 (tok _ r) x) = _
    congr 2
    exact Fin.ext (by rw [hR]; show 32 * q / 32 * 2048 + r.val = _; omega)
  · rw [Finset.sum_range]
    exact Finset.sum_congr rfl fun s _ => M_eq m c q s (by have := s.isLt; omega) R r x hR

/-- The result array at an index. -/
theorem G6_apply (R : Fin 32768) (l : Fin 1024) :
    (G6 m c : Vec Ideal S32768x1024 .f32) (ix2 R l) = normed (mixed (aXn m c) (aCw m c) (aH m c) (aWg m c) (aWu m c) (aWd m c) R) (aNf m c) l := by
  have hR := R.isLt
  have hl := l.isLt
  have hrun : run6Of (ix2 R l) = R.val / 2048 := by
    show 1 * (R.val / 2048 - 0) + 1 * (l.val / 1024 - 0) = _
    omega
  have hloc : loc6Of (ix2 R l) = ix2 ⟨R.val % 2048, by omega⟩ l := by
    funext a; apply Fin.ext
    match a with
    | ⟨0, _⟩ => rfl
    | ⟨1, _⟩ => show l.val % 1024 = l.val; omega
  unfold G6
  rw [dif_pos (by rw [hrun, N_eq]; omega), hloc]
  exact fold_apply m c (run6Of (ix2 R l)) _ R ⟨R.val % 2048, by omega⟩ l (by rw [hrun]; show R.val = R.val / 2048 * 2048 + R.val % 2048; omega)

end

/-! ## The reference -/

open Cert.Reference2Ideal.Read in
theorem ref_mixed (xn : FVec Ideal S32768x1024 .f32) (cw : FVec Ideal S32768x32 .f32) (h : FVec Ideal S32768x1024 .f32)
    (wg wu : FVec Ideal S1x32x1024x256 .f32) (wd : FVec Ideal S1x32x256x1024 .f32) (R : Fin 32768) (l : Fin 1024) :
    val_main_v15 (F := Ideal) xn cw h wg wu wd (ix2 R l) = mixed xn cw h wg wu wd R l := by
  pointwise [val_main_v15, val_main_v14, val_main_v13, val_main_v12, val_main_v11, val_main_v10, val_main_v9, val_main_v8, val_main_v7, val_main_v6, val_main_v5, val_main_v4, val_main_v3,val_main_v2,val_main_v1,val_main_v0, val_main_cst, val_main_call0_v0, val_main_call0_v1, val_main_call0_v2, val_main_call0_v3, val_main_call0_v4, val_main_call0_v5, val_main_call0_cst, val_main_call0_cst_0]
  rfl

open Cert.Reference2Ideal.Read in
theorem ref_apply (xn : FVec Ideal S32768x1024 .f32) (cw : FVec Ideal S32768x32 .f32) (h : FVec Ideal S32768x1024 .f32)
    (wg wu : FVec Ideal S1x32x1024x256 .f32) (wd : FVec Ideal S1x32x256x1024 .f32) (nf : FVec Ideal S1024 .f32) (R : Fin 32768) (l : Fin 1024) :
    val_main_v28 (F := Ideal) xn cw h wg wu wd nf (ix2 R l) = normed (mixed xn cw h wg wu wd R) nf l := by
  pointwise [val_main_v28, val_main_v27, val_main_v26, val_main_v25, val_main_v24, val_main_v23, val_main_v22, val_main_v21, val_main_v20, val_main_v19, val_main_v18, val_main_v17, val_main_v16, val_main_cst, val_main_cst_0, val_main_cst_1, val_main_cst_2]
  simp only [ref_mixed, normed]

/-- The two result arrays are equal. -/
theorem result_eq (m : (ℓ : Loc nD τ sig) → Buf (Elt Ideal) ℓ) (c : Dev nD) :
    (G6 m c : Vec Ideal S32768x1024 .f32)
      = Cert.Reference2Ideal.Read.val_main_v28 (F := Ideal) (aXn m c) (aCw m c) (aH m c) (aWg m c) (aWu m c) (aWd m c) (aNf m c) := by
  funext i
  obtain ⟨R, l, rfl⟩ : ∃ (R : Fin 32768) (l : Fin 1024), i = ix2 R l := ⟨i 0, i 1, eq_ix2 i⟩
  rw [ref_apply]
  exact G6_apply m c R l

end Cert.Proof.Moe
-- ==== Proof.Moe.Claim.lean ====
/-
  The claims about the expert kernel: that its runs end, that idealizing rewrote nothing in it, and that over the
  extended reals it computes what the reference computes, from any arguments.
-/
module

public import proofs.«01_k».proof.Proof.Moe.Value
public import proofs.«01_k».proof.Proof.Gen.Reference2Ideal.Run
public import Idealize.ShloMosaic.Lib.Quiescent

@[expose] public section

noncomputable section

open Idealize.ShloMosaic Idealize.ShloMosaic.TcCoe Idealize.SL.Sem

namespace Cert.Proof.Moe

/-- Over the extended reals the expert kernel and the reference end with the same result array. -/
theorem algebraic : Cert.algebraic_Kernel2Ideal_Reference2Ideal := by
  intro m g m' g' _ hargs
  refine ⟨fun c => Cert.Kernel2Ideal.Value.G6 m c, Cert.Kernel2Ideal.Value.run m g, ?_⟩
  refine (θ_run Cert.Reference2Ideal.defs _ _).mono (fun r h c => ?_) (Cert.Reference2Ideal.Value.run m' g')
  obtain ⟨h, hrest⟩ := h c
  refine ⟨h.trans ?_, hrest⟩
  obtain ⟨e0, e1, e2, e3, e4, e5, e6⟩ := hargs c
  rw [Cert.Reference2Ideal.Read.val_main_v28_eq]
  refine Eq.trans ?_ (result_eq m c).symm
  rw [e0, e1, e2, e3, e4, e5, e6]

/-- Every run of the reference ends. -/
theorem refFrame : Cert.quiescent_Reference2Ideal := by
  intro m g _
  exact (θ_run Cert.Reference2Ideal.defs _ _).mono
    (fun r h => ⟨fun c => (h c).2, sem_eq_zero_of_no_sems (by decide) r.2⟩) (Cert.Reference2Ideal.Value.run (F := Ideal) m g)

end Cert.Proof.Moe
-- ==== Proof.Flash.Shape.lean ====
/-
  The pieces the attention body writes, in the form of its own loop: one pass of a block of 512 keys over the
  eight chunks of 128 columns of the running maximum and the four pairs of them of the accumulator.
-/
module

public import proofs.«01_k».proof.Proof.Flash.Frame
import all proofs.«01_k».proof.Proof.Flash.Run
import all proofs.«01_k».proof.Proof.Gen.KernelIdeal.Loops

@[expose] public section

noncomputable section

namespace Cert.Proof.Flash

open Cert.KernelIdeal Cert.KernelIdeal.Gen

open Idealize.ShloMosaic Idealize.ShloMosaic.TcCoe

variable {F : FTy → Type} [FloatOps F] [Named F]

/-- Chunk `j` of a block of scores, of the running maximum, and pair `p` of chunks of the accumulator. -/
abbrev cs (j : Fin 8) : Rect S512x1152 := Rect.unit ![0, 128 * j.val] S512x128.size (by
  intro a; have := j.isLt; match a with
  | ⟨0, _⟩ => show 0 + 512 ≤ 512; omega
  | ⟨1, _⟩ => show 128 * j.val + 128 ≤ 1152; omega)
abbrev cm (j : Fin 8) : Rect S1x1024 := Rect.unit ![0, 128 * j.val] S1x128.size (by
  intro a; have := j.isLt; match a with
  | ⟨0, _⟩ => show 0 + 1 ≤ 1; omega
  | ⟨1, _⟩ => show 128 * j.val + 128 ≤ 1024; omega)
abbrev ca (p : Fin 4) : Rect S144x1152 := Rect.unit ![0, 256 * p.val] S144x256.size (by
  intro a; have := p.isLt; match a with
  | ⟨0, _⟩ => show 0 + 144 ≤ 144; omega
  | ⟨1, _⟩ => show 256 * p.val + 256 ≤ 1152; omega)

/-- The whole of the columns of the scores. -/
abbrev ws : Rect S512x1152 := Rect.unit ![0, 0] S512x1024.size inb_S512x1152_S512x1024_0_0

abbrev PieceM (F : FTy → Type) := View.Piece (Elt F) S1x1024 .f32
abbrev PieceA (F : FTy → Type) := View.Piece (Elt F) S144x1152 .f32
abbrev PieceS (F : FTy → Type) := View.Piece (Elt F) S512x1152 .f32

/-- The maxima stored by a pass whose chunk `j` of the maximum is `rm j` and of the scores `rs j`, the chunks before `n`. -/
def firstM (rm : Fin 8 → Vec F S1x128 .f32) (rs : Fin 8 → Vec F S512x128 .f32) : (n : ℕ) → n ≤ 8 → List (PieceM F)
  | 0, _ => []
  | n + 1, h => ⟨cm ⟨n, h⟩, k0_pay86 (rs ⟨n, h⟩) (rm ⟨n, h⟩)⟩ :: firstM rm rs n (by omega)

/-- The accumulators stored by such a pass, the pairs before `n`. -/
def firstA (vt : FVec F S144x512 .bf16) (rm : Fin 8 → Vec F S1x128 .f32) (rs : Fin 8 → Vec F S512x128 .f32) (ra : Fin 4 → Vec F S144x256 .f32) :
    (n : ℕ) → n ≤ 4 → List (PieceA F)
  | 0, _ => []
  | n + 1, h => ⟨ca ⟨n, h⟩, k0_pay89 vt (rs ⟨2 * n, by omega⟩) (k0_pay84 (rs ⟨2 * n, by omega⟩) (rm ⟨2 * n, by omega⟩))
      (k0_pay85 (rs ⟨2 * n, by omega⟩) (rm ⟨2 * n, by omega⟩)) (rs ⟨2 * n + 1, by omega⟩) (rm ⟨2 * n + 1, by omega⟩) (ra ⟨n, h⟩)⟩
      :: firstA vt rm rs ra n (by omega)

variable (v12 : View sig .tc .vmem S1x1024 .f32) (v13 : View sig .tc .vmem S144x1152 .f32)

/-- The same pass where the chunks are read back from the pieces written so far, `B` before the pass. -/
def nextM (rs : Fin 8 → Vec F S512x128 .f32) (B : List (PieceM F)) : (n : ℕ) → n ≤ 8 → List (PieceM F)
  | 0, _ => B
  | n + 1, h => ⟨cm ⟨n, h⟩, k0_pay86 (rs ⟨n, h⟩) (v12.readCov (nextM rs B n (by omega)) (cm ⟨n, h⟩).toLoadRect)⟩ :: nextM rs B n (by omega)

/-- The maximum's chunk `j` as such a pass reads it. -/
def readM (rs : Fin 8 → Vec F S512x128 .f32) (B : List (PieceM F)) (j : Fin 8) : Vec F S1x128 .f32 :=
  v12.readCov (nextM v12 rs B j.val (by omega)) (cm j).toLoadRect

def nextA (vt : FVec F S144x512 .bf16) (rm : Fin 8 → Vec F S1x128 .f32) (rs : Fin 8 → Vec F S512x128 .f32) (B : List (PieceA F)) :
    (n : ℕ) → n ≤ 4 → List (PieceA F)
  | 0, _ => B
  | n + 1, h => ⟨ca ⟨n, h⟩, k0_pay89 vt (rs ⟨2 * n, by omega⟩) (k0_pay84 (rs ⟨2 * n, by omega⟩) (rm ⟨2 * n, by omega⟩))
      (k0_pay85 (rs ⟨2 * n, by omega⟩) (rm ⟨2 * n, by omega⟩)) (rs ⟨2 * n + 1, by omega⟩) (rm ⟨2 * n + 1, by omega⟩)
      (v13.readCov (nextA vt rm rs B n (by omega)) (ca ⟨n, h⟩).toLoadRect)⟩
      :: nextA vt rm rs B n (by omega)

end Cert.Proof.Flash

end
-- ==== Proof.Flash.Scalars.lean ====
/-
  The attention body's arithmetic over the extended reals, read at an index.
-/
module

public import proofs.«01_k».proof.Proof.Flash.Shape
public import Idealize.ShloMosaic.Lib.Pointwise

@[expose] public section

set_option maxRecDepth 16384

noncomputable section

namespace Cert.Proof.Flash

open Cert.KernelIdeal Cert.KernelIdeal.Gen

open Idealize.ShloMosaic Idealize.ShloMosaic.TcCoe

theorem bot_bits : Ideal.ofBits FTy.f32 4286578688#32 = ⊥ := by simp [Ideal.ofBits, Ideal.ieee]

/-- The largest score of a column of a block. -/
abbrev top (n : ℕ) (s : Fin n → EReal) : EReal := Finset.univ.fold max ⊥ s

theorem pay84_apply (s : Vec Ideal S512x128 .f32) (m : Vec Ideal S1x128 .f32) (l : Fin 128) :
    k0_pay84 s m (ix2 0 l) = max (m (ix2 0 l)) (top 512 fun r => s (ix2 r l)) := by
  pointwise [k0_pay84]
  rw [bot_bits]

theorem pay86_apply (s : Vec Ideal S512x128 .f32) (m : Vec Ideal S1x128 .f32) (l : Fin 128) :
    k0_pay86 s m (ix2 0 l) = k0_pay84 s m (ix2 0 l) := by
  pointwise [k0_pay86]

theorem pay87_eq (s : Vec Ideal S512x128 .f32) (m : Vec Ideal S1x128 .f32) : k0_pay87 s m = k0_pay84 s m := rfl

theorem pay85_apply (s : Vec Ideal S512x128 .f32) (m : Vec Ideal S1x128 .f32) (l : Fin 128) :
    k0_pay85 s m (ix2 0 l) = Ideal.exp2 (m (ix2 0 l) - k0_pay84 s m (ix2 0 l)) := by
  pointwise [k0_pay85]
  rfl

theorem pay89_left (vt : FVec Ideal S144x512 .bf16) (s0 s1 : Vec Ideal S512x128 .f32) (a c : FVec Ideal S1x128 .f32) (m1 : Vec Ideal S1x128 .f32)
    (A : Vec Ideal S144x256 .f32) (y : Fin 144) (l : Fin 128) :
    k0_pay89 vt s0 a c s1 m1 A (ix2 y ⟨l.val, by omega⟩) = A (ix2 y ⟨l.val, by omega⟩) * c (ix2 0 l)
      + ∑ r : Fin 512, vt (ix2 y r) * Ideal.exp2 (s0 (ix2 r l) - a (ix2 0 l)) := by
  pointwise [k0_pay89, k0_pay88]
  rfl

theorem pay89_right (vt : FVec Ideal S144x512 .bf16) (s0 s1 : Vec Ideal S512x128 .f32) (a c : FVec Ideal S1x128 .f32) (m1 : Vec Ideal S1x128 .f32)
    (A : Vec Ideal S144x256 .f32) (y : Fin 144) (l : Fin 128) :
    k0_pay89 vt s0 a c s1 m1 A (ix2 y ⟨128 + l.val, by omega⟩) = A (ix2 y ⟨128 + l.val, by omega⟩) * Ideal.exp2 (m1 (ix2 0 l) - k0_pay84 s1 m1 (ix2 0 l))
      + ∑ r : Fin 512, vt (ix2 y r) * Ideal.exp2 (s1 (ix2 r l) - k0_pay84 s1 m1 (ix2 0 l)) := by
  pointwise [k0_pay89, k0_pay88]
  rw [pay87_eq]
  rfl

theorem pay82_apply (kb : Vec Ideal S1x512x128 .bf16) (q : Vec Ideal S128x1024 .bf16) (r : Fin 512) (x : Fin 1024) :
    k0_pay82 kb q (ix2 r x) = ∑ d : Fin 128, kb (ix3 0 r d) * q (ix2 d x) := by
  pointwise [k0_pay82]

theorem pay83_value (v : Vec Ideal S1x1x128x512 .bf16) (y : Fin 128) (r : Fin 512) :
    k0_pay83 v (ix2 ⟨y.val, by omega⟩ r) = v (ix4 0 0 y r) := by
  pointwise [k0_pay83]

theorem pay83_one (v : Vec Ideal S1x1x128x512 .bf16) (j : Fin 16) (r : Fin 512) : k0_pay83 v (ix2 ⟨128 + j.val, by omega⟩ r) = 1 := by
  pointwise [k0_pay83]

theorem small_iff (r : Fin 128) : IntOp.cmpi CmpIPredicate.slt (BitVec.ofNat 32 r.val) 16#32 = if r.val < 16 then 1#1 else 0#1 := by
  revert r; decide +kernel

theorem pay75_apply (kb : Vec Ideal S128x128 .bf16) (q : Vec Ideal S128x1024 .bf16) (r : Fin 128) (x : Fin 1024) :
    k0_pay75 kb q (ix2 r x) = if r.val < 16 then ∑ d : Fin 128, kb (ix2 r d) * q (ix2 d x) else ⊥ := by
  pointwise [k0_pay75]
  rw [small_iff]
  split <;> rfl

theorem pay77_apply (kb : Vec Ideal S128x128 .bf16) (q : Vec Ideal S128x1024 .bf16) (x : Fin 1024) :
    k0_pay77 kb q (ix2 0 x) = top 128 fun r => k0_pay75 kb q (ix2 r x) := by
  pointwise [k0_pay77, k0_pay76]
  rw [bot_bits]

theorem pay79_apply (kb : Vec Ideal S128x128 .bf16) (q : Vec Ideal S128x1024 .bf16) (r : Fin 128) (x : Fin 1024) :
    k0_pay79 kb q (ix2 r x) = k0_pay75 kb q (ix2 r x) - k0_pay77 kb q (ix2 0 x) := by
  pointwise [k0_pay79, k0_pay77]

theorem pay80_apply (vt : FVec Ideal S144x128 .bf16) (s : FVec Ideal S128x1024 .f32) (y : Fin 144) (x : Fin 1024) :
    k0_pay80 vt s (ix2 y x) = ∑ r : Fin 128, vt (ix2 y r) * Ideal.exp2 (s (ix2 r x)) := by
  pointwise [k0_pay80]
  rfl

theorem pay78_value (v : Vec Ideal S1x128x128 .bf16) (y : Fin 128) (r : Fin 128) :
    k0_pay78 v (ix2 ⟨y.val, by omega⟩ r) = v (ix3 0 y r) := by
  pointwise [k0_pay78]

theorem pay78_one (v : Vec Ideal S1x128x128 .bf16) (j : Fin 16) (r : Fin 128) : k0_pay78 v (ix2 ⟨128 + j.val, by omega⟩ r) = 1 := by
  pointwise [k0_pay78]

/-- The factor on the queries. -/
abbrev scl : EReal := (((Real.sqrt 128)⁻¹ * (Real.log 2)⁻¹ : ℝ) : EReal)

theorem pay69_apply (q : Vec Ideal S1x128x256 .bf16) (d : Fin 128) (x : Fin 256) : k0_pay69 q (ix2 d x) = q (ix3 0 d x) * scl := by
  pointwise [k0_pay69]
  rfl
theorem pay70_apply (q : Vec Ideal S1x128x256 .bf16) (d : Fin 128) (x : Fin 256) : k0_pay70 q (ix2 d x) = q (ix3 0 d x) * scl := by
  pointwise [k0_pay70]
  rfl
theorem pay71_apply (q : Vec Ideal S1x128x256 .bf16) (d : Fin 128) (x : Fin 256) : k0_pay71 q (ix2 d x) = q (ix3 0 d x) * scl := by
  pointwise [k0_pay71]
  rfl
theorem pay73_apply (q : Vec Ideal S1x128x256 .bf16) (d : Fin 128) (x : Fin 256) : k0_pay73 (k0_pay72 q) (ix2 d x) = q (ix3 0 d x) * scl := by
  pointwise [k0_pay73, k0_pay72]
  rfl

section
variable (a : Vec Ideal S128x1024 .f32) (b : Vec Ideal S1x1024 .f32) (t : Fin 256) (d : Fin 128)

theorem pay2_apply : k0_pay2 a b (broadcast S1x1024 (FloatOps.ofBits .f32 1065353216#32)) (ix3 0 t d)
    = a (ix2 d ⟨t.val, by omega⟩) * Ideal.div 1 (b (ix2 0 ⟨t.val, by omega⟩)) := by
  pointwise [k0_pay2, k0_pay1]
theorem pay3_apply : k0_pay3 a b (broadcast S1x1024 (FloatOps.ofBits .f32 1065353216#32)) (ix3 0 t d)
    = a (ix2 d ⟨256 + t.val, by omega⟩) * Ideal.div 1 (b (ix2 0 ⟨256 + t.val, by omega⟩)) := by
  pointwise [k0_pay3, k0_pay1]
theorem pay4_apply : k0_pay4 a b (broadcast S1x1024 (FloatOps.ofBits .f32 1065353216#32)) (ix3 0 t d)
    = a (ix2 d ⟨512 + t.val, by omega⟩) * Ideal.div 1 (b (ix2 0 ⟨512 + t.val, by omega⟩)) := by
  pointwise [k0_pay4, k0_pay1]
theorem pay5_apply : k0_pay5 a b (broadcast S1x1024 (FloatOps.ofBits .f32 1065353216#32)) (ix3 0 t d)
    = a (ix2 d ⟨768 + t.val, by omega⟩) * Ideal.div 1 (b (ix2 0 ⟨768 + t.val, by omega⟩)) := by
  pointwise [k0_pay5, k0_pay1]
end

end Cert.Proof.Flash

end
-- ==== Proof.Flash.Pass.lean ====
/-
  One pass of the softmax over a block of keys, over the extended reals: from the running maxima `M` and accumulators
  `A` of all the columns and the block's scores `S` and values `V`, the maxima `mxF M S` and the accumulators
  `acF M S V A`, whatever the chunks the pass goes through.
-/
module

public import proofs.«01_k».proof.Proof.Flash.Scalars

@[expose] public section

set_option maxRecDepth 16384

noncomputable section

namespace Cert.Proof.Flash

open Cert.KernelIdeal Cert.KernelIdeal.Gen

open Idealize.ShloMosaic Idealize.ShloMosaic.TcCoe

/-- The maxima after a block with scores `S`. -/
def mxF (M : Fin 1024 → EReal) (S : Fin 512 → Fin 1024 → EReal) (x : Fin 1024) : EReal := max (M x) (top 512 fun r => S r x)

/-- The accumulators after a block with scores `S` and values `V`. -/
def acF (M : Fin 1024 → EReal) (S : Fin 512 → Fin 1024 → EReal) (V : Fin 144 → Fin 512 → EReal) (A : Fin 144 → Fin 1024 → EReal)
    (y : Fin 144) (x : Fin 1024) : EReal :=
  A y x * Ideal.exp2 (M x - mxF M S x) + ∑ r : Fin 512, V y r * Ideal.exp2 (S r x - mxF M S x)

/-- A column in the padded width of a scratch buffer. -/
abbrev pad (x : Fin 1024) : Fin 1152 := ⟨x.val, by omega⟩
/-- Column `l` of chunk `j`. -/
abbrev col (j : Fin 8) (l : Fin 128) : Fin 1024 := ⟨128 * j.val + l.val, by omega⟩

section
variable (v10 : View sig .tc .vmem S512x1152 .f32) (v12 : View sig .tc .vmem S1x1024 .f32) (v13 : View sig .tc .vmem S144x1152 .f32)

/-- The pieces `L`, written over anything, leave the maxima `M`, the accumulators `A`, the scores `S`. -/
def HM (L : List (PieceM Ideal)) (M : Fin 1024 → EReal) : Prop :=
  ∀ f (x : Fin 1024), v12.read (Elt Ideal) (v12.writes (Elt Ideal) f L) (ix2 (0 : Fin 1) x) = M x
def HA (L : List (PieceA Ideal)) (A : Fin 144 → Fin 1024 → EReal) : Prop :=
  ∀ f (y : Fin 144) (x : Fin 1024), v13.read (Elt Ideal) (v13.writes (Elt Ideal) f L) (ix2 y (pad x)) = A y x
def HS (L : List (PieceS Ideal)) (S : Fin 512 → Fin 1024 → EReal) : Prop :=
  ∀ f (r : Fin 512) (x : Fin 1024), v10.read (Elt Ideal) (v10.writes (Elt Ideal) f L) (ix2 r (pad x)) = S r x

theorem HM.append {L : List (PieceM Ideal)} {M : Fin 1024 → EReal} (h : HM v12 L M) (R : List (PieceM Ideal)) : HM v12 (L ++ R) M := fun f x => by
  rw [View.writes_append]; exact h _ x
theorem HA.append {L : List (PieceA Ideal)} {A : Fin 144 → Fin 1024 → EReal} (h : HA v13 L A) (R : List (PieceA Ideal)) : HA v13 (L ++ R) A := fun f y x => by
  rw [View.writes_append]; exact h _ y x
theorem HS.append {L : List (PieceS Ideal)} {S : Fin 512 → Fin 1024 → EReal} (h : HS v10 L S) (R : List (PieceS Ideal)) : HS v10 (L ++ R) S := fun f r x => by
  rw [View.writes_append]; exact h _ r x

/-- A chunk read from contents. -/
theorem chunkM (g : v12.ty.Contents (Elt Ideal)) (j : Fin 8) (l : Fin 128) :
    View.readAt (Elt Ideal) v12 (cm j).toLoadRect g (ix2 (0 : Fin 1) l) = v12.read (Elt Ideal) g (ix2 (0 : Fin 1) (col j l)) := by
  rw [View.readAt_apply]
  congr 1
  funext a
  apply Fin.ext
  match a with
  | ⟨0, _⟩ => rfl
  | ⟨1, _⟩ => show 128 * j.val + 1 * l.val = 128 * j.val + l.val; omega

theorem chunkS (g : v10.ty.Contents (Elt Ideal)) (j : Fin 8) (r : Fin 512) (l : Fin 128) :
    View.readAt (Elt Ideal) v10 (cs j).toLoadRect g (ix2 r l) = v10.read (Elt Ideal) g (ix2 r (pad (col j l))) := by
  rw [View.readAt_apply]
  congr 1
  funext a
  apply Fin.ext
  match a with
  | ⟨0, _⟩ => show 0 + 1 * r.val = r.val; omega
  | ⟨1, _⟩ => show 128 * j.val + 1 * l.val = 128 * j.val + l.val; omega

theorem chunkA (g : v13.ty.Contents (Elt Ideal)) (p : Fin 4) (y : Fin 144) (l : Fin 256) :
    View.readAt (Elt Ideal) v13 (ca p).toLoadRect g (ix2 y l) = v13.read (Elt Ideal) g (ix2 y (pad ⟨256 * p.val + l.val, by omega⟩)) := by
  rw [View.readAt_apply]
  congr 1
  funext a
  apply Fin.ext
  match a with
  | ⟨0, _⟩ => show 0 + 1 * y.val = y.val; omega
  | ⟨1, _⟩ => show 256 * p.val + 1 * l.val = 256 * p.val + l.val; omega

/-- One more chunk of maxima written. -/
theorem consM (L : List (PieceM Ideal)) (f : v12.ty.Contents (Elt Ideal)) (n : Fin 8) (w : Vec Ideal S1x128 .f32) (x : Fin 1024) :
    v12.read (Elt Ideal) (v12.writes (Elt Ideal) f (⟨cm n, w⟩ :: L)) (ix2 (0 : Fin 1) x)
      = if h : 128 * n.val ≤ x.val ∧ x.val < 128 * n.val + 128 then w (ix2 (0 : Fin 1) ⟨x.val - 128 * n.val, by omega⟩)
        else v12.read (Elt Ideal) (v12.writes (Elt Ideal) f L) (ix2 (0 : Fin 1) x) := by
  split
  · rename_i h
    refine View.read_writes_cons_hit_of_coords v12 f (cm n) w L (ix2 (0 : Fin 1) (⟨x.val - 128 * n.val, by omega⟩ : Fin 128)) _ ?_
    intro a
    match a with
    | ⟨0, _⟩ => rfl
    | ⟨1, _⟩ => show x.val = 128 * n.val + 1 * (x.val - 128 * n.val); omega
  · rename_i h
    refine View.read_writes_cons_miss_of_axis v12 f ⟨cm n, w⟩ L _ 1 (128 * n.val) 128 rfl rfl rfl ?_
    show x.val < _ ∨ _ ≤ x.val
    omega

theorem consA (L : List (PieceA Ideal)) (f : v13.ty.Contents (Elt Ideal)) (n : Fin 4) (w : Vec Ideal S144x256 .f32) (y : Fin 144) (x : Fin 1024) :
    v13.read (Elt Ideal) (v13.writes (Elt Ideal) f (⟨ca n, w⟩ :: L)) (ix2 y (pad x))
      = if h : 256 * n.val ≤ x.val ∧ x.val < 256 * n.val + 256 then w (ix2 y ⟨x.val - 256 * n.val, by omega⟩)
        else v13.read (Elt Ideal) (v13.writes (Elt Ideal) f L) (ix2 y (pad x)) := by
  split
  · rename_i h
    refine View.read_writes_cons_hit_of_coords v13 f (ca n) w L (ix2 y (⟨x.val - 256 * n.val, by omega⟩ : Fin 256)) _ ?_
    intro a
    match a with
    | ⟨0, _⟩ => show y.val = 0 + 1 * y.val; omega
    | ⟨1, _⟩ => show x.val = 256 * n.val + 1 * (x.val - 256 * n.val); omega
  · rename_i h
    refine View.read_writes_cons_miss_of_axis v13 f ⟨ca n, w⟩ L _ 1 (256 * n.val) 256 rfl rfl rfl ?_
    show x.val < _ ∨ _ ≤ x.val
    omega

variable (M : Fin 1024 → EReal) (S : Fin 512 → Fin 1024 → EReal) (V : Fin 144 → Fin 512 → EReal) (A : Fin 144 → Fin 1024 → EReal)

/-- The new maximum of a chunk. -/
theorem maxChunk (s : Vec Ideal S512x128 .f32) (m : Vec Ideal S1x128 .f32) (j : Fin 8) (l : Fin 128)
    (hs : ∀ r l, s (ix2 r l) = S r (col j l)) (hm : ∀ l, m (ix2 (0 : Fin 1) l) = M (col j l)) :
    k0_pay84 s m (ix2 0 l) = mxF M S (col j l) := by
  rw [pay84_apply, hm, mxF]
  simp only [hs]

/-- The new accumulators of a pair of chunks. -/
theorem accPair (vt : FVec Ideal S144x512 .bf16) (s0 s1 : Vec Ideal S512x128 .f32) (m0 m1 : Vec Ideal S1x128 .f32) (a : Vec Ideal S144x256 .f32)
    (n : ℕ) (hn : n < 4) (hs0 : ∀ r l, s0 (ix2 r l) = S r (col ⟨2 * n, by omega⟩ l)) (hs1 : ∀ r l, s1 (ix2 r l) = S r (col ⟨2 * n + 1, by omega⟩ l))
    (hm0 : ∀ l, m0 (ix2 (0 : Fin 1) l) = M (col ⟨2 * n, by omega⟩ l)) (hm1 : ∀ l, m1 (ix2 (0 : Fin 1) l) = M (col ⟨2 * n + 1, by omega⟩ l))
    (hv : ∀ y r, vt (ix2 y r) = V y r) (ha : ∀ y (l : Fin 256), a (ix2 y l) = A y ⟨256 * n + l.val, by omega⟩)
    (y : Fin 144) (x : Fin 1024) (hx : 256 * n ≤ x.val ∧ x.val < 256 * n + 256) :
    k0_pay89 vt s0 (k0_pay84 s0 m0) (k0_pay85 s0 m0) s1 m1 a (ix2 y ⟨x.val - 256 * n, by omega⟩) = acF M S V A y x := by
  by_cases h : x.val - 256 * n < 128
  · obtain ⟨l, hl⟩ : ∃ l : Fin 128, x.val = 256 * n + l.val := ⟨⟨x.val - 256 * n, h⟩, by show x.val = 256 * n + (x.val - 256 * n); omega⟩
    have e : (⟨x.val - 256 * n, by omega⟩ : Fin 256) = ⟨l.val, by omega⟩ := Fin.ext (by show x.val - 256 * n = l.val; omega)
    have ex : x = col ⟨2 * n, by omega⟩ l := Fin.ext (by show x.val = 128 * (2 * n) + l.val; omega)
    rw [e, pay89_left, pay85_apply, maxChunk M S s0 m0 _ l hs0 hm0, hm0, ha, acF, ← ex]
    simp only [hs0, hv, ← ex]
    congr 3
    exact Fin.ext hl.symm
  · obtain ⟨l, hl⟩ : ∃ l : Fin 128, x.val = 256 * n + 128 + l.val :=
      ⟨⟨x.val - 256 * n - 128, by omega⟩, by show x.val = 256 * n + 128 + (x.val - 256 * n - 128); omega⟩
    have e : (⟨x.val - 256 * n, by omega⟩ : Fin 256) = ⟨128 + l.val, by omega⟩ := Fin.ext (by show x.val - 256 * n = 128 + l.val; omega)
    have ex : x = col ⟨2 * n + 1, by omega⟩ l := Fin.ext (by show x.val = 128 * (2 * n + 1) + l.val; omega)
    rw [e, pay89_right, maxChunk M S s1 m1 _ l hs1 hm1, hm1, ha, acF, ← ex]
    simp only [hs1, hv, ← ex]
    congr 3
    exact Fin.ext (by show 256 * n + (128 + l.val) = x.val; omega)

section
variable (rm : Fin 8 → Vec Ideal S1x128 .f32) (rs : Fin 8 → Vec Ideal S512x128 .f32) (ra : Fin 4 → Vec Ideal S144x256 .f32) (vt : FVec Ideal S144x512 .bf16)
  (hs : ∀ j r l, rs j (ix2 r l) = S r (col j l))
include hs

theorem firstM_part (hm : ∀ j l, rm j (ix2 (0 : Fin 1) l) = M (col j l)) (f : v12.ty.Contents (Elt Ideal)) (n : ℕ) (hn : n ≤ 8) (x : Fin 1024)
    (hx : x.val < 128 * n) : v12.read (Elt Ideal) (v12.writes (Elt Ideal) f (firstM rm rs n hn)) (ix2 (0 : Fin 1) x) = mxF M S x := by
  induction n with
  | zero => omega
  | succ n ih =>
    rw [firstM, consM]
    split
    · rename_i h
      rw [pay86_apply, maxChunk M S _ _ ⟨n, hn⟩ _ (hs _) (hm _)]
      congr 1
      exact Fin.ext (by show 128 * n + (x.val - 128 * n) = x.val; have := h.1; dsimp only at this; omega)
    · rename_i h
      dsimp only at h
      exact ih (by omega) (by omega)

theorem firstM_holds (hm : ∀ j l, rm j (ix2 (0 : Fin 1) l) = M (col j l)) : HM v12 (firstM rm rs 8 le_rfl) (mxF M S) := fun f x =>
  firstM_part v12 M S rm rs hs hm f 8 le_rfl x x.isLt

theorem firstA_part (hm : ∀ j l, rm j (ix2 (0 : Fin 1) l) = M (col j l)) (hv : ∀ y r, vt (ix2 y r) = V y r)
    (ha : ∀ (p : Fin 4) y (l : Fin 256), ra p (ix2 y l) = A y ⟨256 * p.val + l.val, by omega⟩) (f : v13.ty.Contents (Elt Ideal))
    (n : ℕ) (hn : n ≤ 4) (y : Fin 144) (x : Fin 1024) (hx : x.val < 256 * n) :
    v13.read (Elt Ideal) (v13.writes (Elt Ideal) f (firstA vt rm rs ra n hn)) (ix2 y (pad x)) = acF M S V A y x := by
  induction n with
  | zero => omega
  | succ n ih =>
    rw [firstA, consA]
    split
    · rename_i h
      exact accPair M S V A vt _ _ _ _ _ n hn (hs _) (hs _) (hm _) (hm _) hv (ha ⟨n, hn⟩) y x h
    · rename_i h
      dsimp only at h
      exact ih (by omega) (by omega)

theorem firstA_holds (hm : ∀ j l, rm j (ix2 (0 : Fin 1) l) = M (col j l)) (hv : ∀ y r, vt (ix2 y r) = V y r)
    (ha : ∀ (p : Fin 4) y (l : Fin 256), ra p (ix2 y l) = A y ⟨256 * p.val + l.val, by omega⟩) :
    HA v13 (firstA vt rm rs ra 4 le_rfl) (acF M S V A) := fun f y x =>
  firstA_part v13 M S V A rm rs ra vt hs hm hv ha f 4 le_rfl y x x.isLt

variable (B : List (PieceM Ideal)) (hB : HM v12 B M)
include hB

theorem nextM_part (n : ℕ) (hn : n ≤ 8) (f : v12.ty.Contents (Elt Ideal)) (x : Fin 1024) :
    v12.read (Elt Ideal) (v12.writes (Elt Ideal) f (nextM v12 rs B n hn)) (ix2 (0 : Fin 1) x) = if x.val < 128 * n then mxF M S x else M x := by
  induction n generalizing f x with
  | zero => rw [nextM, if_neg (by omega)]; exact hB f x
  | succ n ih =>
    rw [nextM, consM]
    split
    · rename_i h
      dsimp only at h
      rw [pay86_apply, maxChunk M S _ _ ⟨n, hn⟩ _ (hs _), if_pos (by omega)]
      · congr 1
        exact Fin.ext (by show 128 * n + (x.val - 128 * n) = x.val; omega)
      · intro l
        rw [View.readCov, chunkM, ih, if_neg]
        show ¬ 128 * n + l.val < 128 * n
        omega
    · rename_i h
      dsimp only at h
      rw [ih]
      by_cases h' : x.val < 128 * n
      · rw [if_pos h', if_pos (by omega)]
      · rw [if_neg h', if_neg (by omega)]

theorem nextM_holds : HM v12 (nextM v12 rs B 8 le_rfl) (mxF M S) := fun f x => by
  rw [nextM_part v12 M S rs hs B hB 8 le_rfl f x, if_pos x.isLt]

theorem readM_apply (j : Fin 8) (l : Fin 128) : readM v12 rs B j (ix2 (0 : Fin 1) l) = M (col j l) := by
  rw [readM, View.readCov, chunkM, nextM_part v12 M S rs hs B hB, if_neg]
  show ¬ 128 * j.val + l.val < 128 * j.val
  omega

omit hB

theorem nextA_part (hm : ∀ j l, rm j (ix2 (0 : Fin 1) l) = M (col j l)) (hv : ∀ y r, vt (ix2 y r) = V y r) (C : List (PieceA Ideal)) (hC : HA v13 C A)
    (n : ℕ) (hn : n ≤ 4) (f : v13.ty.Contents (Elt Ideal)) (y : Fin 144) (x : Fin 1024) :
    v13.read (Elt Ideal) (v13.writes (Elt Ideal) f (nextA v13 vt rm rs C n hn)) (ix2 y (pad x)) = if x.val < 256 * n then acF M S V A y x else A y x := by
  induction n generalizing f y x with
  | zero => rw [nextA, if_neg (by omega)]; exact hC f y x
  | succ n ih =>
    rw [nextA, consA]
    split
    · rename_i h
      rw [if_pos (by have := h.2; dsimp only at this; omega)]
      refine accPair M S V A vt _ _ _ _ _ n hn (hs _) (hs _) (hm _) (hm _) hv (fun y l => ?_) y x h
      rw [View.readCov, chunkA, ih, if_neg]
      show ¬ 256 * n + l.val < 256 * n
      omega
    · rename_i h
      dsimp only at h
      rw [ih]
      by_cases h' : x.val < 256 * n
      · rw [if_pos h', if_pos (by omega)]
      · rw [if_neg h', if_neg (by omega)]

theorem nextA_holds (hm : ∀ j l, rm j (ix2 (0 : Fin 1) l) = M (col j l)) (hv : ∀ y r, vt (ix2 y r) = V y r) (C : List (PieceA Ideal)) (hC : HA v13 C A) :
    HA v13 (nextA v13 vt rm rs C 4 le_rfl) (acF M S V A) := fun f y x => by
  rw [nextA_part v13 M S V A rm rs vt hs hm hv C hC 4 le_rfl f y x, if_pos x.isLt]

end

end

end Cert.Proof.Flash

end
-- ==== Proof.Flash.Trip.lean ====
/-
  What one trip of the key loop writes, as passes over the chunks: the scores of the next two blocks of keys, and two
  passes of the softmax, the first over what the trip finds and the second over what the first has written.
-/
module

public import proofs.«01_k».proof.Proof.Flash.Shape
import all proofs.«01_k».proof.Proof.Gen.KernelIdeal.Loops

@[expose] public section

set_option maxRecDepth 16384

noncomputable section

namespace Cert.Proof.Flash

open Cert.KernelIdeal Cert.KernelIdeal.Gen

open Idealize.ShloMosaic Idealize.ShloMosaic.TcCoe

variable {F : FTy → Type} [FloatOps F] [Named F]

variable (𝒱 : Variants) (c : Dev nD) (bd : Option 𝒱.V) (i : grid0.Coords) (arg3 : Memref sig .tc .vmem S1x512x256 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x128 .bf16) (harg6 : arg6.IsWhole) (arg7 : Memref sig .tc .vmem S1x128x128 .bf16) (harg7 : arg7.IsWhole) (arg8 : Memref sig .tc .vmem S1x256x512 .bf16) (harg8 : arg8.IsWhole) (arg9 : Memref sig .tc .vmem S128x1024 .bf16) (harg9 : arg9.IsWhole) (arg10 : Memref sig .tc .vmem S512x1152 .f32) (harg10 : arg10.IsWhole) (arg11 : Memref sig .tc .vmem S512x1152 .f32) (harg11 : arg11.IsWhole) (arg12 : Memref sig .tc .vmem S1x1024 .f32) (harg12 : arg12.IsWhole) (arg13 : Memref sig .tc .vmem S144x1152 .f32) (harg13 : arg13.IsWhole) (v62 : FVec F S144x128 .bf16) (v64 : FVec F S128x1024 .f32) (X_arg4 : BufTy.Contents (Elt F) arg4.view.ty) (X_arg5 : BufTy.Contents (Elt F) arg5.view.ty) (X_arg9 : BufTy.Contents (Elt F) arg9.view.ty) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty)

/-- The scores of the block of keys read at offsets `o`. -/
abbrev tS (o : Fin 3 → ℕ) (h : ∀ a, o a + S1x512x128.size a ≤ S1x8192x128.size a) : FVec F S512x1024 .f32 :=
  k0_pay82 (View.readAt (Elt F) arg4.view (Rect.unit (s := S1x8192x128) o S1x512x128.size h).toLoadRect X_arg4)
    (View.readAt (Elt F) arg9.view (Rect.unit (s := S128x1024) ![0, 0] S128x1024.size inb_S128x1024_S128x1024_0_0).toLoadRect X_arg9)
/-- The values of the block read at offsets `o`, the rows of ones below. -/
abbrev tV (o : Fin 4 → ℕ) (h : ∀ a, o a + S1x1x128x512.size a ≤ S1x16x128x512.size a) : FVec F S144x512 .bf16 :=
  k0_pay83 (View.readAt (Elt F) arg5.view (Rect.unit (s := S1x16x128x512) o S1x1x128x512.size h).toLoadRect X_arg5)

/-- The chunks of the maximum, the scores and the accumulator that the trip finds. -/
abbrev tM (j : Fin 8) : Vec F S1x128 .f32 := View.readAt (Elt F) arg12.view (cm j).toLoadRect f_arg12
abbrev tC (j : Fin 8) : Vec F S512x128 .f32 := View.readAt (Elt F) arg10.view (cs j).toLoadRect f_arg10
abbrev tA (p : Fin 4) : Vec F S144x256 .f32 := View.readAt (Elt F) arg13.view (ca p).toLoadRect f_arg13
/-- The chunks of the scores the trip writes before its second pass. -/
abbrev tC2 (j : Fin 8) : Vec F S512x128 .f32 :=
  arg11.view.readCov [⟨ws, tS arg4 arg9 X_arg4 X_arg9 (k0_off1 k 1#32) (k0_off1_inb k 0)⟩] (cs j).toLoadRect

theorem trip_arg10 : (trip_k0_t1 (F := F) 𝒱 c bd i arg3 harg3 arg4 harg4 arg5 harg5 arg6 harg6 arg7 harg7 arg8 harg8 arg9 harg9 arg10 harg10 arg11 harg11 arg12 harg12 arg13 harg13 v62 v64 X_arg4 X_arg5 X_arg9 k).1 f_arg10 f_arg11 f_arg12 f_arg13
    = [⟨ws, tS arg4 arg9 X_arg4 X_arg9 (k0_off1 k 2#32) (k0_off1_inb k 1)⟩] := by
  unfold trip_k0_t1; rfl

theorem trip_arg11 : (trip_k0_t1 (F := F) 𝒱 c bd i arg3 harg3 arg4 harg4 arg5 harg5 arg6 harg6 arg7 harg7 arg8 harg8 arg9 harg9 arg10 harg10 arg11 harg11 arg12 harg12 arg13 harg13 v62 v64 X_arg4 X_arg5 X_arg9 k).2.1 f_arg10 f_arg11 f_arg12 f_arg13
    = [⟨ws, tS arg4 arg9 X_arg4 X_arg9 (k0_off1 k 1#32) (k0_off1_inb k 0)⟩] := by
  unfold trip_k0_t1; rfl

theorem trip_arg12 : (trip_k0_t1 (F := F) 𝒱 c bd i arg3 harg3 arg4 harg4 arg5 harg5 arg6 harg6 arg7 harg7 arg8 harg8 arg9 harg9 arg10 harg10 arg11 harg11 arg12 harg12 arg13 harg13 v62 v64 X_arg4 X_arg5 X_arg9 k).2.2.1 f_arg10 f_arg11 f_arg12 f_arg13
    = nextM arg12.view (tC2 arg4 arg9 arg11 X_arg4 X_arg9 k) (firstM (tM arg12 f_arg12) (tC arg10 f_arg10) 8 le_rfl) 8 le_rfl := by
  unfold trip_k0_t1; rfl

theorem trip_arg13 : (trip_k0_t1 (F := F) 𝒱 c bd i arg3 harg3 arg4 harg4 arg5 harg5 arg6 harg6 arg7 harg7 arg8 harg8 arg9 harg9 arg10 harg10 arg11 harg11 arg12 harg12 arg13 harg13 v62 v64 X_arg4 X_arg5 X_arg9 k).2.2.2.1 f_arg10 f_arg11 f_arg12 f_arg13
    = nextA arg13.view (tV arg5 X_arg5 (k0_off3 k) (k0_off3_inb k))
        (readM arg12.view (tC2 arg4 arg9 arg11 X_arg4 X_arg9 k) (firstM (tM arg12 f_arg12) (tC arg10 f_arg10) 8 le_rfl))
        (tC2 arg4 arg9 arg11 X_arg4 X_arg9 k)
        (firstA (tV arg5 X_arg5 (k0_off2 k) (k0_off2_inb k)) (tM arg12 f_arg12) (tC arg10 f_arg10) (tA arg13 f_arg13) 4 le_rfl) 4 le_rfl := by
  unfold trip_k0_t1; rfl

end Cert.Proof.Flash

end
-- ==== Proof.Flash.RunShape.lean ====
/-
  What the attention body leaves in the output block, as the prologue, the key loop and the last two passes.
-/
module

public import proofs.«01_k».proof.Proof.Flash.Trip
import all proofs.«01_k».proof.Proof.Flash.Run
import all proofs.«01_k».proof.Proof.Gen.KernelIdeal.Loops

@[expose] public section

set_option maxRecDepth 16384

noncomputable section

namespace Cert.Proof.Flash

open Cert.KernelIdeal Cert.KernelIdeal.Gen

open Idealize.ShloMosaic Idealize.ShloMosaic.TcCoe

variable {F : FTy → Type} [FloatOps F] [Named F]

variable (c : Dev nD) (i : grid0.Coords)
    (arg3 : Memref sig .tc .vmem S1x512x256 .bf16) (harg3 : arg3.IsWhole) (arg4 : Memref sig .tc .vmem S1x8192x128 .bf16) (harg4 : arg4.IsWhole)
    (arg5 : Memref sig .tc .vmem S1x16x128x512 .bf16) (harg5 : arg5.IsWhole) (arg6 : Memref sig .tc .vmem S128x128 .bf16) (harg6 : arg6.IsWhole)
    (arg7 : Memref sig .tc .vmem S1x128x128 .bf16) (harg7 : arg7.IsWhole) (arg8 : Memref sig .tc .vmem S1x256x512 .bf16) (harg8 : arg8.IsWhole)
    (arg9 : Memref sig .tc .vmem S128x1024 .bf16) (harg9 : arg9.IsWhole) (arg10 : Memref sig .tc .vmem S512x1152 .f32) (harg10 : arg10.IsWhole)
    (arg11 : Memref sig .tc .vmem S512x1152 .f32) (harg11 : arg11.IsWhole) (arg12 : Memref sig .tc .vmem S1x1024 .f32) (harg12 : arg12.IsWhole)
    (arg13 : Memref sig .tc .vmem S144x1152 .f32) (harg13 : arg13.IsWhole)
    (x0 : Vec F S1x512x256 .bf16) (x1 : Vec F S1x8192x128 .bf16) (x2 : Vec F S1x16x128x512 .bf16) (x3 : Vec F S128x128 .bf16) (x4 : Vec F S1x128x128 .bf16)
    (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty)

/-- The pieces of the scaled queries, one group of 256 columns per head. -/
def qL : List (View.Piece (Elt F) S128x1024 .bf16) :=
  [⟨Rect.unit ![0, 768] S128x256.size inb_S128x1024_S128x256_0_768, k0_pay73 (k0_pay72 (View.readAt (Elt F) arg3.view
      (Rect.unit (s := S1x512x256) ![0, 384, 0] S1x128x256.size inb_S1x512x256_S1x128x256_0_384_0).toLoadRect (harg3.unread x0)))⟩,
   ⟨Rect.unit ![0, 512] S128x256.size inb_S128x1024_S128x256_0_512, k0_pay71 (View.readAt (Elt F) arg3.view
      (Rect.unit (s := S1x512x256) ![0, 256, 0] S1x128x256.size inb_S1x512x256_S1x128x256_0_256_0).toLoadRect (harg3.unread x0))⟩,
   ⟨Rect.unit ![0, 256] S128x256.size inb_S128x1024_S128x256_0_256, k0_pay70 (View.readAt (Elt F) arg3.view
      (Rect.unit (s := S1x512x256) ![0, 128, 0] S1x128x256.size inb_S1x512x256_S1x128x256_0_128_0).toLoadRect (harg3.unread x0))⟩,
   ⟨Rect.unit ![0, 0] S128x256.size inb_S128x1024_S128x256_0_0, k0_pay69 (View.readAt (Elt F) arg3.view
      (Rect.unit (s := S1x512x256) ![0, 0, 0] S1x128x256.size inb_S1x512x256_S1x128x256_0_0_0).toLoadRect (harg3.unread x0))⟩]

/-- The scaled queries as the body reads them. -/
def qA : Vec F S128x1024 .bf16 :=
  arg9.view.readCov (qL arg3 harg3 x0) (Rect.unit (s := S128x1024) ![0, 0] S128x1024.size inb_S128x1024_S128x1024_0_0).toLoadRect

/-- The scores of the block of keys at offsets `o`. -/
def rS (o : Fin 3 → ℕ) (h : ∀ a, o a + S1x512x128.size a ≤ S1x8192x128.size a) : FVec F S512x1024 .f32 :=
  k0_pay82 (View.readAt (Elt F) arg4.view (Rect.unit (s := S1x8192x128) o S1x512x128.size h).toLoadRect (harg4.unread x1))
    (qA arg3 harg3 arg9 x0)
/-- The values of the block at offsets `o`, the rows of ones below. -/
def rV (o : Fin 4 → ℕ) (h : ∀ a, o a + S1x1x128x512.size a ≤ S1x16x128x512.size a) : FVec F S144x512 .bf16 :=
  k0_pay83 (View.readAt (Elt F) arg5.view (Rect.unit (s := S1x16x128x512) o S1x1x128x512.size h).toLoadRect (harg5.unread x2))

/-- The meta keys' block. -/
def mK : Vec F S128x128 .bf16 :=
  View.readAt (Elt F) arg6.view (Rect.unit (s := S128x128) ![0, 0] S128x128.size inb_S128x128_S128x128_0_0).toLoadRect (harg6.unread x3)

/-- What the prologue stores: the scores of the first block, the maxima and the accumulator of the meta keys. -/
def i10 : List (PieceS F) := [⟨ws, rS arg3 harg3 arg4 harg4 arg9 x0 x1 ![0, 0, 0] inb_S1x8192x128_S1x512x128_0_0_0⟩]
def i12 : List (PieceM F) := [⟨Rect.unit ![0, 0] S1x1024.size inb_S1x1024_S1x1024_0_0, k0_pay77 (mK arg6 harg6 x3) (qA arg3 harg3 arg9 x0)⟩]
def i13 : List (PieceA F) := [⟨Rect.unit ![0, 0] S144x1024.size inb_S144x1152_S144x1024_0_0,
  k0_pay80 (k0_pay78 (View.readAt (Elt F) arg7.view (Rect.unit (s := S1x128x128) ![0, 0, 0] S1x128x128.size inb_S1x128x128_S1x128x128_0_0_0).toLoadRect (harg7.unread x4)))
    (k0_pay79 (mK arg6 harg6 x3) (qA arg3 harg3 arg9 x0))⟩]

/-- What the first `n` trips store. -/
def loopL (n : ℕ) : List (PieceS F) × List (PieceS F) × List (PieceM F) × List (PieceA F) :=
  pb_k0_t1 Variants.none c none i arg3 harg3 arg4 harg4 arg5 harg5 arg6 harg6 arg7 harg7 arg8 harg8 arg9 harg9 arg10 harg10 arg11 harg11 arg12 harg12 arg13 harg13 (constant S144x128 .bf16 0#16) (constant S128x1024 .f32 0#32)
    (harg4.unread x1) (harg5.unread x2) (arg9.view.writes (Elt F) arg9.view.junk (qL arg3 harg3 x0))
    (arg10.view.writes (Elt F) f10 (i10 arg3 harg3 arg4 harg4 arg9 x0 x1)) f11
    (arg12.view.writes (Elt F) arg12.view.junk (i12 arg3 harg3 arg6 harg6 arg9 x0 x3))
    (arg13.view.writes (Elt F) f13 (i13 arg3 harg3 arg6 harg6 arg7 harg7 arg9 x0 x3 x4)) n

/-- All that is stored before the last two passes. -/
abbrev LL := loopL c i arg3 harg3 arg4 harg4 arg5 harg5 arg6 harg6 arg7 harg7 arg8 harg8 arg9 harg9 arg10 harg10 arg11 harg11 arg12 harg12 arg13 harg13 x0 x1 x2 x3 x4 f10 f11 f13 (Scf.trips k0_t1_loop.lb k0_t1_loop.ub k0_t1_loop.st)

/-- The chunks of the scores that the last two passes read. -/
def eC0 (j : Fin 8) : Vec F S512x128 .f32 :=
  arg10.view.readCov ((LL c i arg3 harg3 arg4 harg4 arg5 harg5 arg6 harg6 arg7 harg7 arg8 harg8 arg9 harg9 arg10 harg10 arg11 harg11 arg12 harg12 arg13 harg13 x0 x1 x2 x3 x4 f10 f11 f13).1 ++ i10 arg3 harg3 arg4 harg4 arg9 x0 x1) (cs j).toLoadRect
def eC1 (j : Fin 8) : Vec F S512x128 .f32 :=
  arg11.view.readCov (⟨ws, rS arg3 harg3 arg4 harg4 arg9 x0 x1 ![0, 7680, 0] inb_S1x8192x128_S1x512x128_0_7680_0⟩ :: (LL c i arg3 harg3 arg4 harg4 arg5 harg5 arg6 harg6 arg7 harg7 arg8 harg8 arg9 harg9 arg10 harg10 arg11 harg11 arg12 harg12 arg13 harg13 x0 x1 x2 x3 x4 f10 f11 f13).2.1) (cs j).toLoadRect

/-- The maxima and accumulators before the last two passes, after the first of them, and the accumulators after the second. -/
def e12 : List (PieceM F) := (LL c i arg3 harg3 arg4 harg4 arg5 harg5 arg6 harg6 arg7 harg7 arg8 harg8 arg9 harg9 arg10 harg10 arg11 harg11 arg12 harg12 arg13 harg13 x0 x1 x2 x3 x4 f10 f11 f13).2.2.1 ++ i12 arg3 harg3 arg6 harg6 arg9 x0 x3
def e13 : List (PieceA F) := (LL c i arg3 harg3 arg4 harg4 arg5 harg5 arg6 harg6 arg7 harg7 arg8 harg8 arg9 harg9 arg10 harg10 arg11 harg11 arg12 harg12 arg13 harg13 x0 x1 x2 x3 x4 f10 f11 f13).2.2.2 ++ i13 arg3 harg3 arg6 harg6 arg7 harg7 arg9 x0 x3 x4
def e12' : List (PieceM F) :=
  nextM arg12.view (eC0 c i arg3 harg3 arg4 harg4 arg5 harg5 arg6 harg6 arg7 harg7 arg8 harg8 arg9 harg9 arg10 harg10 arg11 harg11 arg12 harg12 arg13 harg13 x0 x1 x2 x3 x4 f10 f11 f13) (e12 c i arg3 harg3 arg4 harg4 arg5 harg5 arg6 harg6 arg7 harg7 arg8 harg8 arg9 harg9 arg10 harg10 arg11 harg11 arg12 harg12 arg13 harg13 x0 x1 x2 x3 x4 f10 f11 f13) 8 le_rfl
def e13' : List (PieceA F) :=
  nextA arg13.view (rV arg5 harg5 x2 ![0, 14, 0, 0] inb_S1x16x128x512_S1x1x128x512_0_14_0_0)
    (readM arg12.view (eC0 c i arg3 harg3 arg4 harg4 arg5 harg5 arg6 harg6 arg7 harg7 arg8 harg8 arg9 harg9 arg10 harg10 arg11 harg11 arg12 harg12 arg13 harg13 x0 x1 x2 x3 x4 f10 f11 f13) (e12 c i arg3 harg3 arg4 harg4 arg5 harg5 arg6 harg6 arg7 harg7 arg8 harg8 arg9 harg9 arg10 harg10 arg11 harg11 arg12 harg12 arg13 harg13 x0 x1 x2 x3 x4 f10 f11 f13))
    (eC0 c i arg3 harg3 arg4 harg4 arg5 harg5 arg6 harg6 arg7 harg7 arg8 harg8 arg9 harg9 arg10 harg10 arg11 harg11 arg12 harg12 arg13 harg13 x0 x1 x2 x3 x4 f10 f11 f13) (e13 c i arg3 harg3 arg4 harg4 arg5 harg5 arg6 harg6 arg7 harg7 arg8 harg8 arg9 harg9 arg10 harg10 arg11 harg11 arg12 harg12 arg13 harg13 x0 x1 x2 x3 x4 f10 f11 f13) 4 le_rfl
def e13'' : List (PieceA F) :=
  nextA arg13.view (rV arg5 harg5 x2 ![0, 15, 0, 0] inb_S1x16x128x512_S1x1x128x512_0_15_0_0)
    (readM arg12.view (eC1 c i arg3 harg3 arg4 harg4 arg5 harg5 arg6 harg6 arg7 harg7 arg8 harg8 arg9 harg9 arg10 harg10 arg11 harg11 arg12 harg12 arg13 harg13 x0 x1 x2 x3 x4 f10 f11 f13) (e12' c i arg3 harg3 arg4 harg4 arg5 harg5 arg6 harg6 arg7 harg7 arg8 harg8 arg9 harg9 arg10 harg10 arg11 harg11 arg12 harg12 arg13 harg13 x0 x1 x2 x3 x4 f10 f11 f13))
    (eC1 c i arg3 harg3 arg4 harg4 arg5 harg5 arg6 harg6 arg7 harg7 arg8 harg8 arg9 harg9 arg10 harg10 arg11 harg11 arg12 harg12 arg13 harg13 x0 x1 x2 x3 x4 f10 f11 f13) (e13' c i arg3 harg3 arg4 harg4 arg5 harg5 arg6 harg6 arg7 harg7 arg8 harg8 arg9 harg9 arg10 harg10 arg11 harg11 arg12 harg12 arg13 harg13 x0 x1 x2 x3 x4 f10 f11 f13) 4 le_rfl

/-- The sums of the values and of the weights at the end. -/
def fin0 : Vec F S128x1024 .f32 :=
  arg13.view.readCov (e13'' c i arg3 harg3 arg4 harg4 arg5 harg5 arg6 harg6 arg7 harg7 arg8 harg8 arg9 harg9 arg10 harg10 arg11 harg11 arg12 harg12 arg13 harg13 x0 x1 x2 x3 x4 f10 f11 f13) (Rect.unit (s := S144x1152) ![0, 0] S128x1024.size inb_S144x1152_S128x1024_0_0).toLoadRect
def fin1 : Vec F S1x1024 .f32 :=
  arg13.view.readCov (e13'' c i arg3 harg3 arg4 harg4 arg5 harg5 arg6 harg6 arg7 harg7 arg8 harg8 arg9 harg9 arg10 harg10 arg11 harg11 arg12 harg12 arg13 harg13 x0 x1 x2 x3 x4 f10 f11 f13) (Rect.unit (s := S144x1152) ![128, 0] S1x1024.size inb_S144x1152_S1x1024_128_0).toLoadRect

/-- The four heads' pieces of the output block. -/
def outL (a : Vec F S128x1024 .f32) (b : Vec F S1x1024 .f32) : List (View.Piece (Elt F) S1x256x512 .bf16) :=
  [⟨Rect.unit ![0, 0, 384] S1x256x128.size inb_S1x256x512_S1x256x128_0_0_384, k0_pay5 a b (broadcast S1x1024 (FloatOps.ofBits .f32 1065353216#32))⟩,
   ⟨Rect.unit ![0, 0, 256] S1x256x128.size inb_S1x256x512_S1x256x128_0_0_256, k0_pay4 a b (broadcast S1x1024 (FloatOps.ofBits .f32 1065353216#32))⟩,
   ⟨Rect.unit ![0, 0, 128] S1x256x128.size inb_S1x256x512_S1x256x128_0_0_128, k0_pay3 a b (broadcast S1x1024 (FloatOps.ofBits .f32 1065353216#32))⟩,
   ⟨Rect.unit ![0, 0, 0] S1x256x128.size inb_S1x256x512_S1x256x128_0_0_0, k0_pay2 a b (broadcast S1x1024 (FloatOps.ofBits .f32 1065353216#32))⟩]

set_option maxHeartbeats 1000000 in
theorem kernelRun_eq : (kernelRun c i arg3 harg3 arg4 harg4 arg5 harg5 arg6 harg6 arg7 harg7 arg8 harg8 arg9 harg9 arg10 harg10 arg11 harg11 arg12 harg12 arg13 harg13 x0 x1 x2 x3 x4 f9 f10 f11 f12 f13).1 = outL
    (fin0 c i arg3 harg3 arg4 harg4 arg5 harg5 arg6 harg6 arg7 harg7 arg8 harg8 arg9 harg9 arg10 harg10 arg11 harg11 arg12 harg12 arg13 harg13 x0 x1 x2 x3 x4 f10 f11 f13)
    (fin1 c i arg3 harg3 arg4 harg4 arg5 harg5 arg6 harg6 arg7 harg7 arg8 harg8 arg9 harg9 arg10 harg10 arg11 harg11 arg12 harg12 arg13 harg13 x0 x1 x2 x3 x4 f10 f11 f13) := by
  unfold kernelRun; rfl

end Cert.Proof.Flash

end
-- ==== Proof.Flash.Loop.lean ====
/-
  The key loop over the extended reals: after `k` trips the buffers hold the scores of block `2k`, and the maxima and
  accumulators of the meta keys and the blocks before it; after the last two passes, of all the sixteen blocks.
-/
module

public import proofs.«01_k».proof.Proof.Flash.Pass
public import proofs.«01_k».proof.Proof.Flash.RunShape

@[expose] public section

set_option maxRecDepth 16384

noncomputable section

namespace Cert.Proof.Flash

open Cert.KernelIdeal Cert.KernelIdeal.Gen

open Idealize.ShloMosaic Idealize.ShloMosaic.TcCoe

/-! ## The quantities, from the blocks `x0 … x4` of the queries, keys, values, meta keys and meta values -/

section
variable (x0 : Vec Ideal S1x512x256 .bf16) (x1 : Vec Ideal S1x8192x128 .bf16) (x2 : Vec Ideal S1x16x128x512 .bf16) (x3 : Vec Ideal S128x128 .bf16)
  (x4 : Vec Ideal S1x128x128 .bf16)

/-- The scaled queries: column `x` is token `x % 256` of head `x / 256`. -/
def Qm (d : Fin 128) (x : Fin 1024) : EReal := x0 (ix3 (0 : Fin 1) (⟨128 * (x.val / 256) + d.val, by omega⟩ : Fin 512) (⟨x.val % 256, by omega⟩ : Fin 256)) * scl
/-- The scores of block `b` of keys. -/
def Sm (b : ℕ) (r : Fin 512) (x : Fin 1024) : EReal :=
  ∑ d : Fin 128, x1 (ix3 (0 : Fin 1) (⟨(512 * b + r.val) % 8192, by omega⟩ : Fin 8192) d) * Qm x0 d x
/-- The values of block `b`, and ones below. -/
def Vm (b : ℕ) (y : Fin 144) (r : Fin 512) : EReal :=
  if h : y.val < 128 then x2 (ix4 (0 : Fin 1) (⟨b % 16, by omega⟩ : Fin 16) (⟨y.val, h⟩ : Fin 128) r) else 1
/-- The scores of the meta keys, of the padding `⊥`. -/
def S0 (r : Fin 128) (x : Fin 1024) : EReal := if r.val < 16 then ∑ d : Fin 128, x3 (ix2 r d) * Qm x0 d x else ⊥
def V0 (y : Fin 144) (r : Fin 128) : EReal := if h : y.val < 128 then x4 (ix3 (0 : Fin 1) (⟨y.val, h⟩ : Fin 128) r) else 1
/-- The maxima and the accumulators of the meta keys, -/
def M0 (x : Fin 1024) : EReal := top 128 fun r => S0 x0 x3 r x
def A0 (y : Fin 144) (x : Fin 1024) : EReal := ∑ r : Fin 128, V0 x4 y r * Ideal.exp2 (S0 x0 x3 r x - M0 x0 x3 x)
/-- and of the first `n` blocks with them. -/
def Ms : ℕ → Fin 1024 → EReal
  | 0 => M0 x0 x3
  | n + 1 => mxF (Ms n) (Sm x0 x1 n)
def As : ℕ → Fin 144 → Fin 1024 → EReal
  | 0 => A0 x0 x3 x4
  | n + 1 => acF (Ms x0 x1 x3 n) (Sm x0 x1 n) (Vm x2 n) (As n)
end

/-! ## What the body reads -/

variable (c : Dev nD) (i : grid0.Coords)
    (arg3 : Memref sig .tc .vmem S1x512x256 .bf16) (harg3 : arg3.IsWhole) (arg4 : Memref sig .tc .vmem S1x8192x128 .bf16) (harg4 : arg4.IsWhole)
    (arg5 : Memref sig .tc .vmem S1x16x128x512 .bf16) (harg5 : arg5.IsWhole) (arg6 : Memref sig .tc .vmem S128x128 .bf16) (harg6 : arg6.IsWhole)
    (arg7 : Memref sig .tc .vmem S1x128x128 .bf16) (harg7 : arg7.IsWhole) (arg8 : Memref sig .tc .vmem S1x256x512 .bf16) (harg8 : arg8.IsWhole)
    (arg9 : Memref sig .tc .vmem S128x1024 .bf16) (harg9 : arg9.IsWhole) (arg10 : Memref sig .tc .vmem S512x1152 .f32) (harg10 : arg10.IsWhole)
    (arg11 : Memref sig .tc .vmem S512x1152 .f32) (harg11 : arg11.IsWhole) (arg12 : Memref sig .tc .vmem S1x1024 .f32) (harg12 : arg12.IsWhole)
    (arg13 : Memref sig .tc .vmem S144x1152 .f32) (harg13 : arg13.IsWhole)
    (x0 : Vec Ideal S1x512x256 .bf16) (x1 : Vec Ideal S1x8192x128 .bf16) (x2 : Vec Ideal S1x16x128x512 .bf16) (x3 : Vec Ideal S128x128 .bf16) (x4 : Vec Ideal S1x128x128 .bf16)
    (f9 : BufTy.Contents (Elt Ideal) arg9.view.ty) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty)

theorem qL_read (f : arg9.view.ty.Contents (Elt Ideal)) (d : Fin 128) (x : Fin 1024) :
    arg9.view.read (Elt Ideal) (arg9.view.writes (Elt Ideal) f (qL arg3 harg3 x0)) (ix2 d x) = Qm x0 d x := by
  have key : ∀ (g : ℕ) (inb : ∀ a, (![0, 128 * g, 0] : Fin 3 → ℕ) a + S1x128x256.size a ≤ S1x512x256.size a) (l : Fin 256) (hx : x.val = 256 * g + l.val),
      View.readAt (Elt Ideal) arg3.view (Rect.unit (s := S1x512x256) ![0, 128 * g, 0] S1x128x256.size inb).toLoadRect (harg3.unread x0) (ix3 (0 : Fin 1) d l) * scl
        = Qm x0 d x := by
    intro g inb l hx
    rw [View.readAt_apply, harg3.read_unread, Qm]
    congr 2
    funext a
    apply Fin.ext
    match a with
    | ⟨0, _⟩ => rfl
    | ⟨1, _⟩ => show 128 * g + 1 * d.val = 128 * (x.val / 256) + d.val; omega
    | ⟨2, _⟩ => show 0 + 1 * l.val = x.val % 256; omega
  have hit : ∀ (g : ℕ) (r : Rect S128x1024) (w : r.shape.Idx → EReal) (y : r.shape.Idx) (L : List (View.Piece (Elt Ideal) S128x1024 .bf16)),
      (∀ a, (ix2 d x a).val = r.off a + r.stride a * (y a).val) → w y = Qm x0 d x →
      arg9.view.read (Elt Ideal) (arg9.view.writes (Elt Ideal) f (⟨r, w⟩ :: L)) (ix2 d x) = Qm x0 d x := fun g r w y L h e =>
    (View.read_writes_cons_hit_of_coords arg9.view f r w L y _ h).trans e
  have hd : ∀ (g : ℕ) (l : Fin 256) (hx : x.val = 256 * g + l.val) (inb : ∀ a, (![0, 256 * g] : Fin 2 → ℕ) a + S128x256.size a ≤ S128x1024.size a) (a : Fin 2),
      (ix2 d x a).val = (Rect.unit (s := S128x1024) ![0, 256 * g] S128x256.size inb).off a
        + (Rect.unit (s := S128x1024) ![0, 256 * g] S128x256.size inb).stride a * (ix2 d l a).val := by
    intro g l hx inb a
    match a with
    | ⟨0, _⟩ => show d.val = 0 + 1 * d.val; omega
    | ⟨1, _⟩ => show x.val = 256 * g + 1 * l.val; omega
  unfold qL
  by_cases h3 : 768 ≤ x.val
  · have hx : x.val = 256 * 3 + (⟨x.val - 768, by omega⟩ : Fin 256).val := by show x.val = 256 * 3 + (x.val - 768); omega
    exact hit 3 _ _ _ _ (hd 3 _ hx inb_S128x1024_S128x256_0_768) ((pay73_apply _ d _).trans (key 3 inb_S1x512x256_S1x128x256_0_384_0 _ hx))
  rw [View.read_writes_cons_miss_of_axis arg9.view f _ _ _ 1 768 256 rfl rfl rfl (by show x.val < _ ∨ _ ≤ x.val; omega)]
  by_cases h2 : 512 ≤ x.val
  · have hx : x.val = 256 * 2 + (⟨x.val - 512, by omega⟩ : Fin 256).val := by show x.val = 256 * 2 + (x.val - 512); omega
    exact hit 2 _ _ _ _ (hd 2 _ hx inb_S128x1024_S128x256_0_512) ((pay71_apply _ d _).trans (key 2 inb_S1x512x256_S1x128x256_0_256_0 _ hx))
  rw [View.read_writes_cons_miss_of_axis arg9.view f _ _ _ 1 512 256 rfl rfl rfl (by show x.val < _ ∨ _ ≤ x.val; omega)]
  by_cases h1 : 256 ≤ x.val
  · have hx : x.val = 256 * 1 + (⟨x.val - 256, by omega⟩ : Fin 256).val := by show x.val = 256 * 1 + (x.val - 256); omega
    exact hit 1 _ _ _ _ (hd 1 _ hx inb_S128x1024_S128x256_0_256) ((pay70_apply _ d _).trans (key 1 inb_S1x512x256_S1x128x256_0_128_0 _ hx))
  rw [View.read_writes_cons_miss_of_axis arg9.view f _ _ _ 1 256 256 rfl rfl rfl (by show x.val < _ ∨ _ ≤ x.val; omega)]
  have hx : x.val = 256 * 0 + (⟨x.val, by omega⟩ : Fin 256).val := by show x.val = 256 * 0 + x.val; omega
  exact hit 0 _ _ _ _ (hd 0 _ hx inb_S128x1024_S128x256_0_0) ((pay69_apply _ d _).trans (key 0 inb_S1x512x256_S1x128x256_0_0_0 _ hx))

theorem qA_apply (d : Fin 128) (x : Fin 1024) : qA arg3 harg3 arg9 x0 (ix2 d x) = Qm x0 d x := by
  rw [qA, View.readCov, View.readAt_apply]
  refine Eq.trans (congrArg _ ?_) (qL_read arg3 harg3 arg9 x0 _ d x)
  funext a
  apply Fin.ext
  match a with
  | ⟨0, _⟩ => show 0 + 1 * d.val = d.val; omega
  | ⟨1, _⟩ => show 0 + 1 * x.val = x.val; omega

theorem rS_apply (b : ℕ) (o : Fin 3 → ℕ) (h : ∀ a, o a + S1x512x128.size a ≤ S1x8192x128.size a) (h0 : o 0 = 0) (ho : o 1 = 512 * b) (h2 : o 2 = 0)
    (r : Fin 512) (x : Fin 1024) : rS arg3 harg3 arg4 harg4 arg9 x0 x1 o h (ix2 r x) = Sm x0 x1 b r x := by
  rw [rS, pay82_apply, Sm]
  refine Finset.sum_congr rfl fun d _ => ?_
  rw [qA_apply, View.readAt_apply, harg4.read_unread]
  congr 2
  have hb : 512 * b + 512 ≤ 8192 := by have := h 1; rw [ho] at this; exact this
  funext a
  apply Fin.ext
  match a with
  | ⟨0, _⟩ => show o 0 + 1 * 0 = 0; omega
  | ⟨1, _⟩ => show o 1 + 1 * r.val = (512 * b + r.val) % 8192; omega
  | ⟨2, _⟩ => show o 2 + 1 * d.val = d.val; omega

theorem rV_apply (b : ℕ) (o : Fin 4 → ℕ) (h : ∀ a, o a + S1x1x128x512.size a ≤ S1x16x128x512.size a) (h0 : o 0 = 0) (ho : o 1 = b) (h2 : o 2 = 0) (h3 : o 3 = 0)
    (y : Fin 144) (r : Fin 512) : rV arg5 harg5 x2 o h (ix2 y r) = Vm x2 b y r := by
  rw [rV, Vm]
  split
  · rename_i hy
    refine (pay83_value _ (⟨y.val, hy⟩ : Fin 128) r).trans ?_
    rw [View.readAt_apply, harg5.read_unread]
    congr 1
    have hb : b + 1 ≤ 16 := by have := h 1; rw [ho] at this; exact this
    funext a
    apply Fin.ext
    match a with
    | ⟨0, _⟩ => show o 0 + 1 * 0 = 0; omega
    | ⟨1, _⟩ => show o 1 + 1 * 0 = b % 16; omega
    | ⟨2, _⟩ => show o 2 + 1 * y.val = y.val; omega
    | ⟨3, _⟩ => show o 3 + 1 * r.val = r.val; omega
  · rename_i hy
    rw [show y = ⟨128 + (⟨y.val - 128, by omega⟩ : Fin 16).val, by show 128 + (y.val - 128) < 144; omega⟩ from
      Fin.ext (by show y.val = 128 + (y.val - 128); omega), pay83_one]

theorem pay75_meta (r : Fin 128) (x : Fin 1024) : k0_pay75 (mK arg6 harg6 x3) (qA arg3 harg3 arg9 x0) (ix2 r x) = S0 x0 x3 r x := by
  rw [pay75_apply, S0]
  split
  · refine Finset.sum_congr rfl fun d _ => ?_
    rw [qA_apply, mK, View.readAt_apply, harg6.read_unread]
    congr 2
    funext a
    apply Fin.ext
    match a with
    | ⟨0, _⟩ => show 0 + 1 * r.val = r.val; omega
    | ⟨1, _⟩ => show 0 + 1 * d.val = d.val; omega
  · rfl

theorem pay77_meta (x : Fin 1024) : k0_pay77 (mK arg6 harg6 x3) (qA arg3 harg3 arg9 x0) (ix2 0 x) = M0 x0 x3 x := by
  rw [pay77_apply, M0]
  simp only [pay75_meta]

/-- One whole block of scores written. -/
theorem HS_block (v : View sig .tc .vmem S512x1152 .f32) (w : FVec Ideal S512x1024 .f32) (S : Fin 512 → Fin 1024 → EReal) (h : ∀ r x, w (ix2 r x) = S r x) :
    HS v [⟨ws, w⟩] S := by
  intro f r x
  rw [← h]
  refine View.read_writes_cons_hit_of_coords v f ws w [] (ix2 r x) _ ?_
  intro a
  match a with
  | ⟨0, _⟩ => show r.val = 0 + 1 * r.val; omega
  | ⟨1, _⟩ => show x.val = 0 + 1 * x.val; omega

theorem i10_holds : HS arg10.view (i10 arg3 harg3 arg4 harg4 arg9 x0 x1) (Sm x0 x1 0) :=
  HS_block _ _ _ (rS_apply arg3 harg3 arg4 harg4 arg9 x0 x1 0 _ _ rfl rfl rfl)

/-- All the maxima written at once. -/
theorem HM_whole (v : View sig .tc .vmem S1x1024 .f32) (w : FVec Ideal S1x1024 .f32) (M : Fin 1024 → EReal) (h : ∀ x, w (ix2 (0 : Fin 1) x) = M x) :
    HM v [⟨Rect.unit (s := S1x1024) ![0, 0] S1x1024.size inb_S1x1024_S1x1024_0_0, w⟩] M := by
  intro f x
  have hx : ∀ a, ((ix2 (0 : Fin 1) x) a).val = (Rect.unit (s := S1x1024) ![0, 0] S1x1024.size inb_S1x1024_S1x1024_0_0).off a
      + (Rect.unit (s := S1x1024) ![0, 0] S1x1024.size inb_S1x1024_S1x1024_0_0).stride a * ((ix2 (0 : Fin 1) x) a).val :=
    Fin.forall_fin_two.mpr ⟨by show 0 = 0 + 1 * 0; omega, by show x.val = 0 + 1 * x.val; omega⟩
  have := (View.read_writes_cons_hit_of_coords v f (Rect.unit (s := S1x1024) ![0, 0] S1x1024.size inb_S1x1024_S1x1024_0_0) w [] (ix2 (0 : Fin 1) x) (ix2 (0 : Fin 1) x) hx)
  exact this.trans (h x)

theorem i12_holds : HM arg12.view (i12 arg3 harg3 arg6 harg6 arg9 x0 x3) (M0 x0 x3) :=
  HM_whole _ _ _ (pay77_meta arg3 harg3 arg6 harg6 arg9 x0 x3)

theorem pay78_meta (y : Fin 144) (r : Fin 128) :
    k0_pay78 (View.readAt (Elt Ideal) arg7.view (Rect.unit (s := S1x128x128) ![0, 0, 0] S1x128x128.size inb_S1x128x128_S1x128x128_0_0_0).toLoadRect (harg7.unread x4)) (ix2 y r)
      = V0 x4 y r := by
  rw [V0]
  split
  · rename_i hy
    refine (pay78_value _ (⟨y.val, hy⟩ : Fin 128) r).trans ?_
    rw [View.readAt_apply, harg7.read_unread]
    congr 1
    funext a
    apply Fin.ext
    match a with
    | ⟨0, _⟩ => rfl
    | ⟨1, _⟩ => show 0 + 1 * y.val = y.val; omega
    | ⟨2, _⟩ => show 0 + 1 * r.val = r.val; omega
  · rename_i hy
    rw [show y = ⟨128 + (⟨y.val - 128, by omega⟩ : Fin 16).val, by show 128 + (y.val - 128) < 144; omega⟩ from
      Fin.ext (by show y.val = 128 + (y.val - 128); omega), pay78_one]

theorem i13_holds : HA arg13.view (i13 arg3 harg3 arg6 harg6 arg7 harg7 arg9 x0 x3 x4) (A0 x0 x3 x4) := by
  intro f y x
  rw [i13]
  refine (View.read_writes_cons_hit_of_coords arg13.view f _ _ [] (ix2 y x) _ ?_).trans ?_
  · intro a
    match a with
    | ⟨0, _⟩ => show y.val = 0 + 1 * y.val; omega
    | ⟨1, _⟩ => show x.val = 0 + 1 * x.val; omega
  · rw [pay80_apply, A0]
    refine Finset.sum_congr rfl fun r _ => ?_
    rw [pay78_meta, pay79_apply, pay77_meta, pay75_meta]

/-! ## The trips -/

theorem off1_1 : ∀ k : Fin k0_t1_loop.trips, k0_off1 k 1#32 0 = 0 ∧ k0_off1 k 1#32 1 = 512 * (2 * k.val + 1) ∧ k0_off1 k 1#32 2 = 0 := by decide +kernel
theorem off1_2 : ∀ k : Fin k0_t1_loop.trips, k0_off1 k 2#32 0 = 0 ∧ k0_off1 k 2#32 1 = 512 * (2 * k.val + 2) ∧ k0_off1 k 2#32 2 = 0 := by decide +kernel
theorem off2_eq : ∀ k : Fin k0_t1_loop.trips, k0_off2 k 0 = 0 ∧ k0_off2 k 1 = 2 * k.val ∧ k0_off2 k 2 = 0 ∧ k0_off2 k 3 = 0 := by decide +kernel
theorem off3_eq : ∀ k : Fin k0_t1_loop.trips, k0_off3 k 0 = 0 ∧ k0_off3 k 1 = 2 * k.val + 1 ∧ k0_off3 k 2 = 0 ∧ k0_off3 k 3 = 0 := by decide +kernel

/-- What the buffers hold after `k` trips. -/
def Inv (k : ℕ) (P : List (PieceS Ideal) × List (PieceS Ideal) × List (PieceM Ideal) × List (PieceA Ideal)) : Prop :=
  HS arg10.view (P.1 ++ i10 arg3 harg3 arg4 harg4 arg9 x0 x1) (Sm x0 x1 (2 * k))
    ∧ HM arg12.view (P.2.2.1 ++ i12 arg3 harg3 arg6 harg6 arg9 x0 x3) (Ms x0 x1 x3 (2 * k))
    ∧ HA arg13.view (P.2.2.2 ++ i13 arg3 harg3 arg6 harg6 arg7 harg7 arg9 x0 x3 x4) (As x0 x1 x2 x3 x4 (2 * k))

theorem trip_inv (k : Fin k0_t1_loop.trips) (P : List (PieceS Ideal) × List (PieceS Ideal) × List (PieceM Ideal) × List (PieceA Ideal))
    (f12 : BufTy.Contents (Elt Ideal) arg12.view.ty)
    (h : Inv arg3 harg3 arg4 harg4 arg6 harg6 arg7 harg7 arg9 arg10 arg12 arg13 x0 x1 x2 x3 x4 k.val P) :
    let T := tripL_k0_t1 (F := Ideal) Variants.none c none i arg3 harg3 arg4 harg4 arg5 harg5 arg6 harg6 arg7 harg7 arg8 harg8 arg9 harg9 arg10 harg10 arg11 harg11 arg12 harg12 arg13 harg13 (constant S144x128 .bf16 0#16) (constant S128x1024 .f32 0#32)
      (harg4.unread x1) (harg5.unread x2) (arg9.view.writes (Elt Ideal) arg9.view.junk (qL arg3 harg3 x0)) k
      (arg10.view.writes (Elt Ideal) (arg10.view.writes (Elt Ideal) f10 (i10 arg3 harg3 arg4 harg4 arg9 x0 x1)) P.1)
      (arg11.view.writes (Elt Ideal) f11 P.2.1)
      (arg12.view.writes (Elt Ideal) (arg12.view.writes (Elt Ideal) f12 (i12 arg3 harg3 arg6 harg6 arg9 x0 x3)) P.2.2.1)
      (arg13.view.writes (Elt Ideal) (arg13.view.writes (Elt Ideal) f13 (i13 arg3 harg3 arg6 harg6 arg7 harg7 arg9 x0 x3 x4)) P.2.2.2)
    Inv arg3 harg3 arg4 harg4 arg6 harg6 arg7 harg7 arg9 arg10 arg12 arg13 x0 x1 x2 x3 x4 (k.val + 1)
      (T.1 ++ P.1, T.2.1 ++ P.2.1, T.2.2.1 ++ P.2.2.1, T.2.2.2 ++ P.2.2.2) := by
  obtain ⟨h10, h12, h13⟩ := h
  intro T
  have hC : ∀ (f : BufTy.Contents (Elt Ideal) arg10.view.ty) (j : Fin 8) (r : Fin 512) (l : Fin 128),
      tC arg10 (arg10.view.writes (Elt Ideal) (arg10.view.writes (Elt Ideal) f (i10 arg3 harg3 arg4 harg4 arg9 x0 x1)) P.1) j (ix2 r l)
        = Sm x0 x1 (2 * k.val) r (col j l) := fun f j r l => by
    rw [tC, chunkS, ← View.writes_append]; exact h10 _ _ _
  have hM : ∀ (f : BufTy.Contents (Elt Ideal) arg12.view.ty) (j : Fin 8) (l : Fin 128),
      tM arg12 (arg12.view.writes (Elt Ideal) (arg12.view.writes (Elt Ideal) f (i12 arg3 harg3 arg6 harg6 arg9 x0 x3)) P.2.2.1) j (ix2 (0 : Fin 1) l)
        = Ms x0 x1 x3 (2 * k.val) (col j l) := fun f j l => by
    rw [tM, chunkM, ← View.writes_append]; exact h12 _ _
  have hA : ∀ (f : BufTy.Contents (Elt Ideal) arg13.view.ty) (p : Fin 4) (y : Fin 144) (l : Fin 256),
      tA arg13 (arg13.view.writes (Elt Ideal) (arg13.view.writes (Elt Ideal) f (i13 arg3 harg3 arg6 harg6 arg7 harg7 arg9 x0 x3 x4)) P.2.2.2) p (ix2 y l)
        = As x0 x1 x2 x3 x4 (2 * k.val) y ⟨256 * p.val + l.val, by omega⟩ := fun f p y l => by
    rw [tA, chunkA, ← View.writes_append]; exact h13 _ _ _
  have hS1 : HS arg11.view [⟨ws, tS arg4 arg9 (harg4.unread x1) (arg9.view.writes (Elt Ideal) arg9.view.junk (qL arg3 harg3 x0)) (k0_off1 k 1#32) (k0_off1_inb k 0)⟩]
      (Sm x0 x1 (2 * k.val + 1)) :=
    HS_block _ _ _ (rS_apply arg3 harg3 arg4 harg4 arg9 x0 x1 _ _ _ (off1_1 k).1 (off1_1 k).2.1 (off1_1 k).2.2)
  have hC2 : ∀ (j : Fin 8) (r : Fin 512) (l : Fin 128),
      tC2 arg4 arg9 arg11 (harg4.unread x1) (arg9.view.writes (Elt Ideal) arg9.view.junk (qL arg3 harg3 x0)) k j (ix2 r l)
        = Sm x0 x1 (2 * k.val + 1) r (col j l) := fun j r l => by
    rw [tC2, View.readCov, chunkS]; exact hS1 _ _ _
  have hV2 : ∀ y r, tV arg5 (harg5.unread x2) (k0_off2 k) (k0_off2_inb k) (ix2 y r) = Vm x2 (2 * k.val) y r :=
    rV_apply arg5 harg5 x2 _ _ _ (off2_eq k).1 (off2_eq k).2.1 (off2_eq k).2.2.1 (off2_eq k).2.2.2
  have hV3 : ∀ y r, tV arg5 (harg5.unread x2) (k0_off3 k) (k0_off3_inb k) (ix2 y r) = Vm x2 (2 * k.val + 1) y r :=
    rV_apply arg5 harg5 x2 _ _ _ (off3_eq k).1 (off3_eq k).2.1 (off3_eq k).2.2.1 (off3_eq k).2.2.2
  refine ⟨?_, ?_, ?_⟩
  · show HS arg10.view ((T.1 ++ P.1) ++ _) _
    rw [List.append_assoc]
    refine HS.append _ ?_ _
    have e : T.1 = _ := trip_arg10 ..
    rw [e]
    exact HS_block _ _ _ (rS_apply arg3 harg3 arg4 harg4 arg9 x0 x1 _ _ _ (off1_2 k).1 (off1_2 k).2.1 (off1_2 k).2.2)
  · show HM arg12.view ((T.2.2.1 ++ P.2.2.1) ++ _) _
    rw [List.append_assoc]
    refine HM.append _ ?_ _
    have e : T.2.2.1 = _ := trip_arg12 ..
    rw [e]
    exact nextM_holds arg12.view _ _ _ hC2 _ (firstM_holds arg12.view _ _ _ _ (hC f10) (hM f12))
  · show HA arg13.view ((T.2.2.2 ++ P.2.2.2) ++ _) _
    rw [List.append_assoc]
    refine HA.append _ ?_ _
    have e : T.2.2.2 = _ := trip_arg13 ..
    rw [e]
    have hF := firstM_holds arg12.view _ _ _ _ (hC f10) (hM f12)
    exact nextA_holds arg13.view _ _ _ _ _ _ _ hC2 (readM_apply arg12.view _ _ _ hC2 _ hF) hV3 _
      (firstA_holds arg13.view _ _ _ _ _ _ _ _ (hC f10) (hM f12) hV2 (hA f13))

theorem loop_inv (n : ℕ) (hn : n ≤ k0_t1_loop.trips) :
    Inv arg3 harg3 arg4 harg4 arg6 harg6 arg7 harg7 arg9 arg10 arg12 arg13 x0 x1 x2 x3 x4 n (loopL c i arg3 harg3 arg4 harg4 arg5 harg5 arg6 harg6 arg7 harg7 arg8 harg8 arg9 harg9 arg10 harg10 arg11 harg11 arg12 harg12 arg13 harg13 x0 x1 x2 x3 x4 f10 f11 f13 n) := by
  induction n with
  | zero =>
    exact ⟨i10_holds arg3 harg3 arg4 harg4 arg9 arg10 x0 x1, i12_holds arg3 harg3 arg6 harg6 arg9 arg12 x0 x3,
      i13_holds arg3 harg3 arg6 harg6 arg7 harg7 arg9 arg13 x0 x3 x4⟩
  | succ n ih =>
    have e := trip_inv c i arg3 harg3 arg4 harg4 arg5 harg5 arg6 harg6 arg7 harg7 arg8 harg8 arg9 harg9 arg10 harg10 arg11 harg11 arg12 harg12 arg13 harg13 x0 x1 x2 x3 x4 f10 f11 f13 ⟨n, hn⟩ _ arg12.view.junk (ih (by omega))
    unfold loopL at e ⊢
    rw [pb_k0_t1_succ _ _ _ _ _ _ _ _ _ _ _ _ _ _ _ _ _ _ _ _ _ _ _ _ _ _ _ _ _ _ _ _ _ _ _ (⟨n, hn⟩ : Fin k0_t1_loop.trips)]
    exact e

/-! ## The end -/

theorem trips_eq : Scf.trips k0_t1_loop.lb k0_t1_loop.ub k0_t1_loop.st = 7 := by decide +kernel

theorem end_inv : Inv arg3 harg3 arg4 harg4 arg6 harg6 arg7 harg7 arg9 arg10 arg12 arg13 x0 x1 x2 x3 x4 7 (LL c i arg3 harg3 arg4 harg4 arg5 harg5 arg6 harg6 arg7 harg7 arg8 harg8 arg9 harg9 arg10 harg10 arg11 harg11 arg12 harg12 arg13 harg13 x0 x1 x2 x3 x4 f10 f11 f13) := by
  have h := loop_inv c i arg3 harg3 arg4 harg4 arg5 harg5 arg6 harg6 arg7 harg7 arg8 harg8 arg9 harg9 arg10 harg10 arg11 harg11 arg12 harg12 arg13 harg13 x0 x1 x2 x3 x4 f10 f11 f13 (Scf.trips k0_t1_loop.lb k0_t1_loop.ub k0_t1_loop.st) le_rfl
  rw [trips_eq] at h
  rw [LL, trips_eq]
  exact h

theorem e13''_holds : HA arg13.view (e13'' c i arg3 harg3 arg4 harg4 arg5 harg5 arg6 harg6 arg7 harg7 arg8 harg8 arg9 harg9 arg10 harg10 arg11 harg11 arg12 harg12 arg13 harg13 x0 x1 x2 x3 x4 f10 f11 f13) (As x0 x1 x2 x3 x4 16) := by
  obtain ⟨h10, h12, h13⟩ := end_inv c i arg3 harg3 arg4 harg4 arg5 harg5 arg6 harg6 arg7 harg7 arg8 harg8 arg9 harg9 arg10 harg10 arg11 harg11 arg12 harg12 arg13 harg13 x0 x1 x2 x3 x4 f10 f11 f13
  have hC0 : ∀ (j : Fin 8) (r : Fin 512) (l : Fin 128), eC0 c i arg3 harg3 arg4 harg4 arg5 harg5 arg6 harg6 arg7 harg7 arg8 harg8 arg9 harg9 arg10 harg10 arg11 harg11 arg12 harg12 arg13 harg13 x0 x1 x2 x3 x4 f10 f11 f13 j (ix2 r l) = Sm x0 x1 14 r (col j l) := fun j r l => by
    rw [eC0, View.readCov, chunkS]; exact h10 _ _ _
  have hS1 : HS arg11.view [⟨ws, rS arg3 harg3 arg4 harg4 arg9 x0 x1 ![0, 7680, 0] inb_S1x8192x128_S1x512x128_0_7680_0⟩] (Sm x0 x1 15) :=
    HS_block _ _ _ (rS_apply arg3 harg3 arg4 harg4 arg9 x0 x1 15 _ _ rfl rfl rfl)
  have hC1 : ∀ (j : Fin 8) (r : Fin 512) (l : Fin 128), eC1 c i arg3 harg3 arg4 harg4 arg5 harg5 arg6 harg6 arg7 harg7 arg8 harg8 arg9 harg9 arg10 harg10 arg11 harg11 arg12 harg12 arg13 harg13 x0 x1 x2 x3 x4 f10 f11 f13 j (ix2 r l) = Sm x0 x1 15 r (col j l) := fun j r l => by
    rw [eC1, View.readCov, chunkS]; exact HS.append _ hS1 _ _ _ _
  have hF := nextM_holds arg12.view _ _ _ hC0 _ h12
  unfold e13'' e13'
  exact nextA_holds arg13.view _ _ _ _ _ _ _ hC1 (readM_apply arg12.view _ _ _ hC1 _ hF)
    (rV_apply arg5 harg5 x2 15 _ _ rfl rfl rfl rfl) _
    (nextA_holds arg13.view _ _ _ _ _ _ _ hC0 (readM_apply arg12.view _ _ _ hC0 _ h12) (rV_apply arg5 harg5 x2 14 _ _ rfl rfl rfl rfl) _ h13)

theorem fin0_apply (y : Fin 128) (x : Fin 1024) : fin0 c i arg3 harg3 arg4 harg4 arg5 harg5 arg6 harg6 arg7 harg7 arg8 harg8 arg9 harg9 arg10 harg10 arg11 harg11 arg12 harg12 arg13 harg13 x0 x1 x2 x3 x4 f10 f11 f13 (ix2 y x) = As x0 x1 x2 x3 x4 16 ⟨y.val, by omega⟩ x := by
  rw [fin0, View.readCov, View.readAt_apply, ← e13''_holds c i arg3 harg3 arg4 harg4 arg5 harg5 arg6 harg6 arg7 harg7 arg8 harg8 arg9 harg9 arg10 harg10 arg11 harg11 arg12 harg12 arg13 harg13 x0 x1 x2 x3 x4 f10 f11 f13 arg13.view.junk]
  congr 1
  funext a
  apply Fin.ext
  match a with
  | ⟨0, _⟩ => show 0 + 1 * y.val = y.val; omega
  | ⟨1, _⟩ => show 0 + 1 * x.val = x.val; omega

theorem fin1_apply (x : Fin 1024) : fin1 c i arg3 harg3 arg4 harg4 arg5 harg5 arg6 harg6 arg7 harg7 arg8 harg8 arg9 harg9 arg10 harg10 arg11 harg11 arg12 harg12 arg13 harg13 x0 x1 x2 x3 x4 f10 f11 f13 (ix2 0 x) = As x0 x1 x2 x3 x4 16 ⟨128, by omega⟩ x := by
  rw [fin1, View.readCov, View.readAt_apply, ← e13''_holds c i arg3 harg3 arg4 harg4 arg5 harg5 arg6 harg6 arg7 harg7 arg8 harg8 arg9 harg9 arg10 harg10 arg11 harg11 arg12 harg12 arg13 harg13 x0 x1 x2 x3 x4 f10 f11 f13 arg13.view.junk]
  congr 1
  funext a
  apply Fin.ext
  match a with
  | ⟨0, _⟩ => rfl
  | ⟨1, _⟩ => show 0 + 1 * x.val = x.val; omega

/-- The output block: token `t`, head `g`, feature `d`. -/
def outB (t : Fin 256) (g : Fin 4) (d : Fin 128) : EReal :=
  As x0 x1 x2 x3 x4 16 ⟨d.val, by omega⟩ ⟨256 * g.val + t.val, by omega⟩
    * Ideal.div 1 (As x0 x1 x2 x3 x4 16 ⟨128, by omega⟩ ⟨256 * g.val + t.val, by omega⟩)

section
variable (v : View sig .tc .vmem S1x256x512 .bf16) (f : v.ty.Contents (Elt Ideal)) (a : Vec Ideal S128x1024 .f32) (b : Vec Ideal S1x1024 .f32) (t : Fin 256) (d : Fin 128)

theorem out_hit (r : ℕ) (hr : r + 128 ≤ 512) (inb : ∀ a, (![0, 0, r] : Fin 3 → ℕ) a + S1x256x128.size a ≤ S1x256x512.size a) (w : Vec Ideal S1x256x128 .bf16)
    (L : List (View.Piece (Elt Ideal) S1x256x512 .bf16)) :
    v.read (Elt Ideal) (v.writes (Elt Ideal) f (⟨Rect.unit (s := S1x256x512) ![0, 0, r] S1x256x128.size inb, w⟩ :: L))
      (ix3 (0 : Fin 1) t (⟨r + d.val, by omega⟩ : Fin 512)) = w (ix3 (0 : Fin 1) t d) := by
  have hx : ∀ a, ((ix3 (0 : Fin 1) t (⟨r + d.val, by omega⟩ : Fin 512)) a).val = (Rect.unit (s := S1x256x512) ![0, 0, r] S1x256x128.size inb).off a
      + (Rect.unit (s := S1x256x512) ![0, 0, r] S1x256x128.size inb).stride a * ((ix3 (0 : Fin 1) t d) a).val := by
    intro a
    match a with
    | ⟨0, _⟩ => show 0 = 0 + 1 * 0; omega
    | ⟨1, _⟩ => show t.val = 0 + 1 * t.val; omega
    | ⟨2, _⟩ => show r + d.val = r + 1 * d.val; omega
  exact View.read_writes_cons_hit_of_coords v f (Rect.unit (s := S1x256x512) ![0, 0, r] S1x256x128.size inb) w L (ix3 (0 : Fin 1) t d) (ix3 (0 : Fin 1) t (⟨r + d.val, by omega⟩ : Fin 512)) hx

theorem out_read0 : v.read (Elt Ideal) (v.writes (Elt Ideal) f (outL a b)) (ix3 (0 : Fin 1) t (⟨0 + d.val, by omega⟩ : Fin 512))
    = a (ix2 d ⟨0 + t.val, by omega⟩) * Ideal.div 1 (b (ix2 0 ⟨0 + t.val, by omega⟩)) := by
  rw [outL]
  rw [View.read_writes_cons_miss_of_axis v f _ _ _ 2 384 128 rfl rfl rfl (by show 0 + d.val < _ ∨ _ ≤ 0 + d.val; omega)]
  rw [View.read_writes_cons_miss_of_axis v f _ _ _ 2 256 128 rfl rfl rfl (by show 0 + d.val < _ ∨ _ ≤ 0 + d.val; omega)]
  rw [View.read_writes_cons_miss_of_axis v f _ _ _ 2 128 128 rfl rfl rfl (by show 0 + d.val < _ ∨ _ ≤ 0 + d.val; omega)]
  rw [out_hit v f t d 0 (by omega), pay2_apply]
  simp only [Nat.zero_add]

theorem out_read1 : v.read (Elt Ideal) (v.writes (Elt Ideal) f (outL a b)) (ix3 (0 : Fin 1) t (⟨128 + d.val, by omega⟩ : Fin 512))
    = a (ix2 d ⟨256 + t.val, by omega⟩) * Ideal.div 1 (b (ix2 0 ⟨256 + t.val, by omega⟩)) := by
  rw [outL]
  rw [View.read_writes_cons_miss_of_axis v f _ _ _ 2 384 128 rfl rfl rfl (by show 128 + d.val < _ ∨ _ ≤ 128 + d.val; omega)]
  rw [View.read_writes_cons_miss_of_axis v f _ _ _ 2 256 128 rfl rfl rfl (by show 128 + d.val < _ ∨ _ ≤ 128 + d.val; omega)]
  rw [out_hit v f t d 128 (by omega), pay3_apply]

theorem out_read2 : v.read (Elt Ideal) (v.writes (Elt Ideal) f (outL a b)) (ix3 (0 : Fin 1) t (⟨256 + d.val, by omega⟩ : Fin 512))
    = a (ix2 d ⟨512 + t.val, by omega⟩) * Ideal.div 1 (b (ix2 0 ⟨512 + t.val, by omega⟩)) := by
  rw [outL]
  rw [View.read_writes_cons_miss_of_axis v f _ _ _ 2 384 128 rfl rfl rfl (by show 256 + d.val < _ ∨ _ ≤ 256 + d.val; omega)]
  rw [out_hit v f t d 256 (by omega), pay4_apply]

theorem out_read3 : v.read (Elt Ideal) (v.writes (Elt Ideal) f (outL a b)) (ix3 (0 : Fin 1) t (⟨384 + d.val, by omega⟩ : Fin 512))
    = a (ix2 d ⟨768 + t.val, by omega⟩) * Ideal.div 1 (b (ix2 0 ⟨768 + t.val, by omega⟩)) := by
  rw [outL]
  rw [out_hit v f t d 384 (by omega), pay5_apply]

end

theorem out_read (f : arg8.view.ty.Contents (Elt Ideal)) (t : Fin 256) (g : Fin 4) (d : Fin 128) :
    arg8.view.read (Elt Ideal) (arg8.view.writes (Elt Ideal) f (kernelRun c i arg3 harg3 arg4 harg4 arg5 harg5 arg6 harg6 arg7 harg7 arg8 harg8 arg9 harg9 arg10 harg10 arg11 harg11 arg12 harg12 arg13 harg13 x0 x1 x2 x3 x4 f9 f10 f11 f12 f13).1)
      (ix3 (0 : Fin 1) t (⟨128 * g.val + d.val, by omega⟩ : Fin 512)) = outB x0 x1 x2 x3 x4 t g d := by
  rw [kernelRun_eq, outB, ← fin0_apply c i arg3 harg3 arg4 harg4 arg5 harg5 arg6 harg6 arg7 harg7 arg8 harg8 arg9 harg9 arg10 harg10 arg11 harg11 arg12 harg12 arg13 harg13 x0 x1 x2 x3 x4 f10 f11 f13, ← fin1_apply c i arg3 harg3 arg4 harg4 arg5 harg5 arg6 harg6 arg7 harg7 arg8 harg8 arg9 harg9 arg10 harg10 arg11 harg11 arg12 harg12 arg13 harg13 x0 x1 x2 x3 x4 f10 f11 f13]
  match g with
  | ⟨0, _⟩ => exact out_read0 ..
  | ⟨1, _⟩ => exact out_read1 ..
  | ⟨2, _⟩ => exact out_read2 ..
  | ⟨3, _⟩ => exact out_read3 ..

end Cert.Proof.Flash

end
-- ==== Proof.Flash.Blocks.lean ====
/-
  What the attention kernel's windows hold at a grid point, in terms of the arrays the call was given.

  The grid is 4 batches by 2 key heads by 32 query tiles of 256 tokens. Each window's block is read here through the
  reshapes, transpositions and paddings done outside the kernel, to the argument array it was cut from.
-/
module

public import proofs.«01_k».proof.Proof.Gen.KernelIdeal.Frame
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Proof.Flash

open Cert.KernelIdeal Cert.KernelIdeal.Gen

/-! ## The arrays the windows are cut from -/

/-- The queries in tiles of 256 tokens, transposed. -/
def qT (q : FVec Ideal S4x8192x1024 .f32) : FVec Ideal S128x1024x256 .bf16 :=
  truncf .bf16 (transpose S128x1024x256 [0, 2, 1] (shapeCast S128x256x1024 q shapeCasts_S4x8192x1024_S128x256x1024) transposes_S128x256x1024_S128x1024x256_0_2_1) bitsLt_bf16_f32
/-- The keys. -/
def kT (k : FVec Ideal S4x8192x256 .f32) : FVec Ideal S4x8192x256 .bf16 :=
  shapeCast S4x8192x256 (truncf .bf16 (shapeCast S32768x256 k shapeCasts_S4x8192x256_S32768x256 : FVec Ideal S32768x256 .f32) bitsLt_bf16_f32 : FVec Ideal S32768x256 .bf16) shapeCasts_S32768x256_S4x8192x256
/-- The values in blocks of 512 tokens, transposed. -/
def vT (v : FVec Ideal S4x8192x256 .f32) : FVec Ideal S2x64x128x512 .bf16 :=
  truncf .bf16 (transpose S2x64x128x512 [2, 0, 3, 1] (shapeCast S64x512x2x128 v shapeCasts_S4x8192x256_S64x512x2x128) transposes_S64x512x2x128_S2x64x128x512_2_0_3_1) bitsLt_bf16_f32
/-- A meta array padded to 128 rows. -/
def padM (x : FVec Ideal S16x256 .f32) : FVec Ideal S128x256 .bf16 :=
  pad S128x256 ![0, 0] ![112, 0] ![0, 0] (truncf .bf16 x bitsLt_bf16_f32 : FVec Ideal S16x256 .bf16) (sitofp (F := Ideal) .bf16 (constantI S_ 32 0#32)) pads_S16x256_S128x256_01120_000 h_S_
/-- The padded meta values by head, transposed. -/
def vM (x : FVec Ideal S16x256 .f32) : FVec Ideal S2x128x128 .bf16 :=
  transpose S2x128x128 [1, 2, 0] (shapeCast S128x2x128 (padM x) shapeCasts_S128x256_S128x2x128) transposes_S128x2x128_S2x128x128_1_2_0

theorem qT_apply (q : FVec Ideal S4x8192x1024 .f32) (b : Fin 4) (i : Fin 32) (e : Fin 1024) (τ : Fin 256) :
    qT q (ix3 (⟨32 * b.val + i.val, by omega⟩ : Fin 128) e τ) = q (ix3 b (⟨256 * i.val + τ.val, by omega⟩ : Fin 8192) e) := by
  have hb := b.isLt; have hi := i.isLt; have he := e.isLt; have hτ := τ.isLt
  unfold qT
  pointwise
  refine congrArg (fun x => q (ix3 b x e)) (Fin.ext ?_)
  show (32 * b.val + i.val) % 32 * 256 + τ.val = 256 * i.val + τ.val
  omega

theorem kT_apply (k : FVec Ideal S4x8192x256 .f32) (b : Fin 4) (s : Fin 8192) (e : Fin 256) : kT k (ix3 b s e) = k (ix3 b s e) := by
  have hb := b.isLt; have hs := s.isLt; have he := e.isLt
  unfold kT
  pointwise

theorem vT_apply (v : FVec Ideal S4x8192x256 .f32) (b : Fin 4) (h : Fin 2) (β : Fin 16) (d : Fin 128) (r : Fin 512) :
    vT v (ix4 h (⟨16 * b.val + β.val, by omega⟩ : Fin 64) d r) = v (ix3 b (⟨512 * β.val + r.val, by omega⟩ : Fin 8192) (⟨128 * h.val + d.val, by omega⟩ : Fin 256)) := by
  have hb := b.isLt; have hh := h.isLt; have hβ := β.isLt; have hd := d.isLt; have hr := r.isLt
  unfold vT
  pointwise
  refine congrArg₂ (fun x y => v (ix3 b x y)) (Fin.ext ?_) (Fin.ext ?_)
  · show (16 * b.val + β.val) % 16 * 512 + r.val = 512 * β.val + r.val
    omega
  · show h.val * 128 + d.val = 128 * h.val + d.val
    omega

theorem padM_apply (x : FVec Ideal S16x256 .f32) (r : Fin 16) (e : Fin 256) : padM x (ix2 (⟨r.val, by omega⟩ : Fin 128) e) = x (ix2 r e) := by
  have hr := r.isLt; have he := e.isLt
  unfold padM
  pointwise

theorem vM_apply (x : FVec Ideal S16x256 .f32) (h : Fin 2) (d : Fin 128) (r : Fin 16) :
    vM x (ix3 h d (⟨r.val, by omega⟩ : Fin 128)) = x (ix2 r (⟨128 * h.val + d.val, by omega⟩ : Fin 256)) := by
  have hr := r.isLt; have hh := h.isLt; have hd := d.isLt
  rw [← padM_apply x]
  unfold vM
  generalize padM x = y
  pointwise
  refine congrArg (fun e => y (ix2 _ e)) (Fin.ext ?_)
  show h.val * 128 + d.val = 128 * h.val + d.val
  omega

variable (m : (ℓ : Loc nD τ sig) → Buf (Elt Ideal) ℓ) (c : Dev nD)

/-- The call's arguments, as arrays. -/
abbrev aQ : FVec Ideal S4x8192x1024 .f32 := m ((c : Thread nD τ).loc main_arg0)
abbrev aK : FVec Ideal S4x8192x256 .f32 := m ((c : Thread nD τ).loc main_arg1)
abbrev aV : FVec Ideal S4x8192x256 .f32 := m ((c : Thread nD τ).loc main_arg2)
abbrev aKm : FVec Ideal S16x256 .f32 := m ((c : Thread nD τ).loc main_arg3)
abbrev aVm : FVec Ideal S16x256 .f32 := m ((c : Thread nD τ).loc main_arg4)

theorem V_v2 : (V m c main_v2 : Vec Ideal S128x1024x256 .bf16) = qT (aQ m c) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v14 : (V m c main_v14 : Vec Ideal S4x8192x256 .bf16) = kT (aK m c) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v7 : (V m c main_v7 : Vec Ideal S2x64x128x512 .bf16) = vT (aV m c) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v9 : (V m c main_v9 : Vec Ideal S128x256 .bf16) = padM (aKm m c) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v13 : (V m c main_v13 : Vec Ideal S2x128x128 .bf16) = vM (aVm m c) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-! ## The blocks at a grid point -/

/-- The printed index maps over the grid. -/
theorem idx_facts : ∀ t : Fin cfg0.N,
    (win0_0.index t (0 : Fin 3) = 32 * (t.val / 64) + t.val % 32 ∧ win0_0.index t (1 : Fin 3) = t.val / 32 % 2 ∧ win0_0.index t (2 : Fin 3) = 0)
    ∧ (win0_1.index t (0 : Fin 3) = t.val / 64 ∧ win0_1.index t (1 : Fin 3) = 0 ∧ win0_1.index t (2 : Fin 3) = t.val / 32 % 2)
    ∧ (win0_2.index t (0 : Fin 4) = t.val / 32 % 2 ∧ win0_2.index t (1 : Fin 4) = t.val / 64 ∧ win0_2.index t (2 : Fin 4) = 0 ∧ win0_2.index t (3 : Fin 4) = 0)
    ∧ (win0_3.index t (0 : Fin 2) = 0 ∧ win0_3.index t (1 : Fin 2) = t.val / 32 % 2)
    ∧ (win0_4.index t (0 : Fin 3) = t.val / 32 % 2 ∧ win0_4.index t (1 : Fin 3) = 0 ∧ win0_4.index t (2 : Fin 3) = 0)
    ∧ (win0_5.index t (0 : Fin 3) = t.val / 64 ∧ win0_5.index t (1 : Fin 3) = t.val % 32 ∧ win0_5.index t (2 : Fin 3) = t.val / 32 % 2) :=
  (by decide +kernel : ∀ t : Fin grid0.N, _)

theorem N_eq : cfg0.N = 256 := N_0

/-- A point's batch, key head and query tile. -/
def pb (t : Fin cfg0.N) : Fin 4 := ⟨t.val / 64, by have := t.isLt; have := N_eq; omega⟩
def ph (t : Fin cfg0.N) : Fin 2 := ⟨t.val / 32 % 2, by omega⟩
def pi (t : Fin cfg0.N) : Fin 32 := ⟨t.val % 32, by omega⟩

theorem iblk0_apply (t : Fin cfg0.N) (r : Fin 512) (τ : Fin 256) :
    (iblk m c 0 t : Vec Ideal S1x512x256 .bf16) (ix3 0 r τ)
      = aQ m c (ix3 (pb t) (⟨256 * (pi t).val + τ.val, by omega⟩ : Fin 8192) (⟨512 * (ph t).val + r.val, by omega⟩ : Fin 1024)) := by
  obtain ⟨⟨e0, e1, e2⟩, -⟩ := idx_facts t
  rw [← qT_apply (aQ m c)]
  refine Eq.trans ?_ (congrFun (V_v2 m c) _)
  unfold iblk
  rw [View.read_apply]
  show V m c main_v2 _ = V m c main_v2 _
  congr 1; funext a; apply Fin.ext
  match a with
  | ⟨0, _⟩ => show win0_0.index t 0 * 1 + 1 * 0 = 32 * (t.val / 64) + t.val % 32; rw [e0]; omega
  | ⟨1, _⟩ => show win0_0.index t 1 * 512 + 1 * r.val = 512 * (t.val / 32 % 2) + r.val; rw [e1]; omega
  | ⟨2, _⟩ => show win0_0.index t 2 * 256 + 1 * τ.val = τ.val; rw [e2]; omega

theorem iblk1_apply (t : Fin cfg0.N) (s : Fin 8192) (d : Fin 128) :
    (iblk m c 1 t : Vec Ideal S1x8192x128 .bf16) (ix3 0 s d) = aK m c (ix3 (pb t) s (⟨128 * (ph t).val + d.val, by omega⟩ : Fin 256)) := by
  obtain ⟨-, ⟨e0, e1, e2⟩, -⟩ := idx_facts t
  rw [← kT_apply (aK m c)]
  refine Eq.trans ?_ (congrFun (V_v14 m c) _)
  unfold iblk
  rw [View.read_apply]
  show V m c main_v14 _ = V m c main_v14 _
  congr 1; funext a; apply Fin.ext
  match a with
  | ⟨0, _⟩ => show win0_1.index t 0 * 1 + 1 * 0 = t.val / 64; rw [e0]; omega
  | ⟨1, _⟩ => show win0_1.index t 1 * 8192 + 1 * s.val = s.val; rw [e1]; omega
  | ⟨2, _⟩ => show win0_1.index t 2 * 128 + 1 * d.val = 128 * (t.val / 32 % 2) + d.val; rw [e2]; omega

theorem iblk2_apply (t : Fin cfg0.N) (β : Fin 16) (d : Fin 128) (r : Fin 512) :
    (iblk m c 2 t : Vec Ideal S1x16x128x512 .bf16) (ix4 0 β d r)
      = aV m c (ix3 (pb t) (⟨512 * β.val + r.val, by omega⟩ : Fin 8192) (⟨128 * (ph t).val + d.val, by omega⟩ : Fin 256)) := by
  obtain ⟨-, -, ⟨e0, e1, e2, e3⟩, -⟩ := idx_facts t
  rw [← vT_apply (aV m c)]
  refine Eq.trans ?_ (congrFun (V_v7 m c) _)
  unfold iblk
  rw [View.read_apply]
  show V m c main_v7 _ = V m c main_v7 _
  congr 1; funext a; apply Fin.ext
  match a with
  | ⟨0, _⟩ => show win0_2.index t 0 * 1 + 1 * 0 = t.val / 32 % 2; rw [e0]; omega
  | ⟨1, _⟩ => show win0_2.index t 1 * 16 + 1 * β.val = 16 * (t.val / 64) + β.val; rw [e1]; omega
  | ⟨2, _⟩ => show win0_2.index t 2 * 128 + 1 * d.val = d.val; rw [e2]; omega
  | ⟨3, _⟩ => show win0_2.index t 3 * 512 + 1 * r.val = r.val; rw [e3]; omega

theorem iblk3_apply (t : Fin cfg0.N) (r : Fin 16) (d : Fin 128) :
    (iblk m c 3 t : Vec Ideal S128x128 .bf16) (ix2 (⟨r.val, by omega⟩ : Fin 128) d) = aKm m c (ix2 r (⟨128 * (ph t).val + d.val, by omega⟩ : Fin 256)) := by
  obtain ⟨-, -, -, ⟨e0, e1⟩, -⟩ := idx_facts t
  rw [← padM_apply (aKm m c)]
  refine Eq.trans ?_ (congrFun (V_v9 m c) _)
  unfold iblk
  rw [View.read_apply]
  show V m c main_v9 _ = V m c main_v9 _
  congr 1; funext a; apply Fin.ext
  match a with
  | ⟨0, _⟩ => show win0_3.index t 0 * 128 + 1 * r.val = r.val; rw [e0]; omega
  | ⟨1, _⟩ => show win0_3.index t 1 * 128 + 1 * d.val = 128 * (t.val / 32 % 2) + d.val; rw [e1]; omega

theorem iblk4_apply (t : Fin cfg0.N) (d : Fin 128) (r : Fin 16) :
    (iblk m c 4 t : Vec Ideal S1x128x128 .bf16) (ix3 0 d (⟨r.val, by omega⟩ : Fin 128)) = aVm m c (ix2 r (⟨128 * (ph t).val + d.val, by omega⟩ : Fin 256)) := by
  obtain ⟨-, -, -, -, ⟨e0, e1, e2⟩, -⟩ := idx_facts t
  rw [← vM_apply (aVm m c)]
  refine Eq.trans ?_ (congrFun (V_v13 m c) _)
  unfold iblk
  rw [View.read_apply]
  show V m c main_v13 _ = V m c main_v13 _
  congr 1; funext a; apply Fin.ext
  match a with
  | ⟨0, _⟩ => show win0_4.index t 0 * 1 + 1 * 0 = t.val / 32 % 2; rw [e0]; omega
  | ⟨1, _⟩ => show win0_4.index t 1 * 128 + 1 * d.val = d.val; rw [e1]; omega
  | ⟨2, _⟩ => show win0_4.index t 2 * 128 + 1 * r.val = r.val; rw [e2]; omega

end Cert.Proof.Flash

end
-- ==== Proof.Flash.Value.lean ====
/-
  The launch of the attention kernel over the extended reals, with its output named: every grid point leaves the block
  that the accumulators and the ones row give, whatever was in the scratch before it, and the result array is the blocks
  of all the points.
-/
module

public import proofs.«01_k».proof.Proof.Flash.Frame
public import proofs.«01_k».proof.Proof.Flash.Loop
public import proofs.«01_k».proof.Proof.Flash.Blocks

@[expose] public section

set_option maxRecDepth 16384

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output block of blocks `x0 … x4`. -/
def outBlk (x0 : Vec Ideal S1x512x256 .bf16) (x1 : Vec Ideal S1x8192x128 .bf16) (x2 : Vec Ideal S1x16x128x512 .bf16)
    (x3 : Vec Ideal S128x128 .bf16) (x4 : Vec Ideal S1x128x128 .bf16) : Vec Ideal S1x256x512 .bf16 := fun j =>
  outB x0 x1 x2 x3 x4 ⟨(j 1).val, (j 1).isLt⟩ ⟨(j 2).val / 128, by have h : (j 2).val < 512 := (j 2).isLt; omega⟩ ⟨(j 2).val % 128, by omega⟩

/-- Whatever the scratch held, the body leaves that block. -/
theorem leaves_eq (c : Dev nD) (t : Fin cfg0.N) (x0 : Vec Ideal S1x512x256 .bf16) (x1 : Vec Ideal S1x8192x128 .bf16) (x2 : Vec Ideal S1x16x128x512 .bf16)
    (x3 : Vec Ideal S128x128 .bf16) (x4 : Vec Ideal S1x128x128 .bf16) (X : Vec Ideal S1x256x512 .bf16) (h : Leaves c t x0 x1 x2 x3 x4 X) :
    X = outBlk x0 x1 x2 x3 x4 := by
  obtain ⟨f8, f9, f10, f11, f12, f13, rfl⟩ := h
  funext j
  have h0 : (j 0).val < 1 := (j 0).isLt
  have h2 : (j 2).val < 512 := (j 2).isLt
  refine Eq.trans (congrArg _ ?_) (out_read c (grid0.coords t) (ms0 t) (hs0 t) (ms1 t) (hs1 t) (ms2 t) (hs2 t) (ms3 t) (hs3 t) (ms4 t) (hs4 t) (ms5 t) (hs5 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) x0 x1 x2 x3 x4 f9 f10 f11 f12 f13 f8
    ⟨(j 1).val, (j 1).isLt⟩ ⟨(j 2).val / 128, by omega⟩ ⟨(j 2).val % 128, by omega⟩)
  funext a
  apply Fin.ext
  match a with
  | ⟨0, _⟩ => show (j 0).val = 0; omega
  | ⟨1, _⟩ => rfl
  | ⟨2, _⟩ => show (j 2).val = 128 * ((j 2).val / 128) + (j 2).val % 128; omega

/-- The block a point leaves. -/
def outP (c : Dev nD) (t : Fin cfg0.N) : Vec Ideal S1x256x512 .bf16 :=
  outBlk (iblk m c 0 t) (iblk m c 1 t) (iblk m c 2 t) (iblk m c 3 t) (iblk m c 4 t)

/-- The arrays as the region finds them; each input left at its block, the output at its own; the scratch at some contents. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP m c t
  Φ _ := Pipeline.ΦA spec0 c
  q _ := fullShare
  owed _ := 0

theorem vA_eq (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = outP m c t := by dsimp only [vdats]
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d

/-- The body's triple at a point. -/
theorem vsound (c : Dev nD) (t : Fin cfg0.N) :
    iprop((vdats m 0 c).Φ t.castSucc ∗ (vdats m 0 c).owesAt () t.castSucc
        ∗ (∃ d, owns (c : Thread nD τ) (ms0 t) fullShare ((vdats m 0 c).before 0 t d))
        ∗ (∃ d, owns (c : Thread nD τ) (ms1 t) fullShare ((vdats m 0 c).before 1 t d))
        ∗ (∃ d, owns (c : Thread nD τ) (ms2 t) fullShare ((vdats m 0 c).before 2 t d))
        ∗ (∃ d, owns (c : Thread nD τ) (ms3 t) fullShare ((vdats m 0 c).before 3 t d))
        ∗ (∃ d, owns (c : Thread nD τ) (ms4 t) fullShare ((vdats m 0 c).before 4 t d))
        ∗ (∃ d, owns (c : Thread nD τ) (ms5 t) fullShare ((vdats m 0 c).before 5 t d)))
      ⊢ wp Idealize.ShloMosaic.frame (wpE (defs₀ (F := Ideal)) Variants.none c none) Set.univ (bodyAt0 t) (fun _ =>
        iprop((vdats m 0 c).Φ t.succ ∗ (vdats m 0 c).owesAt () t.succ
          ∗ owns (c : Thread nD τ) (ms0 t) fullShare ((vdats m 0 c).after 0 t)
          ∗ owns (c : Thread nD τ) (ms1 t) fullShare ((vdats m 0 c).after 1 t)
          ∗ owns (c : Thread nD τ) (ms2 t) fullShare ((vdats m 0 c).after 2 t)
          ∗ owns (c : Thread nD τ) (ms3 t) fullShare ((vdats m 0 c).after 3 t)
          ∗ owns (c : Thread nD τ) (ms4 t) fullShare ((vdats m 0 c).after 4 t)
          ∗ owns (c : Thread nD τ) (ms5 t) fullShare ((vdats m 0 c).after 5 t))) := by
  simp only [vbefore0, vbefore1, vbefore2, vbefore3, vbefore4]
  rw [show (vdats m 0 c).Φ t.succ = Pipeline.ΦA spec0 c from rfl, show (vdats m 0 c).Φ t.castSucc = Pipeline.ΦA spec0 c from rfl,
    show (vdats m 0 c).owesAt () t.succ = (vdats m 0 c).owesAt () t.castSucc from rfl,
    vafter0, vafter1, vafter2, vafter3, vafter4, vafter5]
  iintro ⟨HΦ, Ho, ⟨%d0, H0⟩, ⟨%d1, H1⟩, ⟨%d2, H2⟩, ⟨%d3, H3⟩, ⟨%d4, H4⟩, ⟨%d5, H5⟩⟩
  iapply (body_wp c t (iblk m c 0 t) (iblk m c 1 t) (iblk m c 2 t) (iblk m c 3 t) (iblk m c 4 t))
  isplitl [HΦ]; · iexact HΦ
  isplitl [H0]; · iexact H0
  isplitl [H1]; · iexact H1
  isplitl [H2]; · iexact H2
  isplitl [H3]; · iexact H3
  isplitl [H4]; · iexact H4
  isplitl [H5]; · iexists _; iexact H5
  iintro ⟨HΦ, H0, H1, H2, H3, H4, ⟨%X, %hX, H5⟩⟩
  rw [show outP m c t = X from (leaves_eq c t _ _ _ _ _ X hX).symm]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem vbody_obligation (c : Dev nD) : BodyObligation (vdats m 0 c) (defs₀ (F := Ideal)) Variants.none () Set.univ := fun t => by
  rw [bigSep_W0, bigSep_W0, defs₀_row]
  exact triple_restated (vsound m c t) rfl .rfl fun _ => .rfl

-- the library's implicit arguments are found by unifying its conclusion with this one
set_option backward.isDefEq.respectTransparency.types false in
theorem vrun_main : θ_run defs (onTc (τ := τ) (main (F := Ideal))) (s₀ m ρ)
    (fun r => (Pipeline.FramePost cfgs (vdats m) 0 (V m)) r ∧ r.2.sem = fun _ => 0) :=
  Pipeline.θ_run_frame (Q' := _) cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hΦ := fun _ _ => rfl)

/-! ## The result array -/

/-- The point that writes an index of the result. -/
def pt (b : Fin 4) (T : Fin 8192) (e : Fin 1024) : Fin cfg0.N :=
  ⟨64 * b.val + 32 * (e.val / 512) + T.val / 256, by rw [N_eq]; omega⟩

/-- The result array: every index from its point's block. -/
def G (c : Dev nD) : Buf (Elt Ideal) ((c : Thread nD τ).loc main_v15) := fun i =>
  outP m c (pt ⟨(i 0).val, (i 0).isLt⟩ ⟨(i 1).val, (i 1).isLt⟩ ⟨(i 2).val, (i 2).isLt⟩)
    (ix3 (0 : Fin 1) (⟨(i 1).val % 256, by omega⟩ : Fin 256) (⟨(i 2).val % 512, by omega⟩ : Fin 512))

theorem flushed_eq (c : Dev nD) (t : Fin cfg0.N) : (vdats m 0 c).flushed 5 t = ((cfg0.win 5).blk t).view.read (Elt Ideal) (G m c) := by
  show (cfg0.win 5).cut (grid0.coords t) ((vdats m 0 c).after 5 t) = _
  rw [vafter5]
  obtain ⟨-, -, -, -, -, e0, e1, e2⟩ := idx_facts t
  have ht : t.val < 256 := lt_of_lt_of_eq t.isLt N_eq
  funext y
  have hy0 : (y 0).val < 1 := (y 0).isLt
  have hy1 : (y 1).val < 256 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 256 + 1 * (y 1).val := rfl
  have hb2 : (((cfg0.win 5).blk t).view.emb y 2).val = win0_5.index t (2 : Fin 3) * 512 + 1 * (y 2).val := rfl
  rw [View.read_apply]
  show outP m c t ((cfg0.win 5).xinj (grid0.coords t) y) = G m c (((cfg0.win 5).blk t).view.emb y)
  unfold G
  have hp : pt ⟨(((cfg0.win 5).blk t).view.emb y 0).val, (((cfg0.win 5).blk t).view.emb y 0).isLt⟩
      ⟨(((cfg0.win 5).blk t).view.emb y 1).val, (((cfg0.win 5).blk t).view.emb y 1).isLt⟩
      ⟨(((cfg0.win 5).blk t).view.emb y 2).val, (((cfg0.win 5).blk t).view.emb y 2).isLt⟩ = t := by
    apply Fin.ext
    show 64 * (((cfg0.win 5).blk t).view.emb y 0).val + 32 * ((((cfg0.win 5).blk t).view.emb y 2).val / 512) + (((cfg0.win 5).blk t).view.emb y 1).val / 256 = t.val
    rw [hb0, hb1, hb2, e0, e1, e2]
    omega
  rw [hp]
  congr 1
  funext a
  apply Fin.ext
  match a with
  | ⟨0, _⟩ => show (y 0).val = 0; omega
  | ⟨1, _⟩ => show (y 1).val = (((cfg0.win 5).blk t).view.emb y 1).val % 256; rw [hb1]; omega
  | ⟨2, _⟩ => show (y 2).val = (((cfg0.win 5).blk t).view.emb y 2).val % 512; rw [hb2]; omega

theorem flushes : ∀ t : Fin cfg0.N, (cfg0.win 5).flush t = true := (by decide +kernel : ∀ t : Fin grid0.N, win0_5.flush t = true)

theorem mem_blk (t : Fin cfg0.N) (i : S4x8192x1024.Idx) :
    i ∈ ((cfg0.win 5).blk t).view.set ↔ ∀ a : Fin 3, win0_5.index t a * S1x256x512.size a ≤ (i a).val ∧ (i a).val < win0_5.index t a * S1x256x512.size a + S1x256x512.size a := by
  show i ∈ ((View.whole main_v15).slice (win0_5.rect t)).set ↔ _
  rw [View.set_slice_whole, Rect.mem_set_unit]
  exact Iff.rfl

theorem covered (i : S4x8192x1024.Idx) : ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 1024 := (i 2).isLt
  refine ⟨pt ⟨(i 0).val, h0⟩ ⟨(i 1).val, h1⟩ ⟨(i 2).val, h2⟩, flushes _, ?_⟩
  rw [mem_blk]
  obtain ⟨-, -, -, -, -, e0, e1, e2⟩ := idx_facts (pt ⟨(i 0).val, h0⟩ ⟨(i 1).val, h1⟩ ⟨(i 2).val, h2⟩)
  have hv : (pt ⟨(i 0).val, h0⟩ ⟨(i 1).val, h1⟩ ⟨(i 2).val, h2⟩).val = 64 * (i 0).val + 32 * ((i 2).val / 512) + (i 1).val / 256 := rfl
  rw [hv] at e0 e1 e2
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 256 ≤ (i 1).val ∧ (i 1).val < win0_5.index _ (1 : Fin 3) * 256 + 256; omega
  | ⟨2, _⟩ => show win0_5.index _ (2 : Fin 3) * 512 ≤ (i 2).val ∧ (i 2).val < win0_5.index _ (2 : Fin 3) * 512 + 512; omega

theorem final (c : Dev nD) : (vdats m 0 c).arrAt 5 cfg0.N = G m c :=
  (vdats m 0 c).arrAt_eq_of_cover 5 _ (fun t _ => flushed_eq m c t) (fun i => covered i)

/-- The run: the result array ends at `G`, every argument array as it was. -/
theorem run : θ_run defs (onTc (τ := τ) (main (F := Ideal))) ⟨m, fun _ => 0, ρ⟩ (fun r => ∀ c : Dev nD,
      r.2.mem ((c.tc : Thread nD τ).loc main_v15) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).1 5).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (vrun_main m ρ)

end Cert.Proof.Flash

end
-- ==== Proof.Flash.Maths.lean ====
/-
  The mathematics of the softmax by blocks. Over the extended reals, with real scores and any values, the maximum and
  the accumulator that are carried from block to block are a real number and the sum of all the values so far, weighted
  by the exponentials of their scores less that number; and the quotient of two such sums is the softmax's sum.
-/
module

public import proofs.«01_k».proof.Proof.Flash.Loop

@[expose] public section

set_option maxRecDepth 16384

noncomputable section

namespace Cert.Proof.Flash

open Cert.KernelIdeal Cert.KernelIdeal.Gen

open Idealize.ShloMosaic Idealize.ShloMosaic.TcCoe

/-- The largest of real numbers, one at least, is a real number; terms that are `⊥` do not matter. -/
theorem max_real {ι : Type} (S : Finset ι) (f : ι → EReal) (hne : ∃ i ∈ S, f i ≠ ⊥) (h : ∀ i ∈ S, f i ≠ ⊤) : ∃ m : ℝ, S.fold max ⊥ f = m := by
  obtain ⟨i, hi, hb⟩ := hne
  show ∃ m : ℝ, S.sup f = m
  have h1 : S.sup f ≠ ⊤ := by
    have : S.sup f < ⊤ := (Finset.sup_lt_iff (by exact bot_lt_top)).2 fun j hj => lt_top_iff_ne_top.2 (h j hj)
    exact this.ne
  have h2 : S.sup f ≠ ⊥ := by
    intro e
    exact hb (le_bot_iff.1 (e ▸ Finset.le_sup (f := f) hi))
  exact ⟨(S.sup f).toReal, (EReal.coe_toReal h1 h2).symm⟩

/-- A sum of reals, as an extended real. -/
theorem sum_real {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of reals, as a real. -/
theorem exp2_sub (a b : ℝ) : Ideal.exp2 ((a : EReal) - (b : EReal)) = ((2 : ℝ) ^ (a - b) : ℝ) := by
  rw [← EReal.coe_sub, Ideal.exp2_coe]; rfl

/-- A sum of extended reals times a nonnegative real. -/
theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top c), ih]

section
variable (s : ℕ → ℝ) (w : ℕ → EReal)

/-- The values of the first `n` keys weighted by the exponentials of their scores less `m`. -/
def wsum (n : ℕ) (m : ℝ) : EReal := ∑ j ∈ Finset.range n, w j * Ideal.exp2 ((s j : EReal) - (m : EReal))

/-- Changing the number that is taken off. -/
theorem wsum_rescale (n : ℕ) (m m' : ℝ) : wsum s w n m * Ideal.exp2 ((m : EReal) - (m' : EReal)) = wsum s w n m' := by
  rw [wsum, wsum, exp2_sub, sum_mul_real _ _ _ (by positivity)]
  refine Finset.sum_congr rfl fun j _ => ?_
  rw [exp2_sub, exp2_sub, mul_assoc, ← EReal.coe_mul, ← Real.rpow_add (by norm_num)]
  congr 3; ring

/-- With ones for values the sum is a positive real. -/
theorem wsum_one (n : ℕ) (m : ℝ) : wsum s (fun _ => 1) n m = ((∑ j ∈ Finset.range n, (2 : ℝ) ^ (s j - m) : ℝ) : EReal) := by
  rw [wsum, sum_real]
  exact Finset.sum_congr rfl fun j _ => by rw [exp2_sub, one_mul]

/-- The accumulator times the reciprocal of the sum of exponentials is the sum of the values weighted by the softmax of
    the scores `x = s · log 2`, whatever reals `m`, `m'` were taken off. -/
theorem softmax_eq (n : ℕ) (hn : 0 < n) (m m' : ℝ) (x : ℕ → ℝ) (hx : ∀ j, s j = x j * (Real.log 2)⁻¹) :
    wsum s w n m * Ideal.div 1 (wsum s (fun _ => 1) n m)
      = ∑ j ∈ Finset.range n, Ideal.div (Ideal.exp ((x j : EReal) - (m' : EReal))) (∑ i ∈ Finset.range n, Ideal.exp ((x i : EReal) - (m' : EReal))) * w j := by
  have hl : Real.log 2 ≠ 0 := (Real.log_pos (by norm_num)).ne'
  have he : ∀ i, Real.exp (x i - m') = (2 : ℝ) ^ (s i - m) * (2 : ℝ) ^ (m - m' * (Real.log 2)⁻¹) := by
    intro i
    rw [← Real.rpow_add (by norm_num), Real.rpow_def_of_pos (by norm_num), hx]
    congr 1
    field_simp
    ring
  have hL : (0 : ℝ) < ∑ j ∈ Finset.range n, (2 : ℝ) ^ (s j - m) :=
    Finset.sum_pos (fun j _ => by positivity) ⟨0, Finset.mem_range.2 hn⟩
  have hc : (0 : ℝ) < (2 : ℝ) ^ (m - m' * (Real.log 2)⁻¹) := by positivity
  have hE : ∀ i, Ideal.exp ((x i : EReal) - (m' : EReal)) = ((2 : ℝ) ^ (s i - m) * (2 : ℝ) ^ (m - m' * (Real.log 2)⁻¹) : ℝ) := by
    intro i
    rw [← EReal.coe_sub, Ideal.exp_coe, he]
  have hS : ∑ i ∈ Finset.range n, Ideal.exp ((x i : EReal) - (m' : EReal))
      = ((∑ j ∈ Finset.range n, (2 : ℝ) ^ (s j - m)) * (2 : ℝ) ^ (m - m' * (Real.log 2)⁻¹) : ℝ) := by
    rw [Finset.sum_mul, sum_real]
    exact Finset.sum_congr rfl fun i _ => hE i
  rw [hS, wsum_one, Ideal.div_coe hL.ne', one_mul, wsum, sum_mul_real _ _ _ (by positivity)]
  refine Finset.sum_congr rfl fun j _ => ?_
  rw [hE, Ideal.div_coe (by positivity), exp2_sub, mul_assoc, ← EReal.coe_mul, ← EReal.coe_mul, mul_comm]
  congr 2
  field_simp
end

/-! ## The kernel's recursion -/

section
variable (x0 : Vec Ideal S1x512x256 .bf16) (x1 : Vec Ideal S1x8192x128 .bf16) (x2 : Vec Ideal S1x16x128x512 .bf16) (x3 : Vec Ideal S128x128 .bf16)
  (x4 : Vec Ideal S1x128x128 .bf16)

/-- After `n` blocks the maximum is some real `m` and the accumulators are the weighted sums over the meta keys and the keys
    of the `n` blocks. -/
theorem As_eq (x : Fin 1024) (s : ℕ → ℝ)
    (h0 : ∀ r : Fin 128, r.val < 16 → S0 x0 x3 r x = s r.val)
    (hS : ∀ (b : ℕ) (r : Fin 512), b < 16 → Sm x0 x1 b r x = s (16 + 512 * b + r.val)) :
    ∀ n ≤ 16, ∃ m : ℝ, Ms x0 x1 x3 n x = m ∧ ∀ (y : Fin 144) (w : ℕ → EReal), (∀ r : Fin 128, r.val < 16 → V0 x4 y r = w r.val) →
      (∀ (b : ℕ) (r : Fin 512), b < 16 → Vm x2 b y r = w (16 + 512 * b + r.val)) → As x0 x1 x2 x3 x4 n y x = wsum s w (16 + 512 * n) m := by
  intro n
  induction n with
  | zero =>
    intro _
    obtain ⟨m, hm⟩ : ∃ m : ℝ, M0 x0 x3 x = m := by
      rw [M0]
      refine max_real _ _ ⟨⟨0, by omega⟩, Finset.mem_univ _, ?_⟩ fun r _ => ?_
      · rw [h0 _ (by show 0 < 16; omega)]; exact EReal.coe_ne_bot _
      · by_cases hr : r.val < 16
        · rw [h0 _ hr]; exact EReal.coe_ne_top _
        · rw [S0, if_neg hr]; exact bot_ne_top
    refine ⟨m, hm, fun y w hV0 hV => ?_⟩
    show A0 x0 x3 x4 y x = _
    rw [A0, hm, wsum]
    have e : ∀ r : Fin 128, V0 x4 y r * Ideal.exp2 (S0 x0 x3 r x - (m : EReal))
        = (fun j : ℕ => if j < 16 then w j * Ideal.exp2 ((s j : EReal) - (m : EReal)) else 0) r.val := by
      intro r
      by_cases hr : r.val < 16
      · simp only [hr, if_true, h0 r hr, hV0 r hr]
      · simp only [hr, if_false, S0, EReal.bot_sub, Ideal.exp2_bot, mul_zero]
    rw [Finset.sum_congr rfl fun r _ => e r, Fin.sum_univ_eq_sum_range (fun j : ℕ => if j < 16 then w j * Ideal.exp2 ((s j : EReal) - (m : EReal)) else 0) 128,
      ← Finset.sum_filter]
    refine Finset.sum_congr ?_ fun _ _ => rfl
    ext j; simp only [Finset.mem_filter, Finset.mem_range]; omega
  | succ n ih =>
    intro hn
    obtain ⟨m, hm, hA⟩ := ih (by omega)
    obtain ⟨m1, hm1⟩ : ∃ m1 : ℝ, top 512 (fun r => Sm x0 x1 n r x) = m1 := by
      refine max_real _ _ ⟨⟨0, by omega⟩, Finset.mem_univ _, ?_⟩ fun r _ => ?_
      · rw [hS _ _ (by omega)]; exact EReal.coe_ne_bot _
      · rw [hS _ _ (by omega)]; exact EReal.coe_ne_top _
    have hm' : mxF (Ms x0 x1 x3 n) (Sm x0 x1 n) x = ((max m m1 : ℝ) : EReal) := by
      rw [mxF, hm, hm1]; exact (EReal.coe_strictMono.monotone.map_max).symm
    refine ⟨max m m1, hm', fun y w hV0 hV => ?_⟩
    show acF (Ms x0 x1 x3 n) (Sm x0 x1 n) (Vm x2 n) (As x0 x1 x2 x3 x4 n) y x = _
    rw [acF, hm', hm, hA y w hV0 hV, wsum_rescale, wsum, wsum, show 16 + 512 * (n + 1) = 16 + 512 * n + 512 by ring, Finset.sum_range_add _ (16 + 512 * n) 512]
    congr 1
    rw [← Fin.sum_univ_eq_sum_range (fun j => w (16 + 512 * n + j) * Ideal.exp2 ((s (16 + 512 * n + j) : EReal) - ((max m m1 : ℝ) : EReal))) 512]
    exact Finset.sum_congr rfl fun r _ => by rw [hS n r (by omega), hV n r (by omega)]

/-- The block that is written: the softmax's sum. -/
theorem outB_eq (t : Fin 256) (g : Fin 4) (d : Fin 128) (s : ℕ → ℝ) (w : ℕ → EReal) (z : ℕ → ℝ) (m' : ℝ)
    (hx : ∀ j, s j = z j * (Real.log 2)⁻¹)
    (h0 : ∀ r : Fin 128, r.val < 16 → S0 x0 x3 r ⟨256 * g.val + t.val, by omega⟩ = s r.val)
    (hS : ∀ (b : ℕ) (r : Fin 512), b < 16 → Sm x0 x1 b r ⟨256 * g.val + t.val, by omega⟩ = s (16 + 512 * b + r.val))
    (hV0 : ∀ (r : Fin 128), r.val < 16 → x4 (ix3 (0 : Fin 1) d r) = w r.val)
    (hV : ∀ (b : ℕ) (r : Fin 512) (hb : b < 16), x2 (ix4 (0 : Fin 1) (⟨b, hb⟩ : Fin 16) d r) = w (16 + 512 * b + r.val)) :
    outB x0 x1 x2 x3 x4 t g d
      = ∑ j ∈ Finset.range 8208, Ideal.div (Ideal.exp ((z j : EReal) - (m' : EReal))) (∑ i ∈ Finset.range 8208, Ideal.exp ((z i : EReal) - (m' : EReal))) * w j := by
  obtain ⟨m, -, hA⟩ := As_eq x0 x1 x2 x3 x4 ⟨256 * g.val + t.val, by omega⟩ s h0 hS 16 (by omega)
  rw [outB, hA ⟨d.val, by omega⟩ w ?_ ?_, hA ⟨128, by omega⟩ (fun _ => 1) ?_ ?_]
  · exact softmax_eq s w 8208 (by omega) m m' z hx
  · intro r hr; rw [V0, dif_neg (by show ¬ 128 < 128; omega)]
  · intro b r hb; rw [Vm, dif_neg (by show ¬ 128 < 128; omega)]
  · intro r hr; rw [V0, dif_pos (by show d.val < 128; omega)]; exact hV0 r hr
  · intro b r hb
    rw [Vm, dif_pos (by show d.val < 128; omega), ← hV b r hb]
    congr 2
    exact Fin.ext (Nat.mod_eq_of_lt hb)
end

end Cert.Proof.Flash

end
-- ==== Proof.Flash.Ref.lean ====
/-
  The attention reference over the extended reals, read at an index: scores of all the keys, meta keys first, the
  exponentials of their distances to a number, their quotients by the sum, and the sum of the values so weighted.
-/
module

public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.Proof.FlashRef

open Cert.ReferenceIdeal Cert.ReferenceIdeal.Gen Cert.ReferenceIdeal.Read

variable (q : FVec Ideal S4x8192x1024 .f32) (k v : FVec Ideal S4x8192x256 .f32) (km vm : FVec Ideal S16x256 .f32)

/-- Row `j` of the meta rows followed by a batch's rows, feature `d` of head `h`. -/
def row (x : FVec Ideal S4x8192x256 .f32) (xm : FVec Ideal S16x256 .f32) (b : Fin 4) (h : Fin 2) (j : Fin 8208) (d : Fin 128) : EReal :=
  if hj : j.val < 16 then xm (ix2 (⟨j.val, hj⟩ : Fin 16) (⟨128 * h.val + d.val, by omega⟩ : Fin 256))
  else x (ix3 b (⟨j.val - 16, by omega⟩ : Fin 8192) (⟨128 * h.val + d.val, by omega⟩ : Fin 256))

/-- Feature `d` of query head `g` of key head `h`, at token `T`. -/
def qry (b : Fin 4) (h : Fin 2) (g : Fin 4) (T : Fin 8192) (d : Fin 128) : EReal :=
  q (ix3 b T (⟨512 * h.val + 128 * g.val + d.val, by omega⟩ : Fin 1024))

theorem joined_apply (x : FVec Ideal S4x8192x256 .f32) (xm : FVec Ideal S16x256 .f32) (b : Fin 4) (j : Fin 8208) (e : Fin 256) :
    val_main_v3 (F := Ideal) x xm (ix3 b j e) = if hj : j.val < 16 then xm (ix2 (⟨j.val, hj⟩ : Fin 16) e) else x (ix3 b (⟨j.val - 16, by omega⟩ : Fin 8192) e) := by
  have hb := b.isLt; have he := e.isLt; have hj' := j.isLt
  by_cases hj : j.val < 16
  · rw [dif_pos hj]
    pointwise [val_main_v3, val_main_v2, val_main_v1]
    rw [dif_pos hj]
  · rw [dif_neg hj]
    pointwise [val_main_v3]
    rw [dif_neg hj]

theorem v7_apply (b : Fin 4) (j : Fin 8208) (h : Fin 2) (d : Fin 128) : val_main_v7 (F := Ideal) k km (ix4 b j h d) = row k km b h j d := by
  have hb := b.isLt; have hj := j.isLt; have hh := h.isLt; have hd := d.isLt
  rw [val_main_v7_apply, row, ← joined_apply]
  congr 1
  funext a
  apply Fin.ext
  match a with
  | ⟨0, _⟩ => show (((b.val * 8208 + j.val) * 2 + h.val) * 128 + d.val) / 2101248 = b.val; omega
  | ⟨1, _⟩ => show (((b.val * 8208 + j.val) * 2 + h.val) * 128 + d.val) / 256 % 8208 = j.val; omega
  | ⟨2, _⟩ => show (((b.val * 8208 + j.val) * 2 + h.val) * 128 + d.val) % 256 = 128 * h.val + d.val; omega

theorem v8_apply (b : Fin 4) (j : Fin 8208) (h : Fin 2) (d : Fin 128) : val_main_v8 (F := Ideal) v vm (ix4 b j h d) = row v vm b h j d :=
  v7_apply v vm b j h d

theorem v0_apply (b : Fin 4) (T : Fin 8192) (h : Fin 2) (g : Fin 4) (d : Fin 128) : val_main_v0 (F := Ideal) q (ix5 b T h g d) = qry q b h g T d := by
  have hb := b.isLt; have hT := T.isLt; have hh := h.isLt; have hg := g.isLt; have hd := d.isLt
  rw [val_main_v0_apply, qry]
  congr 1
  funext a
  apply Fin.ext
  match a with
  | ⟨0, _⟩ => show ((((b.val * 8192 + T.val) * 2 + h.val) * 4 + g.val) * 128 + d.val) / 8388608 = b.val; omega
  | ⟨1, _⟩ => show ((((b.val * 8192 + T.val) * 2 + h.val) * 4 + g.val) * 128 + d.val) / 1024 % 8192 = T.val; omega
  | ⟨2, _⟩ => show ((((b.val * 8192 + T.val) * 2 + h.val) * 4 + g.val) * 128 + d.val) % 1024 = 512 * h.val + 128 * g.val + d.val; omega

theorem bits_128 : Ideal.ofBits FTy.f32 0x43000000#32 = ((128 : ℝ) : EReal) := by
  simp [Ideal.ofBits, Ideal.ieee]
  rw [← EReal.coe_mul]
  norm_num

/-- The divisor of the scores. -/
theorem v12_apply (i : S4x2x4x8192x8208.Idx) : val_main_v12 (F := Ideal) i = ((Real.sqrt 128 : ℝ) : EReal) := by
  rw [val_main_v12_apply, val_main_v11_apply, val_main_cst_apply]
  show Ideal.sqrt (Ideal.ofBits FTy.f32 0x43000000#32) = _
  rw [bits_128, Ideal.sqrt_coe, if_neg (by norm_num)]

/-- The score of key `j`. -/
def score (b : Fin 4) (h : Fin 2) (g : Fin 4) (T : Fin 8192) (j : Fin 8208) : EReal :=
  Ideal.div (∑ d : Fin 128, row k km b h j d * qry q b h g T d) ((Real.sqrt 128 : ℝ) : EReal)

theorem v13_apply (b : Fin 4) (h : Fin 2) (g : Fin 4) (T : Fin 8192) (j : Fin 8208) :
    val_main_v13 (F := Ideal) q k km (ix5 b h g T j) = score q k km b h g T j := by
  rw [val_main_v13_apply, v12_apply, val_main_v10_apply, val_main_v9_apply, score]
  show Ideal.div _ _ = _
  congr 1
  refine Finset.sum_congr rfl fun d _ => ?_
  rw [← v7_apply, ← v0_apply]
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

theorem bot_bits' : Ideal.ofBits FTy.f32 0xFF800000#32 = ⊥ := by simp [Ideal.ofBits, Ideal.ieee]

/-- The largest score. -/
def best (b : Fin 4) (h : Fin 2) (g : Fin 4) (T : Fin 8192) : EReal :=
  (Finset.univ : Finset (Fin 8208)).fold max ⊥ fun j => score q k km b h g T j

theorem v14_apply (b : Fin 4) (h : Fin 2) (g : Fin 4) (T : Fin 8192) : val_main_v14 (F := Ideal) q k km (ix4 b h g T) = best q k km b h g T := by
  have e : ∀ y : FVec Ideal S4x2x4x8192x8208 .f32, Host.reduce FloatOps.maximumf y (val_main_cst_0 (F := Ideal)) reducesTo_S4x2x4x8192x8208_S4x2x4x8192_d4 h_S_ (ix4 b h g T)
      = (Finset.univ : Finset (Fin 8208)).fold max ⊥ fun j => y (ix5 b h g T j) := by
    intro y
    pointwise [val_main_cst_0]
    rw [bot_bits']
  rw [val_main_v14, e, best]
  simp only [v13_apply]

theorem v18_apply (b : Fin 4) (h : Fin 2) (g : Fin 4) (T : Fin 8192) (j : Fin 8208) :
    val_main_v18 (F := Ideal) q k km (ix5 b h g T j) = best q k km b h g T := by
  rw [val_main_v18_apply, val_main_v17_apply, val_main_v16_apply, val_main_v15_apply, val_main_cst_1_apply, ← v14_apply]
  show max (Ideal.ofBits FTy.f32 0xFF800000#32) _ = _
  rw [bot_bits', max_eq_right bot_le]
  congr 1
  funext a
  match a with
  | ⟨0, _⟩ => rfl
  | ⟨1, _⟩ => rfl
  | ⟨2, _⟩ => rfl
  | ⟨3, _⟩ => rfl

theorem v20_apply (b : Fin 4) (h : Fin 2) (g : Fin 4) (T : Fin 8192) (j : Fin 8208) :
    val_main_v20 (F := Ideal) q k km (ix5 b h g T j) = Ideal.exp (score q k km b h g T j - best q k km b h g T) := by
  rw [val_main_v20_apply, val_main_v19_apply, v13_apply, v18_apply]
  rfl

theorem v23_apply (b : Fin 4) (h : Fin 2) (g : Fin 4) (T : Fin 8192) (j : Fin 8208) :
    val_main_v23 (F := Ideal) q k km (ix5 b h g T j) = ∑ i : Fin 8208, Ideal.exp (score q k km b h g T i - best q k km b h g T) := by
  rw [val_main_v23_apply, val_main_v22_apply, val_main_v21_apply, val_main_cst_2_apply]
  have z : FloatOps.ofBits (F := Ideal) FTy.f32 0x00000000#32 = (0 : EReal) := by
    show Ideal.ofBits FTy.f32 0x00000000#32 = _
    simp [Ideal.ofBits, Ideal.ieee]
  rw [z, zero_add]
  refine Finset.sum_congr rfl fun i _ => ?_
  rw [← v20_apply]
  congr 1
  funext a
  match a with
  | ⟨0, _⟩ => rfl
  | ⟨1, _⟩ => rfl
  | ⟨2, _⟩ => rfl
  | ⟨3, _⟩ => rfl
  | ⟨4, _⟩ => rfl

/-- The reference's result. -/
theorem result_apply (b : Fin 4) (T : Fin 8192) (h : Fin 2) (g : Fin 4) (d : Fin 128) :
    val_main_v28 (F := Ideal) q k v km vm (ix3 b T (⟨512 * h.val + 128 * g.val + d.val, by omega⟩ : Fin 1024))
      = ∑ j : Fin 8208, Ideal.div (Ideal.exp (score q k km b h g T j - best q k km b h g T))
          (∑ i : Fin 8208, Ideal.exp (score q k km b h g T i - best q k km b h g T)) * row v vm b h j d := by
  have hb := b.isLt; have hT := T.isLt; have hh := h.isLt; have hg := g.isLt; have hd := d.isLt
  rw [val_main_v28_apply]
  show val_main_v27 (F := Ideal) q k v km vm _ = _
  rw [val_main_v27_apply, val_main_v26_apply, val_main_v25_apply]
  refine Finset.sum_congr rfl fun j _ => ?_
  rw [mul_comm, ← v8_apply]
  refine congrArg₂ (· * ·) ?_ (congrArg _ ?_)
  · rw [show ridx_main_v25 (idx_main_v26 (idx_main_v27 (ix3 b T (⟨512 * h.val + 128 * g.val + d.val, by omega⟩ : Fin 1024)))) j = ix5 b h g T j from by
      funext a
      apply Fin.ext
      match a with
      | ⟨0, _⟩ => show ((b.val * 8192 + T.val) * 1024 + (512 * h.val + 128 * g.val + d.val)) / 8388608 = b.val; omega
      | ⟨1, _⟩ => show ((b.val * 8192 + T.val) * 1024 + (512 * h.val + 128 * g.val + d.val)) / 512 % 2 = h.val; omega
      | ⟨2, _⟩ => show ((b.val * 8192 + T.val) * 1024 + (512 * h.val + 128 * g.val + d.val)) / 128 % 4 = g.val; omega
      | ⟨3, _⟩ => show ((b.val * 8192 + T.val) * 1024 + (512 * h.val + 128 * g.val + d.val)) / 1024 % 8192 = T.val; omega
      | ⟨4, _⟩ => rfl]
    rw [val_main_v24_apply, v20_apply, v23_apply]
    rfl
  · funext a
    apply Fin.ext
    match a with
    | ⟨0, _⟩ => show ((b.val * 8192 + T.val) * 1024 + (512 * h.val + 128 * g.val + d.val)) / 8388608 = b.val; omega
    | ⟨1, _⟩ => rfl
    | ⟨2, _⟩ => show ((b.val * 8192 + T.val) * 1024 + (512 * h.val + 128 * g.val + d.val)) / 512 % 2 = h.val; omega
    | ⟨3, _⟩ => show ((b.val * 8192 + T.val) * 1024 + (512 * h.val + 128 * g.val + d.val)) % 128 = d.val; omega

end Cert.Proof.FlashRef

end
-- ==== Proof.Flash.Claim.lean ====
/-
  The claim about the attention kernel's value: over the extended reals, from finite queries and keys, it ends with the
  array the reference ends with.
-/
module

public import proofs.«01_k».proof.Defs
public import proofs.«01_k».proof.Proof.Flash.Value
public import proofs.«01_k».proof.Proof.Flash.Maths
public import proofs.«01_k».proof.Proof.Flash.Ref
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Proof.Flash

open Cert.KernelIdeal Cert.KernelIdeal.Gen
open Cert.Proof.FlashRef (row qry score best)

/-- The side conditions of the precondition's function. -/
theorem preFacts : Cert.Pre_finite_scores.Facts := ⟨by decide, by decide, by decide⟩

theorem top_bits : Ideal.ofBits FTy.f32 0x7F800000#32 = ⊤ := by simp [Ideal.ofBits, Ideal.ieee]

/-- An extended real whose absolute value is below `⊤` is a real. -/
theorem real_of_lt (x : EReal) (h : Ideal.cmp .olt (max x (-x)) (Ideal.ofBits FTy.f32 0x7F800000#32) = 1#1) : ∃ r : ℝ, x = r := by
  rw [top_bits] at h
  induction x using EReal.rec with
  | bot => simp [Ideal.cmp] at h
  | coe r => exact ⟨r, rfl⟩
  | top => simp [Ideal.cmp] at h

section
variable (a b : Fin 128 → EReal) (ha : ∀ d, ∃ r : ℝ, a d = r) (hb : ∀ d, ∃ r : ℝ, b d = r)
include ha hb

/-- The inner product of two rows of reals. -/
theorem inner_real : ∑ d, a d * b d = ((∑ d, (a d).toReal * (b d).toReal : ℝ) : EReal) := by
  rw [sum_real]
  refine Finset.sum_congr rfl fun d _ => ?_
  obtain ⟨r, hr⟩ := ha d
  obtain ⟨s, hs⟩ := hb d
  rw [hr, hs, EReal.toReal_coe, EReal.toReal_coe, EReal.coe_mul]

theorem div_real : Ideal.div (∑ d, a d * b d) ((Real.sqrt 128 : ℝ) : EReal) = (((∑ d, (a d).toReal * (b d).toReal) * (Real.sqrt 128)⁻¹ : ℝ) : EReal) := by
  rw [inner_real a b ha hb, Ideal.div_coe (by positivity), one_div, EReal.coe_mul]

theorem scaled_real : ∑ d, a d * (b d * scl) = (((∑ d, (a d).toReal * (b d).toReal) * (Real.sqrt 128)⁻¹ * (Real.log 2)⁻¹ : ℝ) : EReal) := by
  have e : ∀ d, a d * (b d * scl) = (((a d).toReal * ((b d).toReal * ((Real.sqrt 128)⁻¹ * (Real.log 2)⁻¹)) : ℝ) : EReal) := by
    intro d
    obtain ⟨r, hr⟩ := ha d
    obtain ⟨s, hs⟩ := hb d
    rw [hr, hs, EReal.toReal_coe, EReal.toReal_coe, EReal.coe_mul, EReal.coe_mul]
  rw [Finset.sum_congr rfl fun d _ => e d, ← sum_real]
  congr 1
  rw [Finset.sum_mul, Finset.sum_mul]
  refine Finset.sum_congr rfl fun d _ => ?_
  ring
end

section
variable (q : FVec Ideal S4x8192x1024 .f32) (k v : FVec Ideal S4x8192x256 .f32) (km vm : FVec Ideal S16x256 .f32)
variable (hq : ∀ i, ∃ r : ℝ, q i = r) (hk : ∀ i, ∃ r : ℝ, k i = r) (hkm : ∀ i, ∃ r : ℝ, km i = r)

include hk hkm in
theorem row_real (b : Fin 4) (h : Fin 2) (j : Fin 8208) (d : Fin 128) : ∃ r : ℝ, row k km b h j d = r := by
  unfold row
  split
  · exact hkm _
  · exact hk _

/-- The scores as reals, by the key's number. -/
def zs (b : Fin 4) (h : Fin 2) (g : Fin 4) (T : Fin 8192) (j : ℕ) : ℝ :=
  if hj : j < 8208 then (∑ d : Fin 128, (row k km b h ⟨j, hj⟩ d).toReal * (qry q b h g T d).toReal) * (Real.sqrt 128)⁻¹ else 0

/-- The values, by the key's number. -/
def wvals (b : Fin 4) (h : Fin 2) (d : Fin 128) (j : ℕ) : EReal := if hj : j < 8208 then row v vm b h ⟨j, hj⟩ d else 0

include hq hk hkm in
theorem score_real (b : Fin 4) (h : Fin 2) (g : Fin 4) (T : Fin 8192) (j : Fin 8208) : score q k km b h g T j = zs q k km b h g T j.val := by
  rw [score, zs, dif_pos j.isLt]
  exact div_real _ _ (fun d => row_real k km hk hkm b h j d) (fun d => hq _)

include hq hk hkm in
theorem best_real (b : Fin 4) (h : Fin 2) (g : Fin 4) (T : Fin 8192) : ∃ r : ℝ, best q k km b h g T = r := by
  refine max_real _ _ ⟨⟨0, by omega⟩, Finset.mem_univ _, ?_⟩ fun j _ => ?_
  · rw [score_real q k km hq hk hkm]; exact EReal.coe_ne_bot _
  · rw [score_real q k km hq hk hkm]; exact EReal.coe_ne_top _

include hq hk hkm in
/-- The reference's result as a sum over the keys' numbers. -/
theorem ref_value (b : Fin 4) (T : Fin 8192) (h : Fin 2) (g : Fin 4) (d : Fin 128) : ∃ m' : ℝ,
    Cert.ReferenceIdeal.Read.val_main_v28 (F := Ideal) q k v km vm (ix3 b T (⟨512 * h.val + 128 * g.val + d.val, by omega⟩ : Fin 1024))
      = ∑ j ∈ Finset.range 8208, Ideal.div (Ideal.exp ((zs q k km b h g T j : EReal) - (m' : EReal)))
          (∑ i ∈ Finset.range 8208, Ideal.exp ((zs q k km b h g T i : EReal) - (m' : EReal))) * wvals v vm b h d j := by
  obtain ⟨m', hm⟩ := best_real q k km hq hk hkm b h g T
  refine ⟨m', (Cert.Proof.FlashRef.result_apply q k v km vm b T h g d).trans ?_⟩
  rw [hm]
  rw [← Fin.sum_univ_eq_sum_range (fun i => Ideal.exp ((zs q k km b h g T i : EReal) - (m' : EReal))) 8208]
  rw [← Fin.sum_univ_eq_sum_range (fun j => Ideal.div (Ideal.exp ((zs q k km b h g T j : EReal) - (m' : EReal)))
          (∑ i : Fin 8208, Ideal.exp ((zs q k km b h g T i.val : EReal) - (m' : EReal))) * wvals v vm b h d j) 8208]
  refine Finset.sum_congr rfl fun j _ => ?_
  rw [score_real q k km hq hk hkm, wvals, dif_pos j.isLt]
  simp only [score_real q k km hq hk hkm]
end

section
variable (m : (ℓ : Loc nD τ sig) → Buf (Elt Ideal) ℓ) (c : Dev nD)
variable (hq : ∀ i, ∃ r : ℝ, aQ m c i = r) (hk : ∀ i, ∃ r : ℝ, aK m c i = r) (hkm : ∀ i, ∃ r : ℝ, aKm m c i = r)

theorem qm_block (t : Fin cfg0.N) (τ : Fin 256) (g : Fin 4) (d : Fin 128) :
    Qm (iblk m c 0 t) d ⟨256 * g.val + τ.val, by omega⟩ = qry (aQ m c) (pb t) (ph t) g ⟨256 * (pi t).val + τ.val, by omega⟩ d * scl := by
  have e := iblk0_apply m c t (⟨128 * g.val + d.val, by omega⟩ : Fin 512) τ
  rw [Qm, qry]
  refine congrArg (· * scl) (Eq.trans (congrArg _ ?_) (e.trans (congrArg _ ?_)))
  · have e1 : (⟨128 * ((256 * g.val + τ.val) / 256) + d.val, by omega⟩ : Fin 512) = ⟨128 * g.val + d.val, by omega⟩ := Fin.ext (by
      show 128 * ((256 * g.val + τ.val) / 256) + d.val = 128 * g.val + d.val; omega)
    have e2 : (⟨(256 * g.val + τ.val) % 256, by omega⟩ : Fin 256) = τ := Fin.ext (by show (256 * g.val + τ.val) % 256 = τ.val; omega)
    exact congrArg₂ (fun x y => ix3 (0 : Fin 1) x y) e1 e2
  · have e3 : (⟨512 * (ph t).val + (128 * g.val + d.val), by omega⟩ : Fin 1024) = ⟨512 * (ph t).val + 128 * g.val + d.val, by omega⟩ := Fin.ext (by
      show 512 * (ph t).val + (128 * g.val + d.val) = 512 * (ph t).val + 128 * g.val + d.val; omega)
    exact congrArg (fun x => ix3 (pb t) _ x) e3

include hq hk hkm in
/-- What a grid point leaves at token `τ`, query head `g`, feature `d` is the same sum, whatever number the scores are measured from. -/
theorem ker_value (t : Fin cfg0.N) (τ : Fin 256) (g : Fin 4) (d : Fin 128) (m' : ℝ) :
    outB (iblk m c 0 t) (iblk m c 1 t) (iblk m c 2 t) (iblk m c 3 t) (iblk m c 4 t) τ g d
      = ∑ j ∈ Finset.range 8208, Ideal.div (Ideal.exp ((zs (aQ m c) (aK m c) (aKm m c) (pb t) (ph t) g ⟨256 * (pi t).val + τ.val, by omega⟩ j : EReal) - (m' : EReal)))
          (∑ i ∈ Finset.range 8208, Ideal.exp ((zs (aQ m c) (aK m c) (aKm m c) (pb t) (ph t) g ⟨256 * (pi t).val + τ.val, by omega⟩ i : EReal) - (m' : EReal)))
        * wvals (aV m c) (aVm m c) (pb t) (ph t) d j := by
  refine outB_eq _ _ _ _ _ τ g d (fun j => zs (aQ m c) (aK m c) (aKm m c) (pb t) (ph t) g ⟨256 * (pi t).val + τ.val, by omega⟩ j * (Real.log 2)⁻¹)
    _ _ m' (fun _ => rfl) ?_ ?_ ?_ ?_
  · intro r hr
    rw [S0, if_pos hr, zs, dif_pos (by omega)]
    refine Eq.trans (Finset.sum_congr rfl fun e _ => ?_) (scaled_real (fun e => row (aK m c) (aKm m c) (pb t) (ph t) ⟨r.val, by omega⟩ e)
      (fun e => qry (aQ m c) (pb t) (ph t) g ⟨256 * (pi t).val + τ.val, by omega⟩ e) (fun e => row_real _ _ hk hkm _ _ _ _) (fun e => hq _))
    rw [qm_block, row, dif_pos hr]
    exact congrArg (· * _) (iblk3_apply m c t ⟨r.val, hr⟩ e)
  · intro b r hb
    rw [Sm, zs, dif_pos (by omega)]
    refine Eq.trans (Finset.sum_congr rfl fun e _ => ?_) (scaled_real (fun e => row (aK m c) (aKm m c) (pb t) (ph t) ⟨16 + 512 * b + r.val, by omega⟩ e)
      (fun e => qry (aQ m c) (pb t) (ph t) g ⟨256 * (pi t).val + τ.val, by omega⟩ e) (fun e => row_real _ _ hk hkm _ _ _ _) (fun e => hq _))
    rw [qm_block, row, dif_neg (by show ¬ 16 + 512 * b + r.val < 16; omega)]
    refine congrArg (· * _) ((iblk1_apply m c t _ e).trans (congrArg (fun x => aK m c (ix3 (pb t) x _)) (Fin.ext ?_)))
    show (512 * b + r.val) % 8192 = 16 + 512 * b + r.val - 16
    omega
  · intro r hr
    rw [wvals, dif_pos (by omega), row, dif_pos hr]
    exact iblk4_apply m c t d ⟨r.val, hr⟩
  · intro b r hb
    rw [wvals, dif_pos (by omega), row, dif_neg (by show ¬ 16 + 512 * b + r.val < 16; omega)]
    refine (iblk2_apply m c t ⟨b, hb⟩ d r).trans (congrArg (fun x => aV m c (ix3 (pb t) x _)) (Fin.ext ?_))
    show 512 * b + r.val = 16 + 512 * b + r.val - 16
    omega

include hq hk hkm in
/-- The reference's result is the kernel's. -/
theorem result_eq : Cert.ReferenceIdeal.Read.val_main_v28 (F := Ideal) (aQ m c) (aK m c) (aV m c) (aKm m c) (aVm m c) = G m c := by
  funext i
  obtain ⟨b, T, e, rfl⟩ : ∃ (b : Fin 4) (T : Fin 8192) (e : Fin 1024), i = ix3 b T e := by
    refine ⟨⟨(i 0).val, (i 0).isLt⟩, ⟨(i 1).val, (i 1).isLt⟩, ⟨(i 2).val, (i 2).isLt⟩, ?_⟩
    funext a
    match a with
    | ⟨0, _⟩ => rfl
    | ⟨1, _⟩ => rfl
    | ⟨2, _⟩ => rfl
  have hb := b.isLt; have hT := T.isLt; have he := e.isLt
  let h : Fin 2 := ⟨e.val / 512, by omega⟩
  let g : Fin 4 := ⟨e.val % 512 / 128, by omega⟩
  let d : Fin 128 := ⟨e.val % 512 % 128, by omega⟩
  let τ' : Fin 256 := ⟨T.val % 256, by omega⟩
  have ee : e = (⟨512 * h.val + 128 * g.val + d.val, by omega⟩ : Fin 1024) := Fin.ext (by
    show e.val = 512 * (e.val / 512) + 128 * (e.val % 512 / 128) + e.val % 512 % 128; omega)
  have e1 : pb (pt b T e) = b := Fin.ext (by show (64 * b.val + 32 * (e.val / 512) + T.val / 256) / 64 = b.val; omega)
  have e2 : ph (pt b T e) = h := Fin.ext (by show (64 * b.val + 32 * (e.val / 512) + T.val / 256) / 32 % 2 = e.val / 512; omega)
  have e3 : (⟨256 * (pi (pt b T e)).val + τ'.val, by omega⟩ : Fin 8192) = T := Fin.ext (by
    show 256 * ((64 * b.val + 32 * (e.val / 512) + T.val / 256) % 32) + T.val % 256 = T.val; omega)
  obtain ⟨m', hm⟩ := ref_value (aQ m c) (aK m c) (aV m c) (aKm m c) (aVm m c) hq hk hkm b T h g d
  have hv := ker_value m c hq hk hkm (pt b T e) τ' g d m'
  rw [e1, e2, e3] at hv
  rw [← ee] at hm
  exact hm.trans hv.symm
end

/-- Over the extended reals, from finite queries and keys, the attention kernel and the reference end with the same result array. -/
theorem algebraic : Cert.algebraic_KernelIdeal_ReferenceIdeal_pre_finite_scores (hPre_finite_scores := preFacts) := by
  intro m g m' g' hpre hargs
  refine ⟨fun c => G m c, run m g, ?_⟩
  refine (θ_run Cert.ReferenceIdeal.defs _ _).mono (fun r h c => ?_) (Cert.ReferenceIdeal.Value.run (F := Ideal) m' g')
  obtain ⟨h, hrest⟩ := h c
  refine ⟨h.trans ?_, hrest⟩
  obtain ⟨e0, e1, e2, e3, e4⟩ := hargs c
  obtain ⟨p0, p1, p3⟩ := hpre c
  rw [Cert.ReferenceIdeal.Read.val_main_v28_eq]
  rw [e0, e1, e2, e3, e4]
  exact result_eq m c (fun i => real_of_lt _ (congrFun p0 i)) (fun i => real_of_lt _ (congrFun p1 i)) (fun i => real_of_lt _ (congrFun p3 i))

end Cert.Proof.Flash

end
-- ==== Proof.Inproj.Run.lean ====
/-
  The input projection's body on any whole memrefs. At the first column block of a tile it normalizes the tile, keeps it
  in the scratch and writes the gates' product; at every column block it writes the product of what the scratch holds.
-/
module

public import proofs.«01_k».proof.Proof.Gen.Kernel3Ideal.Skeleton
public import proofs.«01_k».proof.Proof.Gen.Kernel3Ideal.Frame
public import proofs.«01_k».proof.Proof.Gen.Kernel3Ideal.Points
public import Idealize.ShloMosaic.Lib.Tactic
public import Idealize.ShloMosaic.Lib.Pipeline.Value

@[expose] public section

noncomputable section

namespace Cert.Proof.Inproj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zeros : (![0, 0] : Fin 2 → Nat) = fun _ => 0 := funext fun a => by fin_cases a <;> rfl

/-- One store over a whole buffer leaves what it stored. -/
theorem read_stored {S : Shape} {e : EltTy} (mr : Memref sig .tc .vmem S e) (f : mr.view.ty.Contents (Elt F)) {off : Fin S.rank → Nat}
    (h : off = fun _ => 0) (inb : ∀ a, off a + S.size a ≤ S.size a) (w : S.Idx → Elt F e) :
    mr.view.read (Elt F) (mr.view.writes (Elt F) f [(⟨Rect.unit off S.size inb, w⟩ : View.Piece (Elt F) S e)]) = w := by
  rw [View.read_writes_eq_canon _ _ _ (fun y => ⟨_, List.mem_singleton.mpr rfl, by
    subst h; rw [Rect.mem_set_unit]; exact fun a => ⟨Nat.zero_le _, by rw [Nat.zero_add]; exact (y a).isLt⟩⟩)]
  exact View.canon_unit_zero h inb w

set_option maxHeartbeats 1000000 in
/-- The first column block of a tile. -/
theorem body_first (c : Dev nD) (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x2432 .bf16) (harg4 : arg4.IsWhole) (arg5 : Memref sig .tc .vmem S1024x128 .bf16) (harg5 : arg5.IsWhole)
    (arg6 : Memref sig .tc .vmem S1024x2432 .bf16) (harg6 : arg6.IsWhole) (arg7 : Memref sig .tc .vmem S1024x128 .f32) (harg7 : arg7.IsWhole)
    (arg8 : Memref sig .tc .vmem S1024x1024 .bf16) (harg8 : arg8.IsWhole) (hc : k0_cond1 i = 1#1)
    (x0 : Vec F S1024x1024 .f32) (x1 : Vec F S1x1024 .f32) (x2 : Vec F S1024x2432 .bf16) (x3 : Vec F S1024x128 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay4 (k0_pay2 x0 x1) x2)
            ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored arg6 _ zeros]
    rw [View.readCov_unit_zero (S := S1024x1024) _ zeros]
    simp only [View.readAt_eq_ld, harg2.read_unread, harg3.read_unread, harg4.read_unread, harg5.read_unread,
      View.ld_unit_zero (S := S1024x1024) zeros, View.ld_unit_zero (S := S1x1024) zeros, View.ld_unit_zero (S := S1024x2432) zeros,
      View.ld_unit_zero (S := S1024x128) zeros]
  isplitl [H5]
  · iexists _; isplitr; swap; · iexact H5
    ipureintro
    rw [read_stored arg7 _ zeros]
    simp only [View.readAt_eq_ld, harg2.read_unread, harg3.read_unread, harg4.read_unread, harg5.read_unread,
      View.ld_unit_zero (S := S1024x1024) zeros, View.ld_unit_zero (S := S1x1024) zeros, View.ld_unit_zero (S := S1024x2432) zeros,
      View.ld_unit_zero (S := S1024x128) zeros]
  iexists _; isplitr; swap; · iexact H6
  ipureintro
  sl_unfold_words
  rw [read_stored arg8 _ zeros]
  simp only [View.readAt_eq_ld, harg2.read_unread, harg3.read_unread, harg4.read_unread, harg5.read_unread,
    View.ld_unit_zero (S := S1024x1024) zeros, View.ld_unit_zero (S := S1x1024) zeros, View.ld_unit_zero (S := S1024x2432) zeros,
    View.ld_unit_zero (S := S1024x128) zeros]

set_option maxHeartbeats 1000000 in
/-- The later column blocks: the scratch still holds the tile, and only the main product is written. -/
theorem body_later (c : Dev nD) (i : grid0.Coords)
    (arg2 : Memref sig .tc .vmem S1024x1024 .f32) (harg2 : arg2.IsWhole) (arg3 : Memref sig .tc .vmem S1x1024 .f32) (harg3 : arg3.IsWhole)
    (arg4 : Memref sig .tc .vmem S1024x2432 .bf16) (harg4 : arg4.IsWhole) (arg5 : Memref sig .tc .vmem S1024x128 .bf16) (harg5 : arg5.IsWhole)
    (arg6 : Memref sig .tc .vmem S1024x2432 .bf16) (harg6 : arg6.IsWhole) (arg7 : Memref sig .tc .vmem S1024x128 .f32) (harg7 : arg7.IsWhole)
    (arg8 : Memref sig .tc .vmem S1024x1024 .bf16) (harg8 : arg8.IsWhole) (hc : ¬k0_cond1 i = 1#1)
    (x2 : Vec F S1024x2432 .bf16) (z : Vec F S1024x1024 .bf16)
    (E : Set ℕ) (K : PUnit → sProp 𝕄) :
    iprop(owns (c : Thread nD τ) arg4 fullShare x2 ∗ (∃ d, owns (c : Thread nD τ) arg6 fullShare d) ∗ owns (c : Thread nD τ) arg8 fullShare z
        ∗ (iprop(owns (c : Thread nD τ) arg4 fullShare x2 ∗ owns (c : Thread nD τ) arg6 fullShare (k0_pay4 z x2)
            ∗ owns (c : Thread nD τ) arg8 fullShare z) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc)
  sl_step
  iapply Hk
  isplitl [H2]
  · iexists _; isplitr; · ipureintro; exact harg4.read_unread _
    iexact H2
  isplitl [H4]
  · iexists _; isplitr; swap; · iexact H4
    ipureintro
    rw [read_stored arg6 _ zeros]
    simp only [View.readAt_eq_ld, harg4.read_unread, harg8.read_unread,
      View.ld_unit_zero (S := S1024x1024) zeros, View.ld_unit_zero (S := S1024x2432) zeros]
  iexists _; isplitr; · ipureintro; exact harg8.read_unread _
  iexact H6

end Cert.Proof.Inproj

end
-- ==== Proof.Inproj.Frame.lean ====
/-
  The launch of the input projection, from any memory and at any values: the scratch carries the normalized tile over the
  column blocks of a row tile, the gates' block is written at the first of them and written back after the last, and
  every argument array ends as it was.
-/
module

public import proofs.«01_k».proof.Proof.Inproj.Run
public import proofs.«01_k».proof.Proof.Gen.Kernel3Ideal.Launch
public import Idealize.ShloMosaic.Lib.Claim

@[expose] public section

noncomputable section

namespace Cert.Proof.Inproj

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 128 := N_0

/-- The body's condition holds at the first column block of a tile. -/
theorem cond_iff (t : Fin cfg0.N) : k0_cond1 (grid0.coords t) = 1#1 ↔ t.val % 4 = 0 := by
  have ht : t.val < 128 := lt_of_lt_of_eq t.isLt N_eq
  have e1 : (grid0.coords t 1).val = t.val / 1 % 4 := Pipeline.Grid.coords_val t 1 (by decide) rfl
  simp only [k0_cond1, e1]
  word_cmp

/-- The gates' window is idle at the others. -/
theorem idle_first (t : Fin cfg0.N) (h : t.val % 4 = 0) : cfg0.idle 5 (cfg0.grid.coords t) = false := by
  show (!(k0_cond1 (grid0.coords t) == 1#1)) = false
  rw [(cond_iff t).mpr h]; rfl

theorem idle_later (t : Fin cfg0.N) (h : ¬t.val % 4 = 0) : cfg0.idle 5 (cfg0.grid.coords t) = true := by
  show (!(k0_cond1 (grid0.coords t) == 1#1)) = true
  rw [beq_eq_false_iff_ne.mpr (fun e => h ((cond_iff t).mp e))]; rfl

/-- The first point of the tile of position `n`. -/
def pt0 (n : ℕ) (h : n < cfg0.N) : Fin cfg0.N := ⟨4 * (n / 4), by omega⟩

/-- The normalized tile at position `n`. -/
def tile (c : Dev nD) (n : ℕ) (h : n < cfg0.N) : Vec F S1024x1024 .bf16 :=
  k0_pay2 (iblk m c 0 (pt0 n h)) (iblk m c 1 (pt0 n h))

/-- The gates' block at position `n`. -/
def gates (c : Dev nD) (n : ℕ) (h : n < cfg0.N) : Vec F S1024x128 .f32 :=
  k0_pay3 (iblk m c 0 (pt0 n h)) (iblk m c 1 (pt0 n h)) (iblk m c 3 (pt0 n h))

/-- What the scratch holds between the points: the tile inside a row of points, anything between two rows. -/
def kept (c : Dev nD) (n : ℕ) : sProp 𝕄 :=
  if h : n % 4 ≠ 0 ∧ n < cfg0.N then
    iprop(owns (c : Thread nD τ) (Memref.whole cc0_scratch0) fullShare (tile m c n h.2) ∗ ∃ r, prngReg c r)
  else Pipeline.ΦA spec0 c

theorem kept_any (c : Dev nD) (n : ℕ) (h : n % 4 = 0) : kept m c n = (Pipeline.ΦA spec0 c : sProp 𝕄) := dif_neg fun e => e.1 h

theorem kept_tile (c : Dev nD) (n : ℕ) (h : n % 4 ≠ 0) (hn : n < cfg0.N) :
    kept m c n = iprop(owns (c : Thread nD τ) (Memref.whole cc0_scratch0) fullShare (tile m c n hn) ∗ ∃ r, prngReg c r) := dif_pos ⟨h, hn⟩

theorem tile_congr (c : Dev nD) {n n' : ℕ} (h : n < cfg0.N) (h' : n' < cfg0.N) (e : n / 4 = n' / 4) : tile m c n h = tile m c n' h' := by
  have : pt0 n h = pt0 n' h' := Fin.ext (by show 4 * (n / 4) = 4 * (n' / 4); omega)
  unfold tile; rw [this]

theorem gates_congr (c : Dev nD) {n n' : ℕ} (h : n < cfg0.N) (h' : n' < cfg0.N) (e : n / 4 = n' / 4) : gates m c n h = gates m c n' h' := by
  have : pt0 n h = pt0 n' h' := Fin.ext (by show 4 * (n / 4) = 4 * (n' / 4); omega)
  unfold gates; rw [this]

/-- The staging memrefs at a point, and that each is whole. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2432 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2432 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)

/-- The arrays as the region finds them; each input left at its block, the outputs at theirs; the scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (tile m c t.val t.isLt) (iblk m c 2 t)
    | ⟨5, _⟩ => gates m c t.val t.isLt
  Φ t := kept m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (tile m c t.val t.isLt) (iblk m c 2 t) := by dsimp only [dats]
theorem after5 (c : Dev nD) (t : Fin cfg0.N) : (dats m 0 c).after 5 t = gates m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The gates' buffer, inside a row of points, holds the block that the row's first point left. -/
theorem before5 (c : Dev nD) (d) : ∀ (k : ℕ) (t : Fin cfg0.N), t.val % 4 = k + 1 → (dats m 0 c).before 5 t d = gates m c t.val t.isLt
  | k, t, h => by
    have ht : t.val ≠ 0 := by omega
    have hfl : (cfg0.win 5).flush ⟨t.val - 1, Nat.lt_of_le_of_lt (Nat.sub_le _ _) t.isLt⟩ = false :=
      Bool.eq_false_iff.mpr fun e => by have := (flush0_5 _).mp e; dsimp only at this; omega
    rw [(dats m 0 c).before_of_pos 5 t ht ((cfg0.win 5).fetch_out rfl t) d, hfl, if_neg Bool.false_ne_true]
    unfold Dat.left
    by_cases h1 : (t.val - 1) % 4 = 0
    · rw [idle_first _ h1]
      show (dats m 0 c).after 5 _ = _
      rw [after5]
      exact gates_congr m c _ _ (by show (t.val - 1) / 4 = t.val / 4; omega)
    · rw [idle_later _ h1]
      match k, h with
      | 0, h => exact absurd (show (t.val - 1) % 4 = 0 by omega) h1
      | k + 1, h =>
        refine (before5 c d k ⟨t.val - 1, _⟩ (show (t.val - 1) % 4 = k + 1 by omega)).trans ?_
        exact gates_congr m c _ _ (by show (t.val - 1) / 4 = t.val / 4; omega)

theorem defs₀_row (t : Fin cfg0.N) : defs₀ (F := F) .tc cfg0.body (cfg0.bodyArgs t (cfg0.slots t)) = bodyAt0 t := by
  unfold defs₀; rw [Defs.onTc_tc]

/-- What the body hands back of the gates' window at a point. -/
def post5 (c : Dev nD) (t : Fin cfg0.N) : sProp 𝕄 :=
  match cfg0.idle 5 (cfg0.grid.coords t) with
  | true =>
    match (cfg0.win 5).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

theorem post5_of (c : Dev nD) (t : Fin cfg0.N) : owns (c : Thread nD τ) (ms5 t) fullShare (gates m c t.val t.isLt) ⊢ post5 m c t := by
  unfold post5
  by_cases h : t.val % 4 = 0
  · rw [idle_first t h, after5]
  · rw [idle_later t h]
    cases hf : (cfg0.win 5).flush t
    · dsimp only
      iintro H
      iexists (gates m c t.val t.isLt)
      rw [before5 m c _ (t.val % 4 - 1) t (by omega)]
      iexact H
    · dsimp only
      rw [after5]

/-- The body's triple at a point. -/
theorem sound (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d)))
      ⊢ wp Idealize.ShloMosaic.frame (wpE (defs₀ (F := F)) Variants.none c none) Set.univ (bodyAt0 t) (fun _ =>
        iprop((dats m 0 c).Φ t.succ ∗ (dats m 0 c).owesAt () t.succ
          ∗ owns (c : Thread nD τ) (ms0 t) fullShare ((dats m 0 c).after 0 t)
          ∗ owns (c : Thread nD τ) (ms1 t) fullShare ((dats m 0 c).after 1 t)
          ∗ owns (c : Thread nD τ) (ms2 t) fullShare ((dats m 0 c).after 2 t)
          ∗ owns (c : Thread nD τ) (ms3 t) fullShare ((dats m 0 c).after 3 t)
          ∗ owns (c : Thread nD τ) (ms4 t) fullShare ((dats m 0 c).after 4 t)
          ∗ post5 m c t)) := by
  have hN : t.val < 128 := lt_of_lt_of_eq t.isLt N_eq
  simp only [before0, before1, before2, before3]
  rw [show (dats m 0 c).Φ t.succ = kept m c (t.val + 1) from rfl, show (dats m 0 c).Φ t.castSucc = kept m c t.val from rfl,
    show (dats m 0 c).owesAt () t.succ = (dats m 0 c).owesAt () t.castSucc from rfl,
    after0, after1, after2, after3, after4]
  by_cases h : t.val % 4 = 0
  · have hp : pt0 t.val t.isLt = t := Fin.ext (by show 4 * (t.val / 4) = t.val; omega)
    have hn : t.val + 1 < cfg0.N := lt_of_lt_of_eq (show t.val + 1 < 128 by omega) N_eq.symm
    have ht : tile m c t.val t.isLt = k0_pay2 (iblk m c 0 t) (iblk m c 1 t) := by unfold tile; rw [hp]
    have hg : gates m c t.val t.isLt = k0_pay3 (iblk m c 0 t) (iblk m c 1 t) (iblk m c 3 t) := by unfold gates; rw [hp]
    rw [kept_any m c _ h, kept_tile m c (t.val + 1) (by omega) hn, tile_congr m c hn t.isLt (by omega), ht]
    unfold Pipeline.ΦA
    rw [scopedRest0_eq]
    iintro ⟨⟨⟨%f, Hs⟩, Hp⟩, Ho, ⟨%d0, H0⟩, ⟨%d1, H1⟩, ⟨%d2, H2⟩, ⟨%d3, H3⟩, ⟨%d4, H4⟩, ⟨%d5, H5⟩⟩
    iapply (body_first c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) ((cond_iff t).mpr h) (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [H5]; · iexists _; iexact H5
    isplitl [Hs]
    · iexists f; rw [owns_whole]; iexact Hs
    iintro ⟨H0, H1, H2, H3, H4, H5, Hs⟩
    isplitl [Hs Hp]
    · isplitl [Hs]; · iexact Hs
      iexact Hp
    isplitl [Ho]; · iexact Ho
    isplitl [H0]; · iexact H0
    isplitl [H1]; · iexact H1
    isplitl [H2]; · iexact H2
    isplitl [H3]; · iexact H3
    isplitl [H4]; · iexact H4
    iapply (post5_of m c t)
    rw [hg]
    iexact H5
  · rw [kept_tile m c t.val h t.isLt]
    simp only [before5 m c _ (t.val % 4 - 1) t (by omega)]
    iintro ⟨⟨Hs, Hp⟩, Ho, ⟨%d0, H0⟩, ⟨%d1, H1⟩, ⟨%d2, H2⟩, ⟨%d3, H3⟩, ⟨%d4, H4⟩, ⟨%d5, H5⟩⟩
    iapply (body_later c (grid0.coords t) (ms0 t) (hs0 t) (ms1 t) (hs1 t) (ms2 t) (hs2 t) (ms3 t) (hs3 t) (ms4 t) (hs4 t) (ms5 t) (hs5 t)
      (Memref.whole cc0_scratch0) (Memref.isWhole_whole _) (fun e => h ((cond_iff t).mp e)) (iblk m c 2 t) (tile m c t.val t.isLt))
    isplitl [H2]; · iexact H2
    isplitl [H4]; · iexists _; iexact H4
    isplitl [Hs]; · iexact Hs
    iintro ⟨H2, H4, Hs⟩
    isplitl [Hs Hp]
    · by_cases h' : (t.val + 1) % 4 = 0
      · rw [kept_any m c _ h']
        unfold Pipeline.ΦA
        rw [scopedRest0_eq]
        isplitl [Hs]
        · iexists (tile m c t.val t.isLt); rw [← owns_whole]; iexact Hs
        iexact Hp
      · have hn : t.val + 1 < cfg0.N := lt_of_lt_of_eq (show t.val + 1 < 128 by omega) N_eq.symm
        rw [kept_tile m c (t.val + 1) h' hn, tile_congr m c hn t.isLt (by omega)]
        isplitl [Hs]; · iexact Hs
        iexact Hp
    isplitl [Ho]; · iexact Ho
    isplitl [H0]; · iexact H0
    isplitl [H1]; · iexact H1
    isplitl [H2]; · iexact H2
    isplitl [H3]; · iexact H3
    isplitl [H4]; · iexact H4
    iapply (post5_of m c t)
    iexact H5

theorem body_obligation (c : Dev nD) : BodyObligation (dats m 0 c) (defs₀ (F := F)) Variants.none () Set.univ := fun t => by
  rw [bigSep_W0, bigSep_W0, defs₀_row]
  exact triple_restated (sound m c t) rfl .rfl fun _ => .rfl

-- the library's implicit arguments are found by unifying its conclusion with this one
set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = kept m c 0 from rfl, kept_any m c 0 rfl])
    (hout := fun c => by rw [show (dats m 0 c).Φ (Fin.last cfg0.N) = kept m c cfg0.N from rfl, kept_any m c cfg0.N (by rw [N_eq])])

/-- The frame: from any memory the launch ends with every argument array as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.Inproj

end
-- ==== Proof.Inproj.Blocks.lean ====
/-
  What one grid point of the input projection computes, read at an index, in terms of the arrays the call was given.

  The grid is 32 row tiles by 4 column blocks. The kernel multiplies by the weight's columns in another order than the
  weight has them: the wide columns side by side (`colOf`), and the gates' 64 columns permuted (`gateCol`) and padded.
-/
module

public import proofs.«01_k».proof.Proof.Inproj.Frame
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem

namespace Cert.Proof.Inproj

open Cert.Kernel3Ideal Cert.Kernel3Ideal.Gen

/-- One row's root-mean-square normalization, times the gain, at feature `k`. -/
def normed (x : FVec Ideal S4x8192x1024 .f32) (g : FVec Ideal S1x1024 .f32) (b : Fin 4) (s : Fin 8192) (k : Fin 1024) : EReal :=
  x (ix3 b s k) * Ideal.rsqrt (Ideal.div (∑ l, x (ix3 b s l) * x (ix3 b s l)) (Ideal.ofBits FTy.f32 1149239296#32) + Ideal.ofBits FTy.f32 897988541#32) * g (ix2 0 k)

/-- One output of the projection: a normalized row against column `n` of the weight. -/
def proj (x : FVec Ideal S4x8192x1024 .f32) (g : FVec Ideal S1x1024 .f32) (w : FVec Ideal S1x1024x9792 .f32) (b : Fin 4) (s : Fin 8192) (n : Fin 9792) : EReal :=
  ∑ k : Fin 1024, normed x g b s k * w (ix3 0 k n)

/-- The weight's column that stands at column `l` of the wide part. -/
def colOf (l : Fin 9728) : Fin 9792 :=
  if h₁ : l.val < 6144 then ⟨l.val, by omega⟩
  else if h₂ : l.val < 7168 then ⟨l.val + 64, by omega⟩
  else if h₃ : l.val < 9216 then ⟨l.val + 576, by omega⟩
  else ⟨l.val - 1984, by omega⟩

/-- Nine runs of columns laid side by side, read at column `l`: one choice of run after another is `colOf`. -/
theorem colOf_runs (f : Fin 9792 → EReal) (l : Fin 9728) :
    (if h : l.val < 1024 then f ⟨l.val, by omega⟩
    else if h : l.val - 1024 < 1024 then f ⟨1024 + (l.val - 1024), by omega⟩
    else if h : l.val - 1024 - 1024 < 2048 then f ⟨2048 + (l.val - 1024 - 1024), by omega⟩
    else if h : l.val - 1024 - 1024 - 2048 < 2048 then f ⟨4096 + (l.val - 1024 - 1024 - 2048), by omega⟩
    else if h : l.val - 1024 - 1024 - 2048 - 2048 < 1024 then f ⟨6208 + (l.val - 1024 - 1024 - 2048 - 2048), by omega⟩
    else if h : l.val - 1024 - 1024 - 2048 - 2048 - 1024 < 1024 then f ⟨7744 + (l.val - 1024 - 1024 - 2048 - 2048 - 1024), by omega⟩
    else if h : l.val - 1024 - 1024 - 2048 - 2048 - 1024 - 1024 < 1024 then f ⟨8768 + (l.val - 1024 - 1024 - 2048 - 2048 - 1024 - 1024), by omega⟩
    else if h : l.val - 1024 - 1024 - 2048 - 2048 - 1024 - 1024 - 1024 < 256 then
      f ⟨7232 + (l.val - 1024 - 1024 - 2048 - 2048 - 1024 - 1024 - 1024), by omega⟩
    else f ⟨7488 + (l.val - 1024 - 1024 - 2048 - 2048 - 1024 - 1024 - 1024 - 256), by omega⟩) = f (colOf l) := by
  have hl := l.isLt
  unfold colOf
  split_ifs <;> first
    | omega
    | exact congrArg f (Fin.ext (by dsimp only <;> omega))

/-- The weight's column that stands at column `l` of the gates. -/
def gateCol (l : Fin 64) : Fin 9792 := ⟨6144 + (32 * (l.val / 4 % 2) + 16 * (l.val / 2 % 2) + 2 * (l.val / 8) + l.val % 2), by omega⟩

/-- The weight as a matrix. -/
def wt (w : FVec Ideal S1x1024x9792 .f32) : FVec Ideal S1024x9792 .f32 := shapeCast S1024x9792 w shapeCasts_S1x1024x9792_S1024x9792

/-- The wide columns side by side. -/
def wide (w : FVec Ideal S1x1024x9792 .f32) : FVec Ideal S1024x9728 .bf16 :=
  truncf .bf16 (concatenate S1024x9728 1
    [⟨S1024x1024, extractStridedSlice S1024x1024 ![0, 0] (wt w) slices_S1024x9792_S1024x1024_0_0⟩,
     ⟨S1024x1024, extractStridedSlice S1024x1024 ![0, 1024] (wt w) slices_S1024x9792_S1024x1024_0_1024⟩,
     ⟨S1024x2048, extractStridedSlice S1024x2048 ![0, 2048] (wt w) slices_S1024x9792_S1024x2048_0_2048⟩,
     ⟨S1024x2048, extractStridedSlice S1024x2048 ![0, 4096] (wt w) slices_S1024x9792_S1024x2048_0_4096⟩,
     ⟨S1024x1024, extractStridedSlice S1024x1024 ![0, 6208] (wt w) slices_S1024x9792_S1024x1024_0_6208⟩,
     ⟨S1024x1024, extractStridedSlice S1024x1024 ![0, 7744] (wt w) slices_S1024x9792_S1024x1024_0_7744⟩,
     ⟨S1024x1024, extractStridedSlice S1024x1024 ![0, 8768] (wt w) slices_S1024x9792_S1024x1024_0_8768⟩,
     ⟨S1024x256, extractStridedSlice S1024x256 ![0, 7232] (wt w) slices_S1024x9792_S1024x256_0_7232⟩,
     ⟨S1024x256, extractStridedSlice S1024x256 ![0, 7488] (wt w) slices_S1024x9792_S1024x256_0_7488⟩]
    concatenates_S1024x1024_S1024x1024_S1024x2048_S1024x2048_S1024x1024_S1024x1024_S1024x1024_S1024x256_S1024x256_S1024x9728_d1 : FVec Ideal S1024x9728 .f32) bitsLt_bf16_f32

/-- The gates' columns, in the kernel's order. -/
def perm : IVec S64x1 32 :=
  broadcastInDim S64x1 ![0] bcast_S64_S64x1_0 (select (constantI S64 1 0#1)
    (addi (fun i => lit0 (S64.rowMajor i)) (broadcastInDim S64 ![] bcast_S_S64 (constantI S_ 32 64#32))) fun i => lit0 (S64.rowMajor i))

def picked (w : FVec Ideal S1x1024x9792 .f32) : FVec Ideal S1024x64 .f32 :=
  Host.gather gather_S1024x64_S64x1_S1024x64_0_1_n_n_1_1_10241
    (extractStridedSlice S1024x64 ![0, 6144] (wt w) slices_S1024x9792_S1024x64_0_6144) perm

/-- The same, padded to a full register of lanes. -/
def padded (w : FVec Ideal S1x1024x9792 .f32) : FVec Ideal S1024x128 .bf16 :=
  truncf .bf16 (pad S1024x128 ![0, 0] ![0, 64] ![0, 0] (picked w) (sitofp (F := Ideal) .f32 (constantI S_ 32 0#32))
    pads_S1024x64_S1024x128_000_0640 h_S_) bitsLt_bf16_f32

theorem wide_apply (w : FVec Ideal S1x1024x9792 .f32) (k : Fin 1024) (l : Fin 9728) : wide w (ix2 k l) = w (ix3 0 k (colOf l)) := by
  have hl := l.isLt
  unfold wide
  pointwise [wt]
  exact colOf_runs (fun n => w (ix3 0 k n)) l

theorem perm_val : ∀ l : Fin 64, (perm (ix2 l 0)).toInt.toNat = 32 * (l.val / 4 % 2) + 16 * (l.val / 2 % 2) + 2 * (l.val / 8) + l.val % 2 := by
  decide +kernel

/-- The gather reads row `k` at the listed column. -/
theorem gather_idx (k : Fin 1024) (l : Fin 64) (n : Fin 64) (hn : (perm (ix2 l 0)).toInt.toNat = n.val) :
    gather_S1024x64_S64x1_S1024x64_0_1_n_n_1_1_10241.operandIdx (ix2 k l) perm = ix2 k n := by
  have hlt := n.isLt
  funext a
  refine Fin.ext ?_
  show gather_S1024x64_S64x1_S1024x64_0_1_n_n_1_1_10241.start (ix2 k l) perm a
    + gather_S1024x64_S64x1_S1024x64_0_1_n_n_1_1_10241.batchCoord (ix2 k l) a
    + gather_S1024x64_S64x1_S1024x64_0_1_n_n_1_1_10241.offCoord (ix2 k l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬(0 : Fin 2) ∈ gather_S1024x64_S64x1_S1024x64_0_1_n_n_1_1_10241.startIndexMap by decide)]
    unfold GatherDims.offCoord
    rw [dif_pos (show (0 : Fin 2) ∈ gather_S1024x64_S64x1_S1024x64_0_1_n_n_1_1_10241.sKept by decide)]
    simp only [Nat.zero_add]
    rfl
  · rw [GatherDims.offCoord_eq_zero _ _ _ (show ¬(1 : Fin 2) ∈ gather_S1024x64_S64x1_S1024x64_0_1_n_n_1_1_10241.sKept by decide)]
    simp only [Nat.add_zero]
    unfold GatherDims.start
    rw [dif_pos (show (1 : Fin 2) ∈ gather_S1024x64_S64x1_S1024x64_0_1_n_n_1_1_10241.startIndexMap from List.mem_singleton.mpr rfl)]
    have hsi : gather_S1024x64_S64x1_S1024x64_0_1_n_n_1_1_10241.siIdx (ix2 k l)
        ⟨List.idxOf (1 : Fin 2) gather_S1024x64_S64x1_S1024x64_0_1_n_n_1_1_10241.startIndexMap,
          List.idxOf_lt_length_iff.2 (List.mem_singleton.mpr rfl)⟩ = ix2 l 0 := by
      funext b; refine Fin.ext ?_
      match b with
      | ⟨0, _⟩ => rfl
      | ⟨1, _⟩ => rfl
    rw [hsi, hn]
    show min n.val 63 = n.val
    omega

theorem picked_apply (w : FVec Ideal S1x1024x9792 .f32) (k : Fin 1024) (l : Fin 64) : picked w (ix2 k l) = w (ix3 0 k (gateCol l)) := by
  have hl := l.isLt
  unfold picked Host.gather
  rw [gather_idx k l ⟨32 * (l.val / 4 % 2) + 16 * (l.val / 2 % 2) + 2 * (l.val / 8) + l.val % 2, by omega⟩ (perm_val l)]
  pointwise [wt]
  rfl

theorem padded_apply (w : FVec Ideal S1x1024x9792 .f32) (k : Fin 1024) (l : Fin 128) :
    padded w (ix2 k l) = if h : l.val < 64 then w (ix3 0 k (gateCol ⟨l.val, h⟩)) else 0 := by
  have hl := l.isLt
  unfold padded
  pointwise
  by_cases h : l.val < 64
  · rw [dif_pos h, dif_pos h, picked_apply]
  · rw [dif_neg h, dif_neg h]
    show (((0#32 : BitVec 32).toInt : ℝ) : EReal) = 0
    simp

variable (m : (ℓ : Loc nD τ sig) → Buf (Elt Ideal) ℓ) (c : Dev nD)

/-- The call's arguments, as arrays. -/
abbrev aX : FVec Ideal S4x8192x1024 .f32 := m ((c : Thread nD τ).loc main_arg0)
abbrev aG : FVec Ideal S1x1024 .f32 := m ((c : Thread nD τ).loc main_arg1)
abbrev aW : FVec Ideal S1x1024x9792 .f32 := m ((c : Thread nD τ).loc main_arg2)

theorem V_v12 : (V m c main_v12 : Vec Ideal S1024x9728 .bf16) = wide (aW m c) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v19 : (V m c main_v19 : Vec Ideal S1024x128 .bf16) = padded (aW m c) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v20 : (V m c main_v20 : Vec Ideal S32768x1024 .f32) = fun i => shapeCast S32768x1024 (aX m c) shapeCasts_S4x8192x1024_S32768x1024 i := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v22 : (V m c main_v22 : Vec Ideal S1x1024 .f32)
    = broadcastInDim S1x1024 ![1] bcast_S1024_S1x1024_1 (fun i => shapeCast S1024 (aG m c) shapeCasts_S1x1024_S1024 i) := by
  show StableHlo.after (List.flatten _) _ _ = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-! ## The blocks at a grid point -/

/-- The printed index maps over the grid. -/
theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4)
    ∧ (win0_3.index t (0 : Fin 2) = 0 ∧ win0_3.index t (1 : Fin 2) = 0)
    ∧ (win0_4.index t (0 : Fin 2) = t.val / 4 ∧ win0_4.index t (1 : Fin 2) = t.val % 4)
    ∧ (win0_5.index t (0 : Fin 2) = t.val / 4 ∧ win0_5.index t (1 : Fin 2) = 0) :=
  (by decide +kernel : ∀ t : Fin grid0.N, _)

/-- Row `r` of row tile `q`, as a batch and a position. -/
def bat (q : ℕ) (hq : q < 32) (r : Fin 1024) : Fin 4 := ⟨(q * 1024 + r.val) / 8192, by omega⟩
def pos (q : ℕ) (r : Fin 1024) : Fin 8192 := ⟨(q * 1024 + r.val) % 8192, by omega⟩

theorem lt32 (t : Fin cfg0.N) : t.val / 4 < 32 := by have := t.isLt; have := N_eq; omega

theorem iblk0_apply (t : Fin cfg0.N) (r : Fin 1024) (k : Fin 1024) :
    (iblk m c 0 t : Vec Ideal S1024x1024 .f32) (ix2 r k) = aX m c (ix3 (bat (t.val / 4) (lt32 t) r) (pos (t.val / 4) r) k) := by
  obtain ⟨⟨e0, e1⟩, -⟩ := idx_facts t
  have hq := lt32 t
  have hr := r.isLt
  refine Eq.trans ?_ ((congrFun (V_v20 m c) (ix2 ⟨t.val / 4 * 1024 + r.val, by omega⟩ k)).trans ?_)
  · unfold iblk
    rw [View.read_apply]
    show V m c main_v20 _ = V m c main_v20 _
    congr 1; funext a; apply Fin.ext
    match a with
    | ⟨0, _⟩ => show win0_0.index t 0 * 1024 + 1 * r.val = _; rw [e0]; simp [ix2]
    | ⟨1, _⟩ => show win0_0.index t 1 * 1024 + 1 * k.val = k.val; rw [e1]; omega
  · pointwise
    rfl

theorem iblk1_apply (t : Fin cfg0.N) (k : Fin 1024) :
    (iblk m c 1 t : Vec Ideal S1x1024 .f32) (ix2 0 k) = aG m c (ix2 0 k) := by
  obtain ⟨-, ⟨e0, e1⟩, -⟩ := idx_facts t
  refine Eq.trans ?_ ((congrFun (V_v22 m c) (ix2 0 k)).trans ?_)
  · unfold iblk
    rw [View.read_apply]
    show V m c main_v22 _ = V m c main_v22 _
    congr 1; funext a; apply Fin.ext
    match a with
    | ⟨0, _⟩ => show win0_1.index t 0 * 1 + 1 * 0 = _; rw [e0]; rfl
    | ⟨1, _⟩ => show win0_1.index t 1 * 1024 + 1 * k.val = k.val; rw [e1]; omega
  · pointwise

theorem iblk2_apply (t : Fin cfg0.N) (k : Fin 1024) (l : Fin 2432) (n : Fin 9728) (hn : n.val = t.val % 4 * 2432 + l.val) :
    (iblk m c 2 t : Vec Ideal S1024x2432 .bf16) (ix2 k l) = aW m c (ix3 0 k (colOf n)) := by
  obtain ⟨-, -, ⟨e0, e1⟩, -⟩ := idx_facts t
  refine Eq.trans ?_ ((congrFun (V_v12 m c) (ix2 k n)).trans (wide_apply _ k n))
  unfold iblk
  rw [View.read_apply]
  show V m c main_v12 _ = V m c main_v12 _
  congr 1; funext a; apply Fin.ext
  match a with
  | ⟨0, _⟩ => show win0_2.index t 0 * 1024 + 1 * k.val = k.val; rw [e0]; omega
  | ⟨1, _⟩ => show win0_2.index t 1 * 2432 + 1 * l.val = n.val; rw [e1]; omega

theorem iblk3_apply (t : Fin cfg0.N) (k : Fin 1024) (l : Fin 128) :
    (iblk m c 3 t : Vec Ideal S1024x128 .bf16) (ix2 k l) = padded (aW m c) (ix2 k l) := by
  obtain ⟨-, -, -, ⟨e0, e1⟩, -⟩ := idx_facts t
  refine Eq.trans ?_ (congrFun (V_v19 m c) (ix2 k l))
  unfold iblk
  rw [View.read_apply]
  show V m c main_v19 _ = V m c main_v19 _
  congr 1; funext a; apply Fin.ext
  match a with
  | ⟨0, _⟩ => show win0_3.index t 0 * 1024 + 1 * k.val = k.val; rw [e0]; omega
  | ⟨1, _⟩ => show win0_3.index t 1 * 128 + 1 * l.val = l.val; rw [e1]; omega

/-! ## What the body computes of them -/

/-- The normalized tile. -/
theorem pay1_apply (x0 : Vec Ideal S1024x1024 .f32) (x1 : Vec Ideal S1x1024 .f32) (x : FVec Ideal S4x8192x1024 .f32) (g : FVec Ideal S1x1024 .f32)
    (b : Fin 4) (s : Fin 8192) (r k : Fin 1024) (hx : ∀ l, x0 (ix2 r l) = x (ix3 b s l)) (hg : ∀ l, x1 (ix2 0 l) = g (ix2 0 l)) :
    k0_pay1 x0 x1 (ix2 r k) = normed x g b s k := by
  pointwise [k0_pay1]
  simp only [hx, hg]
  rfl

theorem tile_apply (n : ℕ) (h : n < cfg0.N) (r k : Fin 1024) :
    tile m c n h (ix2 r k) = normed (aX m c) (aG m c) (bat (n / 4) (lt32 ⟨n, h⟩) r) (pos (n / 4) r) k := by
  have e : (pt0 n h).val / 4 = n / 4 := by show 4 * (n / 4) / 4 = _; omega
  unfold tile
  refine Eq.trans (b := k0_pay1 (iblk m c 0 (pt0 n h)) (iblk m c 1 (pt0 n h)) (ix2 r k)) (by pointwise [k0_pay2]) ?_
  refine pay1_apply _ _ _ _ _ _ r k (fun l => (iblk0_apply m c (pt0 n h) r l).trans ?_) (fun l => iblk1_apply m c (pt0 n h) l)
  simp only [e]

theorem gates_apply (n : ℕ) (h : n < cfg0.N) (r : Fin 1024) (l : Fin 128) :
    gates m c n h (ix2 r l) = if hl : l.val < 64 then proj (aX m c) (aG m c) (aW m c) (bat (n / 4) (lt32 ⟨n, h⟩) r) (pos (n / 4) r) (gateCol ⟨l.val, hl⟩) else 0 := by
  have e : (pt0 n h).val / 4 = n / 4 := by show 4 * (n / 4) / 4 = _; omega
  unfold gates
  pointwise [k0_pay3]
  refine (Finset.sum_congr rfl fun k _ => congrArg₂ (· * ·) (pay1_apply _ _ (aX m c) (aG m c) (bat (n / 4) (lt32 ⟨n, h⟩) r) (pos (n / 4) r) r k
    (fun l => (iblk0_apply m c (pt0 n h) r l).trans (by simp only [e])) (fun l => iblk1_apply m c (pt0 n h) l))
    ((iblk3_apply m c (pt0 n h) k l).trans (padded_apply _ k l))).trans ?_
  by_cases hl : l.val < 64
  · simp only [dif_pos hl]
    rfl
  · simp only [dif_neg hl, mul_zero, Finset.sum_const_zero]

theorem main_apply (t : Fin cfg0.N) (r : Fin 1024) (l : Fin 2432) (n : Fin 9728) (hn : n.val = t.val % 4 * 2432 + l.val) :
    k0_pay4 (tile m c t.val t.isLt) (iblk m c 2 t) (ix2 r l)
      = proj (aX m c) (aG m c) (aW m c) (bat (t.val / 4) (lt32 t) r) (pos (t.val / 4) r) (colOf n) := by
  pointwise [k0_pay4]
  exact Finset.sum_congr rfl fun k _ => congrArg₂ (· * ·) (tile_apply m c t.val t.isLt r k) (iblk2_apply m c t k l n hn)

end Cert.Proof.Inproj

end
-- ==== Proof.Inproj.Value.lean ====
/-
  The input projection's two result arrays over the extended reals, and the reference's: at every token both hold the
  normalized row times the weight's columns, in the order the call lays them out.
-/
module

public import proofs.«01_k».proof.Proof.Inproj.Blocks
public import proofs.«01_k».proof.Proof.Gen.Reference3Ideal.Read

@[expose] public section

set_option maxRecDepth 16384

noncomputable section

namespace Cert.Proof.Inproj

open Cert.Kernel3Ideal Cert.Kernel3Ideal.Gen

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The results, in mathematics -/

/-- Token `R` as a batch and a position. -/
def batch (R : Fin 32768) : Fin 4 := ⟨R.val / 8192, by omega⟩
def place (R : Fin 32768) : Fin 8192 := ⟨R.val % 8192, by omega⟩

/-- The projection of every token, the columns in the order the call lays them out. -/
def mainOut (x : FVec Ideal S4x8192x1024 .f32) (g : FVec Ideal S1x1024 .f32) (w : FVec Ideal S1x1024x9792 .f32) : FVec Ideal S32768x9728 .bf16 := fun i =>
  proj x g w (batch (i 0)) (place (i 0)) (colOf (i 1))

/-- The gate columns of every token, and zeros up to 128 columns. -/
def gateOut (x : FVec Ideal S4x8192x1024 .f32) (g : FVec Ideal S1x1024 .f32) (w : FVec Ideal S1x1024x9792 .f32) : FVec Ideal S32768x128 .f32 := fun i =>
  if h : (i 1).val < 64 then proj x g w (batch (i 0)) (place (i 0)) (gateCol ⟨(i 1).val, h⟩) else 0

/-! ## The kernel's arrays -/

section

variable (m : (ℓ : Loc nD τ sig) → Buf (Elt Ideal) ℓ) (ρ : Dev nD → PrngReg)

/-- The two result arrays of a device. -/
def G4 (c : Dev nD) : Buf (Elt Ideal) ((c : Thread nD τ).loc main_v23_0) := mainOut (aX m c) (aG m c) (aW m c)
def G5 (c : Dev nD) : Buf (Elt Ideal) ((c : Thread nD τ).loc main_v23_1) := gateOut (aX m c) (aG m c) (aW m c)

theorem flushed4 (c : Dev nD) (t : Fin cfg0.N) : (dats m 0 c).flushed 4 t = ((cfg0.win 4).blk t).view.read (Elt Ideal) (G4 m c) := by
  show (cfg0.win 4).cut (grid0.coords t) ((dats m 0 c).after 4 t) = _
  rw [after4]
  obtain ⟨-, -, -, -, ⟨e0, e1⟩, -⟩ := idx_facts t
  have ht : t.val < 128 := lt_of_lt_of_eq t.isLt N_eq
  funext y
  have hy0 : (y 0).val < 1024 := (y 0).isLt
  have hy1 : (y 1).val < 2432 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 2432 + 1 * (y 1).val := rfl
  rw [View.read_apply]
  have hx : (cfg0.win 4).xinj (grid0.coords t) y = ix2 (⟨(y 0).val, hy0⟩ : Fin 1024) (⟨(y 1).val, hy1⟩ : Fin 2432) := by
    funext a
    match a with
    | ⟨0, _⟩ => rfl
    | ⟨1, _⟩ => rfl
  show k0_pay4 (tile m c t.val t.isLt) (iblk m c 2 t) ((cfg0.win 4).xinj (grid0.coords t) y) = G4 m c (((cfg0.win 4).blk t).view.emb y)
  rw [hx]
  refine (main_apply m c t ⟨(y 0).val, hy0⟩ ⟨(y 1).val, hy1⟩ (((cfg0.win 4).blk t).view.emb y 1) (by rw [hb1, e1]; show t.val % 4 * 2432 + 1 * (y 1).val = t.val % 4 * 2432 + (y 1).val; omega)).trans ?_
  show _ = proj _ _ _ (batch (((cfg0.win 4).blk t).view.emb y 0)) (place (((cfg0.win 4).blk t).view.emb y 0)) _
  rw [show bat (t.val / 4) (lt32 t) ⟨(y 0).val, hy0⟩ = batch (((cfg0.win 4).blk t).view.emb y 0) from
      Fin.ext (by show (t.val / 4 * 1024 + (y 0).val) / 8192 = (((cfg0.win 4).blk t).view.emb y 0).val / 8192; rw [hb0, e0]; omega),
    show pos (t.val / 4) ⟨(y 0).val, hy0⟩ = place (((cfg0.win 4).blk t).view.emb y 0) from
      Fin.ext (by show (t.val / 4 * 1024 + (y 0).val) % 8192 = (((cfg0.win 4).blk t).view.emb y 0).val % 8192; rw [hb0, e0]; omega)]

theorem flushed5 (c : Dev nD) (t : Fin cfg0.N) : (dats m 0 c).flushed 5 t = ((cfg0.win 5).blk t).view.read (Elt Ideal) (G5 m c) := by
  show (cfg0.win 5).cut (grid0.coords t) ((dats m 0 c).after 5 t) = _
  rw [after5]
  obtain ⟨-, -, -, -, -, e0, e1⟩ := idx_facts t
  have ht : t.val < 128 := lt_of_lt_of_eq t.isLt N_eq
  funext y
  have hy0 : (y 0).val < 1024 := (y 0).isLt
  have hy1 : (y 1).val < 128 := (y 1).isLt
  have hb0 : (((cfg0.win 5).blk t).view.emb y 0).val = win0_5.index t (0 : Fin 2) * 1024 + 1 * (y 0).val := rfl
  have hb1 : (((cfg0.win 5).blk t).view.emb y 1).val = (y 1).val := by
    show win0_5.index t (1 : Fin 2) * 128 + 1 * (y 1).val = _
    rw [e1]; omega
  rw [View.read_apply]
  have hx : (cfg0.win 5).xinj (grid0.coords t) y = ix2 (⟨(y 0).val, hy0⟩ : Fin 1024) (⟨(y 1).val, hy1⟩ : Fin 128) := by
    funext a
    match a with
    | ⟨0, _⟩ => rfl
    | ⟨1, _⟩ => rfl
  show gates m c t.val t.isLt ((cfg0.win 5).xinj (grid0.coords t) y) = G5 m c (((cfg0.win 5).blk t).view.emb y)
  rw [hx]
  refine (gates_apply m c t.val t.isLt ⟨(y 0).val, hy0⟩ ⟨(y 1).val, hy1⟩).trans ?_
  rw [show bat (t.val / 4) (lt32 ⟨t.val, t.isLt⟩) ⟨(y 0).val, hy0⟩ = batch (((cfg0.win 5).blk t).view.emb y 0) from
      Fin.ext (by show (t.val / 4 * 1024 + (y 0).val) / 8192 = (((cfg0.win 5).blk t).view.emb y 0).val / 8192; rw [hb0, e0]; omega),
    show pos (t.val / 4) ⟨(y 0).val, hy0⟩ = place (((cfg0.win 5).blk t).view.emb y 0) from
      Fin.ext (by show (t.val / 4 * 1024 + (y 0).val) % 8192 = (((cfg0.win 5).blk t).view.emb y 0).val % 8192; rw [hb0, e0]; omega)]
  show _ = dite ((((cfg0.win 5).blk t).view.emb y 1).val < 64) _ _
  simp only [hb1]

theorem flushes4 : ∀ t : Fin cfg0.N, (cfg0.win 4).flush t = true := (by decide +kernel : ∀ t : Fin grid0.N, win0_4.flush t = true)
theorem flushes5 : ∀ t : Fin cfg0.N, t.val % 4 = 3 → (cfg0.win 5).flush t = true :=
  (by decide +kernel : ∀ t : Fin grid0.N, t.val % 4 = 3 → win0_5.flush t = true)

theorem mem_blk4 (t : Fin cfg0.N) (i : S32768x9728.Idx) :
    i ∈ ((cfg0.win 4).blk t).view.set ↔ ∀ a : Fin 2, win0_4.index t a * S1024x2432.size a ≤ (i a).val ∧ (i a).val < win0_4.index t a * S1024x2432.size a + S1024x2432.size a := by
  show i ∈ ((View.whole main_v23_0).slice (win0_4.rect t)).set ↔ _
  rw [View.set_slice_whole, Rect.mem_set_unit]
  exact Iff.rfl

theorem mem_blk5 (t : Fin cfg0.N) (i : S32768x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v23_1).slice (win0_5.rect t)).set ↔ _
  rw [View.set_slice_whole, Rect.mem_set_unit]
  exact Iff.rfl

theorem covered4 (i : S32768x9728.Idx) : ∃ t : Fin cfg0.N, (cfg0.win 4).flush t = true ∧ i ∈ ((cfg0.win 4).blk t).view.set := by
  have h0 : (i 0).val < 32768 := (i 0).isLt
  have h1 : (i 1).val < 9728 := (i 1).isLt
  have hp : 4 * ((i 0).val / 1024) + (i 1).val / 2432 < cfg0.N := lt_of_lt_of_eq (show _ < 128 by omega) N_eq.symm
  refine ⟨⟨_, hp⟩, flushes4 _, ?_⟩
  rw [mem_blk4]
  obtain ⟨-, -, -, -, ⟨e0, e1⟩, -⟩ := idx_facts ⟨_, hp⟩
  dsimp only at e0 e1
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 2432 ≤ (i 1).val ∧ (i 1).val < win0_4.index _ (1 : Fin 2) * 2432 + 2432; omega

theorem covered5 (i : S32768x128.Idx) : ∃ t : Fin cfg0.N, (cfg0.win 5).flush t = true ∧ i ∈ ((cfg0.win 5).blk t).view.set := by
  have h0 : (i 0).val < 32768 := (i 0).isLt
  have h1 : (i 1).val < 128 := (i 1).isLt
  have hp : 4 * ((i 0).val / 1024) + 3 < cfg0.N := lt_of_lt_of_eq (show _ < 128 by omega) N_eq.symm
  refine ⟨⟨_, hp⟩, flushes5 _ (by show (4 * ((i 0).val / 1024) + 3) % 4 = 3; omega), ?_⟩
  rw [mem_blk5]
  obtain ⟨-, -, -, -, -, e0, e1⟩ := idx_facts ⟨_, hp⟩
  dsimp only at e0 e1
  intro a
  match a with
  | ⟨0, _⟩ => show win0_5.index _ (0 : Fin 2) * 1024 ≤ (i 0).val ∧ (i 0).val < win0_5.index _ (0 : Fin 2) * 1024 + 1024; omega
  | ⟨1, _⟩ => show win0_5.index _ (1 : Fin 2) * 128 ≤ (i 1).val ∧ (i 1).val < win0_5.index _ (1 : Fin 2) * 128 + 128; omega

theorem final4 (c : Dev nD) : (dats m 0 c).arrAt 4 cfg0.N = G4 m c :=
  (dats m 0 c).arrAt_eq_of_cover 4 _ (fun t _ => flushed4 m c t) (fun i => covered4 i)
theorem final5 (c : Dev nD) : (dats m 0 c).arrAt 5 cfg0.N = G5 m c :=
  (dats m 0 c).arrAt_eq_of_cover 5 _ (fun t _ => flushed5 m c t) (fun i => covered5 i)

/-- The run: the result arrays end at `G4` and `G5`, every argument array as it was. -/
theorem run : θ_run defs (onTc (τ := τ) (main (F := Ideal))) ⟨m, fun _ => 0, ρ⟩ (fun r => ∀ c : Dev nD,
      r.2.mem ((c.tc : Thread nD τ).loc main_v23_0) = G4 m c
      ∧ r.2.mem ((c.tc : Thread nD τ).loc main_v23_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).1 4).trans (final4 m c),
      ((h.1 c).1 5).trans (final5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end

/-! ## The reference's arrays -/

section

open Cert.Reference3Ideal.Read

variable (x : FVec Ideal S4x8192x1024 .f32) (g : FVec Ideal S1x1024 .f32) (w : FVec Ideal S1x1024x9792 .f32)

/-- The reference's normalized rows. -/
theorem ref_norm (b : Fin 4) (s : Fin 8192) (k : Fin 1024) : val_main_v13 (F := Ideal) x g (ix3 b s k) = normed x g b s k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The reference's projection. -/
theorem ref_proj (b : Fin 4) (s : Fin 8192) (n : Fin 9792) : val_main_v15 (F := Ideal) x g w (ix3 b s n) = proj x g w b s n := by
  pointwise [val_main_v15, val_main_v14]
  simp only [ref_norm]
  rfl

/-- Its parts, side by side. -/
theorem ref_parts (b : Fin 4) (s : Fin 8192) (l : Fin 9728) : val_main_v26 (F := Ideal) x g w (ix3 b s l) = proj x g w b s (colOf l) := by
  have hl := l.isLt
  pointwise [val_main_v26, val_main_v16, val_main_v17, val_main_v18, val_main_v19, val_main_v21, val_main_v22, val_main_v23, val_main_v24, val_main_v25]
  simp only [ref_proj]
  exact colOf_runs (fun n => proj x g w b s n) l

theorem ref_main : val_main_v31 (F := Ideal) x g w = mainOut x g w := by
  funext i
  obtain ⟨R, l, rfl⟩ : ∃ (R : Fin 32768) (l : Fin 9728), i = ix2 R l := ⟨i 0, i 1, eq_ix2 i⟩
  have hR := R.isLt
  have hl := l.isLt
  refine Eq.trans ?_ (ref_parts x g w (batch R) (place R) l)
  pointwise [val_main_v31, val_main_v30]
  congr 1

theorem ref_gate : val_main_v32 (F := Ideal) x g w = gateOut x g w := by
  funext i
  obtain ⟨R, l, rfl⟩ : ∃ (R : Fin 32768) (l : Fin 128), i = ix2 R l := ⟨i 0, i 1, eq_ix2 i⟩
  have hR := R.isLt
  have hl := l.isLt
  pointwise [val_main_v32, val_main_call0_v0, val_main_c]
  show _ = if h : l.val < 64 then proj x g w (batch R) (place R) (gateCol ⟨l.val, h⟩) else 0
  by_cases h : l.val < 64
  · rw [dif_pos h, dif_pos h]
    refine Eq.trans ?_ (ref_proj x g w (batch R) (place R) (gateCol ⟨l.val, h⟩))
    pointwise [val_main_v29, val_main_v28, val_main_v27, val_main_v20]
    refine congrArg _ (congrArg (ix3 (batch R) (place R)) (Fin.ext ?_))
    show 6144 + (l.val / 4 % 2 * 32 + l.val / 2 % 2 * 16 + l.val / 8 * 2 + l.val % 2)
      = 6144 + (32 * (l.val / 4 % 2) + 16 * (l.val / 2 % 2) + 2 * (l.val / 8) + l.val % 2)
    omega
  · rw [dif_neg h, dif_neg h]
    show (((0#32 : BitVec 32).toInt : ℝ) : EReal) = 0
    simp

end

end Cert.Proof.Inproj

end
-- ==== Proof.Inproj.Claim.lean ====
/-
  The claims about the input projection: that its runs end, at the bit level too, and that over the extended reals it
  computes what the reference computes, from any arguments.

  Idealizing rewrote nothing in this kernel, so the two programs have the same text, and the run of the one, written over
  any float type, is the run of the other.
-/
module

public import proofs.«01_k».proof.Proof.Inproj.Frame
public import proofs.«01_k».proof.Proof.Inproj.Value
public import proofs.«01_k».proof.Proof.Gen.Kernel3
public import proofs.«01_k».proof.Proof.Gen.Reference3Ideal.Run
public import proofs.«01_k».proof.Defs
public import Idealize.ShloMosaic.Lib.Quiescent

@[expose] public section

noncomputable section

open Idealize.ShloMosaic Idealize.ShloMosaic.TcCoe Idealize.SL.Sem

namespace Cert.Proof.Inproj

section

variable {F : FTy → Type} [FloatOps F]

theorem defs₀_same : (Cert.Kernel3.defs₀ (F := F)) = (Cert.Kernel3Ideal.defs₀ (F := F)) := by
  unfold Cert.Kernel3.defs₀ Cert.Kernel3Ideal.defs₀
  refine congrArg Defs.onTc ?_
  funext l a
  match l, a with
  | 0, (t, s) => rfl
  | ⟨_ + 1, h⟩, _ => exact absurd h (Nat.not_lt.2 (Nat.le_add_left _ _))

/-- The two programs define the same kernel. -/
theorem defs_same : (Cert.Kernel3.defs (F := F)) = (Cert.Kernel3Ideal.defs (F := F)) := by
  unfold Cert.Kernel3.defs Cert.Kernel3Ideal.defs
  rw [defs₀_same]
  rfl

end

/-- Every run of the kernel ends, at the bit level. -/
theorem frameBits : Cert.quiescent_Kernel3 := fun m ρ _ => by
  rw [defs_same]
  exact frame (F := Bits) m ρ

/-- Over the extended reals the projection and the reference end with the same two result arrays. -/
theorem algebraic : Cert.algebraic_Kernel3Ideal_Reference3Ideal := by
  intro m g m' g' _ hargs
  refine ⟨fun c => G4 m c, fun c => G5 m c, run m g, ?_⟩
  refine (θ_run Cert.Reference3Ideal.defs _ _).mono (fun r h c => ?_) (Cert.Reference3Ideal.Value.run m' g')
  obtain ⟨h1, h2, hrest⟩ := h c
  obtain ⟨e0, e1, e2⟩ := hargs c
  refine ⟨h1.trans ?_, h2.trans ?_, hrest⟩
  · rw [Cert.Reference3Ideal.Read.val_main_v31_eq, e0, e1, e2]
    exact ref_main _ _ _
  · rw [e0, e1, e2]
    exact (Cert.Reference3Ideal.Read.val_main_v32_eq _ _ _).trans (ref_gate _ _ _)

/-- Every run of the reference ends. -/
theorem refFrame : Cert.quiescent_Reference3Ideal := by
  intro m g _
  exact (θ_run Cert.Reference3Ideal.defs _ _).mono
    (fun r h => ⟨fun c => (h c).2.2, sem_eq_zero_of_no_sems (by decide) r.2⟩) (Cert.Reference3Ideal.Value.run (F := Ideal) m g)

end Cert.Proof.Inproj

end
-- ==== Proof.Post.Body.lean ====
/-
  What the body of the output mixer leaves in its first two output blocks, as the kernel's own functions of what it loads.

  The kernel treats the sixteen heads one after another with the same operations; each head's gated value is the first
  head's function (`k0_pay1`) of that head's slices.
-/
module

public import proofs.«01_k».proof.Proof.Gen.Kernel4Ideal.Frame
import all proofs.«01_k».proof.Proof.Gen.Kernel4Ideal.Frame.RunA

@[expose] public section

set_option maxRecDepth 16384

noncomputable section

namespace Cert.Proof.Post

open Cert.Kernel4Ideal Cert.Kernel4Ideal.Gen

open Idealize.ShloMosaic Idealize.ShloMosaic.TcCoe

variable {F : FTy → Type} [FloatOps F]

theorem inbO : ∀ (j : Fin 16) (a : Fin 3), (![j.val, 0, 0] : Fin 3 → ℕ) a + S1x256x128.size a ≤ S16x256x128.size a := by decide
theorem inbZ : ∀ (j : Fin 16) (a : Fin 2), (![0, 128 * j.val] : Fin 2 → ℕ) a + S256x128.size a ≤ S256x2048.size a := by decide

/-- The sixteen heads' values side by side. -/
def cat (P : Fin 16 → FVec F S256x128 .bf16) : FVec F S256x2048 .bf16 :=
  concatenate S256x2048 1 [⟨S256x128, P 0⟩, ⟨S256x128, P 1⟩, ⟨S256x128, P 2⟩, ⟨S256x128, P 3⟩, ⟨S256x128, P 4⟩, ⟨S256x128, P 5⟩, ⟨S256x128, P 6⟩, ⟨S256x128, P 7⟩, ⟨S256x128, P 8⟩, ⟨S256x128, P 9⟩, ⟨S256x128, P 10⟩, ⟨S256x128, P 11⟩, ⟨S256x128, P 12⟩, ⟨S256x128, P 13⟩, ⟨S256x128, P 14⟩, ⟨S256x128, P 15⟩]
    concatenates_S256x128_S256x128_S256x128_S256x128_S256x128_S256x128_S256x128_S256x128_S256x128_S256x128_S256x128_S256x128_S256x128_S256x128_S256x128_S256x128_S256x2048_d1

/-- They times the first branch's weight. -/
def branchA (P : Fin 16 → FVec F S256x128 .bf16) (w : Vec F S2048x1024 .bf16) : FVec F S256x1024 .f32 :=
  matmul dot_S256x2048_S2048x1024_S256x1024_1_0_0_1_n_n none (cat P) (shapeCast S2048x1024 w shapeCasts_S2048x1024_S2048x1024 : FVec F S2048x1024 .bf16)
    (constant S256x1024 .f32 0x00000000#32)

variable (c : Dev nD) (i : grid0.Coords)
    (arg1 : Memref sig .tc .vmem S16x256x128 .f32) (harg1 : arg1.IsWhole) (arg2 : Memref sig .tc .vmem S16x256x128 .f32) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x128 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x1024x128 .bf16) (harg13 : arg13.IsWhole) (arg14 : Memref sig .tc .vmem S1x128 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x128 .f32) (harg17 : arg17.IsWhole)
    (x0 : Vec F S16x256x128 .f32) (x1 : Vec F S16x256x128 .f32) (x2 : Vec F S256x2048 .bf16) (x3 : Vec F S256x1024 .bf16) (x4 : Vec F S256x1024 .bf16) (x5 : Vec F S256x1024 .bf16) (x6 : Vec F S256x1024 .f32) (x7 : Vec F S1x128 .f32) (x8 : Vec F S2048x1024 .bf16) (x9 : Vec F S1024x1024 .bf16) (x10 : Vec F S1024x1024 .bf16) (x11 : Vec F S1x1024 .f32) (x12 : Vec F S2x1024x128 .bf16) (x13 : Vec F S1x128 .f32)

/-- One head's gated value, from the blocks. -/
def head (j : Fin 16) : FVec F S256x128 .bf16 :=
  k0_pay1 (View.readAt (Elt F) arg1.view (Rect.unit (s := S16x256x128) ![j.val, 0, 0] S1x256x128.size (inbO j)).toLoadRect (harg1.unread x0))
    (View.readAt (Elt F) arg2.view (Rect.unit (s := S16x256x128) ![j.val, 0, 0] S1x256x128.size (inbO j)).toLoadRect (harg2.unread x1))
    (View.readAt (Elt F) arg8.view (Rect.unit (s := S1x128) ![0, 0] S1x128.size inb_S1x128_S1x128_0_0).toLoadRect (harg8.unread x7))
    (View.readAt (Elt F) arg3.view (Rect.unit (s := S256x2048) ![0, 128 * j.val] S256x128.size (inbZ j)).toLoadRect (harg3.unread x2))

/-- The first result's block. -/
def hTile : FVec F S256x1024 .f32 :=
  k0_pay40 (branchA (head arg1 harg1 arg2 harg2 arg3 harg3 arg8 harg8 x0 x1 x2 x7)
      (View.readAt (Elt F) arg9.view (Rect.unit (s := S2048x1024) ![0, 0] S2048x1024.size inb_S2048x1024_S2048x1024_0_0).toLoadRect (harg9.unread x8)))
    (k0_pay38 (View.readAt (Elt F) arg4.view (Rect.unit (s := S256x1024) ![0, 0] S256x1024.size inb_S256x1024_S256x1024_0_0).toLoadRect (harg4.unread x3))
      (View.readAt (Elt F) arg10.view (Rect.unit (s := S1024x1024) ![0, 0] S1024x1024.size inb_S1024x1024_S1024x1024_0_0).toLoadRect (harg10.unread x9)))
    (k0_pay39 (View.readAt (Elt F) arg5.view (Rect.unit (s := S256x1024) ![0, 0] S256x1024.size inb_S256x1024_S256x1024_0_0).toLoadRect (harg5.unread x4)))
    (View.readAt (Elt F) arg6.view (Rect.unit (s := S256x1024) ![0, 0] S256x1024.size inb_S256x1024_S256x1024_0_0).toLoadRect (harg6.unread x5))
    (View.readAt (Elt F) arg7.view (Rect.unit (s := S256x1024) ![0, 0] S256x1024.size inb_S256x1024_S256x1024_0_0).toLoadRect (harg7.unread x6))
    (View.readAt (Elt F) arg11.view (Rect.unit (s := S1024x1024) ![0, 0] S1024x1024.size inb_S1024x1024_S1024x1024_0_0).toLoadRect (harg11.unread x10))

/-- The second result's block. -/
def xnTile : FVec F S256x1024 .bf16 :=
  k0_pay42 (branchA (head arg1 harg1 arg2 harg2 arg3 harg3 arg8 harg8 x0 x1 x2 x7)
      (View.readAt (Elt F) arg9.view (Rect.unit (s := S2048x1024) ![0, 0] S2048x1024.size inb_S2048x1024_S2048x1024_0_0).toLoadRect (harg9.unread x8)))
    (k0_pay38 (View.readAt (Elt F) arg4.view (Rect.unit (s := S256x1024) ![0, 0] S256x1024.size inb_S256x1024_S256x1024_0_0).toLoadRect (harg4.unread x3))
      (View.readAt (Elt F) arg10.view (Rect.unit (s := S1024x1024) ![0, 0] S1024x1024.size inb_S1024x1024_S1024x1024_0_0).toLoadRect (harg10.unread x9)))
    (k0_pay39 (View.readAt (Elt F) arg5.view (Rect.unit (s := S256x1024) ![0, 0] S256x1024.size inb_S256x1024_S256x1024_0_0).toLoadRect (harg5.unread x4)))
    (View.readAt (Elt F) arg6.view (Rect.unit (s := S256x1024) ![0, 0] S256x1024.size inb_S256x1024_S256x1024_0_0).toLoadRect (harg6.unread x5))
    (View.readAt (Elt F) arg7.view (Rect.unit (s := S256x1024) ![0, 0] S256x1024.size inb_S256x1024_S256x1024_0_0).toLoadRect (harg7.unread x6))
    (View.readAt (Elt F) arg11.view (Rect.unit (s := S1024x1024) ![0, 0] S1024x1024.size inb_S1024x1024_S1024x1024_0_0).toLoadRect (harg11.unread x10))
    (View.readAt (Elt F) arg12.view (Rect.unit (s := S1x1024) ![0, 0] S1x1024.size inb_S1x1024_S1x1024_0_0).toLoadRect (harg12.unread x11))

set_option maxHeartbeats 2000000 in
theorem run_h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).1
    = [⟨Rect.unit (s := S256x1024) ![0, 0] S256x1024.size inb_S256x1024_S256x1024_0_0, hTile arg1 harg1 arg2 harg2 arg3 harg3 arg4 harg4 arg5 harg5 arg6 harg6 arg7 harg7 arg8 harg8 arg9 harg9 arg10 harg10 arg11 harg11 x0 x1 x2 x3 x4 x5 x6 x7 x8 x9 x10⟩] := by
  unfold kernelRun0_A; rfl

set_option maxHeartbeats 2000000 in
theorem run_xn : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).2.1
    = [⟨Rect.unit (s := S256x1024) ![0, 0] S256x1024.size inb_S256x1024_S256x1024_0_0, xnTile arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11⟩] := by
  unfold kernelRun0_A; rfl

end Cert.Proof.Post

end
-- ==== Proof.Post.Maths.lean ====
/-
  The output mixer on one token, in mathematics, and the kernel's two blocks read at an index as it.

  A token's row: each head's output, the sum of the two scan directions, is normalized over its 128 features, scaled, and
  gated by its part of the projection (`gated`); the first branch is that row times a weight, the second the attention's
  row times another (`branch`); the branches are weighed by the gates, added, projected, and added to the residual
  (`mix`), which is then normalized (`scaled`).
-/
module

public import proofs.«01_k».proof.Proof.Post.Body
public import Idealize.ShloMosaic.Lib.Pointwise
public import Idealize.ShloMosaic.Lib.ValueIdx
public import Idealize.ShloMosaic.Lib.Tactic
public import Idealize.ShloMosaic.Lib.VecWindow

@[expose] public section

set_option maxRecDepth 16384

noncomputable section

open Idealize.ShloMosaic Idealize.ShloMosaic.TcCoe Idealize.SL.Sem

namespace Cert.Proof.Post

open Cert.Kernel4Ideal Cert.Kernel4Ideal.Gen

/-! ## One token, in mathematics -/

/-- The logistic function, as the quotient it is computed by. -/
def sg (z : EReal) : EReal := Ideal.div 1 (1 + Ideal.exp (-z))

/-- One head's output, the two directions added. -/
def both (a b : Fin 16 → Fin 128 → EReal) (j : Fin 16) (d : Fin 128) : EReal := a j d + b j d

/-- A row's root-mean-square normalization, its width given as the constant the programs divide by. -/
def rms {n : ℕ} (w : EReal) (y : Fin n → EReal) (d : Fin n) : EReal :=
  y d * Ideal.rsqrt (Ideal.div (∑ l, y l * y l) w + Ideal.ofBits FTy.f32 897988541#32)

/-- The gated heads, laid side by side. -/
def gated (a b : Fin 16 → Fin 128 → EReal) (g : Fin 128 → EReal) (z : Fin 2048 → EReal) (l : Fin 2048) : EReal :=
  rms (Ideal.ofBits FTy.f32 1124073472#32) (both a b ⟨l.val / 128, by omega⟩) ⟨l.val % 128, by omega⟩ * g ⟨l.val % 128, by omega⟩ * (z l * sg (z l))

/-- A row times a matrix. -/
def branch {n : ℕ} (y : Fin n → EReal) (w : Fin n → Fin 1024 → EReal) (k : Fin 1024) : EReal := ∑ l, y l * w l k

/-- The first result's row. -/
def mix (a b : Fin 16 → Fin 128 → EReal) (g : Fin 128 → EReal) (z : Fin 2048 → EReal) (t ga gb x : Fin 1024 → EReal)
    (wa : Fin 2048 → Fin 1024 → EReal) (wb wo : Fin 1024 → Fin 1024 → EReal) (n : Fin 1024) : EReal :=
  x n + branch (fun k => sg (ga k) * branch (gated a b g z) wa k + sg (gb k) * branch t wb k) wo n

/-- The second result's row. -/
def scaled (h : Fin 1024 → EReal) (nf : Fin 1024 → EReal) (n : Fin 1024) : EReal := rms (Ideal.ofBits FTy.f32 1149239296#32) h n * nf n

/-! ## The kernel's operations on a block -/

theorem pay1_apply (v0 v2 : Vec Ideal S1x256x128 .f32) (v15 : Vec Ideal S1x128 .f32) (v19 : Vec Ideal S256x128 .bf16) (r : Fin 256) (d : Fin 128) :
    k0_pay1 v0 v2 v15 v19 (ix2 r d)
      = rms (Ideal.ofBits FTy.f32 1124073472#32) (fun l => v0 (ix3 0 r l) + v2 (ix3 0 r l)) d * v15 (ix2 0 d) * (v19 (ix2 r d) * sg (v19 (ix2 r d))) := by
  pointwise [k0_pay1]
  simp only [rms, sg, zero_sub]

theorem cat_apply (P : Fin 16 → FVec Ideal S256x128 .bf16) (r : Fin 256) (l : Fin 2048) :
    cat P (ix2 r l) = P ⟨l.val / 128, by omega⟩ (ix2 r (⟨l.val % 128, by omega⟩ : Fin 128)) := by
  have hl := l.isLt
  exact concatenate_ofFn_apply (t := S256x2048) (s₁ := S256x128) 1 P
    concatenates_S256x128_S256x128_S256x128_S256x128_S256x128_S256x128_S256x128_S256x128_S256x128_S256x128_S256x128_S256x128_S256x128_S256x128_S256x128_S256x128_S256x2048_d1
    rfl 128 rfl (ix2 r l) ⟨l.val / 128, by omega⟩ rfl (ix2 r (⟨l.val % 128, by omega⟩ : Fin 128)) rfl
    (fun b hb => by
      match b with
      | ⟨0, _⟩ => rfl
      | ⟨1, _⟩ => exact absurd rfl hb)

theorem branchA_apply (P : Fin 16 → FVec Ideal S256x128 .bf16) (w : Vec Ideal S2048x1024 .bf16) (r : Fin 256) (n : Fin 1024) :
    branchA P w (ix2 r n) = branch (fun l => P ⟨l.val / 128, by omega⟩ (ix2 r (⟨l.val % 128, by omega⟩ : Fin 128))) (fun l k => w (ix2 l k)) n := by
  unfold branchA
  pointwise
  simp only [cat_apply]
  rfl

theorem pay38_apply (t : Vec Ideal S256x1024 .bf16) (w : Vec Ideal S1024x1024 .bf16) (r : Fin 256) (n : Fin 1024) :
    k0_pay38 t w (ix2 r n) = branch (fun k => t (ix2 r k)) (fun l k => w (ix2 l k)) n := by
  pointwise [k0_pay38]
  rfl

theorem pay39_apply (z : Vec Ideal S256x1024 .bf16) (r : Fin 256) (n : Fin 1024) :
    k0_pay39 z (ix2 r n) = 1 + Ideal.exp (-z (ix2 r n)) := by
  pointwise [k0_pay39]
  rw [zero_sub]

theorem pay40_apply (ya yb sa : FVec Ideal S256x1024 .f32) (gb : Vec Ideal S256x1024 .bf16) (x : Vec Ideal S256x1024 .f32) (w : Vec Ideal S1024x1024 .bf16)
    (r : Fin 256) (n : Fin 1024) :
    k0_pay40 ya yb sa gb x w (ix2 r n)
      = x (ix2 r n) + branch (fun k => Ideal.div 1 (sa (ix2 r k)) * ya (ix2 r k) + sg (gb (ix2 r k)) * yb (ix2 r k)) (fun l k => w (ix2 l k)) n := by
  pointwise [k0_pay40]
  simp only [sg, branch, zero_sub]

theorem pay42_apply (ya yb sa : FVec Ideal S256x1024 .f32) (gb : Vec Ideal S256x1024 .bf16) (x : Vec Ideal S256x1024 .f32) (w : Vec Ideal S1024x1024 .bf16)
    (nf : Vec Ideal S1x1024 .f32) (r : Fin 256) (n : Fin 1024) :
    k0_pay42 ya yb sa gb x w nf (ix2 r n) = scaled (fun k => k0_pay40 ya yb sa gb x w (ix2 r k)) (fun k => nf (ix2 0 k)) n := by
  pointwise [k0_pay42, k0_pay41]
  rfl

end Cert.Proof.Post

end
-- ==== Proof.Post.Blocks.lean ====
/-
  What one grid point of the output mixer leaves in its two blocks, read at an index, in terms of the arrays the call was
  given. The grid is 128 tiles of 256 tokens.
-/
module

public import proofs.«01_k».proof.Proof.Post.Maths

@[expose] public section

set_option maxRecDepth 16384

noncomputable section

open Idealize.ShloMosaic Idealize.ShloMosaic.TcCoe Idealize.SL.Sem

namespace Cert.Proof.Post

open Cert.Kernel4Ideal Cert.Kernel4Ideal.Gen

section

variable (c : Dev nD) (i : grid0.Coords)
    (arg1 : Memref sig .tc .vmem S16x256x128 .f32) (harg1 : arg1.IsWhole) (arg2 : Memref sig .tc .vmem S16x256x128 .f32) (harg2 : arg2.IsWhole) (arg3 : Memref sig .tc .vmem S256x2048 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x128 .f32) (harg8 : arg8.IsWhole) (arg9 : Memref sig .tc .vmem S2048x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S2x1024x128 .bf16) (harg13 : arg13.IsWhole) (arg14 : Memref sig .tc .vmem S1x128 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x128 .f32) (harg17 : arg17.IsWhole)
    (x0 : Vec Ideal S16x256x128 .f32) (x1 : Vec Ideal S16x256x128 .f32) (x2 : Vec Ideal S256x2048 .bf16) (x3 : Vec Ideal S256x1024 .bf16) (x4 : Vec Ideal S256x1024 .bf16) (x5 : Vec Ideal S256x1024 .bf16) (x6 : Vec Ideal S256x1024 .f32) (x7 : Vec Ideal S1x128 .f32) (x8 : Vec Ideal S2048x1024 .bf16) (x9 : Vec Ideal S1024x1024 .bf16) (x10 : Vec Ideal S1024x1024 .bf16) (x11 : Vec Ideal S1x1024 .f32) (x12 : Vec Ideal S2x1024x128 .bf16) (x13 : Vec Ideal S1x128 .f32)

/-- One head's gated value. -/
theorem head_apply (r : Fin 256) (l : Fin 2048) :
    head arg1 harg1 arg2 harg2 arg3 harg3 arg8 harg8 x0 x1 x2 x7 ⟨l.val / 128, by omega⟩ (ix2 r (⟨l.val % 128, by omega⟩ : Fin 128))
      = gated (fun j d => x0 (ix3 j r d)) (fun j d => x1 (ix3 j r d)) (fun d => x7 (ix2 0 d)) (fun l => x2 (ix2 r l)) l := by
  have hl := l.isLt
  have e0 : ∀ (arg : Memref sig .tc .vmem S16x256x128 .f32) (harg : arg.IsWhole) (x : Vec Ideal S16x256x128 .f32) (j : Fin 16) (d : Fin 128),
      View.readAt (Elt Ideal) arg.view (Rect.unit (s := S16x256x128) ![j.val, 0, 0] S1x256x128.size (inbO j)).toLoadRect (harg.unread x) (ix3 (0 : Fin 1) r d)
        = x (ix3 j r d) := by
    intro arg harg x j d
    rw [View.readAt_apply, harg.read_unread]
    congr 1; funext a; apply Fin.ext
    match a with
    | ⟨0, _⟩ => show j.val + 1 * 0 = j.val; omega
    | ⟨1, _⟩ => show 0 + 1 * r.val = r.val; omega
    | ⟨2, _⟩ => show 0 + 1 * d.val = d.val; omega
  have e2 : View.readAt (Elt Ideal) arg3.view (Rect.unit (s := S256x2048) ![0, 128 * (l.val / 128)] S256x128.size (inbZ ⟨l.val / 128, by omega⟩)).toLoadRect
      (harg3.unread x2) (ix2 r (⟨l.val % 128, by omega⟩ : Fin 128)) = x2 (ix2 r l) := by
    rw [View.readAt_apply, harg3.read_unread]
    congr 1; funext a; apply Fin.ext
    match a with
    | ⟨0, _⟩ => show 0 + 1 * r.val = r.val; omega
    | ⟨1, _⟩ => show 128 * (l.val / 128) + 1 * (l.val % 128) = l.val; omega
  unfold head
  rw [pay1_apply, View.readAt_full, harg8.read_unread]
  rw [e2]
  exact congrArg (fun y => rms (Ideal.ofBits .f32 1124073472) y ⟨l.val % 128, by omega⟩ * x7 (ix2 0 ⟨l.val % 128, by omega⟩) * (x2 (ix2 r l) * sg (x2 (ix2 r l))))
    (funext fun d => congrArg₂ (· + ·) (e0 arg1 harg1 x0 ⟨l.val / 128, by omega⟩ d) (e0 arg2 harg2 x1 ⟨l.val / 128, by omega⟩ d))

theorem hTile_apply (r : Fin 256) (n : Fin 1024) :
    hTile arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r n)
      = mix (fun j d => x0 (ix3 j r d)) (fun j d => x1 (ix3 j r d)) (fun d => x7 (ix2 0 d)) (fun l => x2 (ix2 r l)) (fun k => x3 (ix2 r k))
          (fun k => x4 (ix2 r k)) (fun k => x5 (ix2 r k)) (fun k => x6 (ix2 r k)) (fun l k => x8 (ix2 l k)) (fun l k => x9 (ix2 l k)) (fun l k => x10 (ix2 l k)) n := by
  unfold hTile
  iterate 7 rw [View.readAt_full]
  rw [harg4.read_unread, harg5.read_unread, harg6.read_unread, harg7.read_unread, harg9.read_unread, harg10.read_unread, harg11.read_unread, pay40_apply]
  simp only [branchA_apply, pay38_apply, pay39_apply, head_apply]
  rfl

theorem xnTile_apply (r : Fin 256) (n : Fin 1024) :
    xnTile arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (ix2 r n)
      = scaled (fun k => hTile arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r k)) (fun k => x11 (ix2 0 k)) n := by
  unfold xnTile hTile
  iterate 8 rw [View.readAt_full]
  rw [harg4.read_unread, harg5.read_unread, harg6.read_unread, harg7.read_unread, harg9.read_unread, harg10.read_unread, harg11.read_unread, harg12.read_unread, pay42_apply]

/-- What the body leaves in the first output's buffer is the first block. -/
theorem out_h : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 = hTile arg1 harg1 arg2 harg2 arg3 harg3 arg4 harg4 arg5 harg5 arg6 harg6 arg7 harg7 arg8 harg8 arg9 harg9 arg10 harg10 arg11 harg11 x0 x1 x2 x3 x4 x5 x6 x7 x8 x9 x10 := by
  unfold out0_A_14
  rw [run_h]
  exact View.read_writes_full ..

theorem out_xn : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 = xnTile arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  unfold out0_A_15
  rw [run_xn]
  exact View.read_writes_full ..

end

/-! ## The arrays the blocks come from -/

variable (m : (ℓ : Loc nD τ sig) → Buf (Elt Ideal) ℓ) (c : Dev nD)

/-- The call's arguments, as arrays. -/
abbrev aOf : FVec Ideal S16x32768x128 .f32 := m ((c : Thread nD τ).loc main_arg0)
abbrev aOb : FVec Ideal S16x32768x128 .f32 := m ((c : Thread nD τ).loc main_arg1)
abbrev aP : FVec Ideal S32768x9728 .bf16 := m ((c : Thread nD τ).loc main_arg2)
abbrev aT : FVec Ideal S32768x1024 .bf16 := m ((c : Thread nD τ).loc main_arg3)
abbrev aX : FVec Ideal S32768x1024 .f32 := m ((c : Thread nD τ).loc main_arg4)
abbrev aG : FVec Ideal S1x128 .f32 := m ((c : Thread nD τ).loc main_arg5)
abbrev aWa : FVec Ideal S1x2048x1024 .f32 := m ((c : Thread nD τ).loc main_arg6)
abbrev aWb : FVec Ideal S1x1024x1024 .f32 := m ((c : Thread nD τ).loc main_arg7)
abbrev aWo : FVec Ideal S1x1024x1024 .f32 := m ((c : Thread nD τ).loc main_arg8)
abbrev aN : FVec Ideal S1x1024 .f32 := m ((c : Thread nD τ).loc main_arg9)

theorem V_v17 : (V m c main_v17 : Vec Ideal S1x128 .f32) = broadcastInDim S1x128 ![1] bcast_S128_S1x128_1 (fun i => shapeCast S128 (aG m c) shapeCasts_S1x128_S128 i) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v19 : (V m c main_v19 : Vec Ideal S2048x1024 .bf16) = fun i => truncf (F := Ideal) .bf16 (fun i => shapeCast S2048x1024 (aWa m c) shapeCasts_S1x2048x1024_S2048x1024 i) bitsLt_bf16_f32 i := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v21 : (V m c main_v21 : Vec Ideal S1024x1024 .bf16) = fun i => truncf (F := Ideal) .bf16 (fun i => shapeCast S1024x1024 (aWb m c) shapeCasts_S1x1024x1024_S1024x1024 i) bitsLt_bf16_f32 i := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v23 : (V m c main_v23 : Vec Ideal S1024x1024 .bf16) = fun i => truncf (F := Ideal) .bf16 (fun i => shapeCast S1024x1024 (aWo m c) shapeCasts_S1x1024x1024_S1024x1024 i) bitsLt_bf16_f32 i := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem V_v25 : (V m c main_v25 : Vec Ideal S1x1024 .f32) = broadcastInDim S1x1024 ![1] bcast_S1024_S1x1024_1 (fun i => shapeCast S1024 (aN m c) shapeCasts_S1x1024_S1024 i) := by
  show StableHlo.after (List.flatten _) _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-! ## The blocks at a grid point -/

theorem N_eq : cfg0.N = 128 := by decide +kernel

/-- The printed index maps over the grid. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 2)
    ∧ (win0_3.index t (0 : Fin 2) = t.val ∧ win0_3.index t (1 : Fin 2) = 0)
    ∧ (win0_4.index t (0 : Fin 2) = t.val ∧ win0_4.index t (1 : Fin 2) = 7)
    ∧ (win0_5.index t (0 : Fin 2) = t.val ∧ win0_5.index t (1 : Fin 2) = 8)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- Row `r` of tile `t`, as a token. -/
def tok (t : Fin cfg0.N) (r : Fin 256) : Fin 32768 := ⟨t.val * 256 + r.val, by have := t.isLt; have := N_eq; omega⟩

theorem iblk0_apply (t : Fin cfg0.N) (j : Fin 16) (r : Fin 256) (d : Fin 128) :
    (iblk m c 0 t : Vec Ideal S16x256x128 .f32) (ix3 j r d) = aOf m c (ix3 j (tok t r) d) := by
  obtain ⟨⟨e0, e1, e2⟩, -⟩ := idx_facts t
  refine Eq.trans ?_ (congrFun (V_main_arg0 m c) (ix3 j (tok t r) d))
  · unfold iblk
    rw [View.read_apply]
    show V m c main_arg0 _ = V m c main_arg0 _
    congr 1; funext a; apply Fin.ext
    match a with
    | ⟨0, _⟩ => show win0_0.index t (0 : Fin 3) * 16 + 1 * j.val = j.val; rw [e0]; omega
    | ⟨1, _⟩ => show win0_0.index t (1 : Fin 3) * 256 + 1 * r.val = t.val * 256 + r.val; rw [e1]; omega
    | ⟨2, _⟩ => show win0_0.index t (2 : Fin 3) * 128 + 1 * d.val = d.val; rw [e2]; omega

theorem iblk1_apply (t : Fin cfg0.N) (j : Fin 16) (r : Fin 256) (d : Fin 128) :
    (iblk m c 1 t : Vec Ideal S16x256x128 .f32) (ix3 j r d) = aOb m c (ix3 j (tok t r) d) := by
  obtain ⟨-, ⟨e0, e1, e2⟩, -⟩ := idx_facts t
  refine Eq.trans ?_ (congrFun (V_main_arg1 m c) (ix3 j (tok t r) d))
  · unfold iblk
    rw [View.read_apply]
    show V m c main_arg1 _ = V m c main_arg1 _
    congr 1; funext a; apply Fin.ext
    match a with
    | ⟨0, _⟩ => show win0_1.index t (0 : Fin 3) * 16 + 1 * j.val = j.val; rw [e0]; omega
    | ⟨1, _⟩ => show win0_1.index t (1 : Fin 3) * 256 + 1 * r.val = t.val * 256 + r.val; rw [e1]; omega
    | ⟨2, _⟩ => show win0_1.index t (2 : Fin 3) * 128 + 1 * d.val = d.val; rw [e2]; omega

theorem iblk2_apply (t : Fin cfg0.N) (r : Fin 256) (l : Fin 2048) :
    (X0_2 m c t : Vec Ideal S256x2048 .bf16) (ix2 r l) = aP m c (ix2 (tok t r) ⟨4096 + l.val, by omega⟩) := by
  obtain ⟨-, -, ⟨e0, e1⟩, -⟩ := idx_facts t
  refine Eq.trans ?_ (congrFun (V_main_arg2 m c) (ix2 (tok t r) ⟨4096 + l.val, by omega⟩))
  · unfold X0_2 Pipeline.Window.fill
    rw [dif_pos (moved0_2 t _)]
    unfold iblk
    rw [View.read_apply]
    show V m c main_arg2 _ = V m c main_arg2 _
    congr 1; funext a; apply Fin.ext
    match a with
    | ⟨0, _⟩ => show win0_2.index t (0 : Fin 2) * 256 + 1 * r.val = t.val * 256 + r.val; rw [e0]; omega
    | ⟨1, _⟩ => show win0_2.index t (1 : Fin 2) * 2048 + 1 * l.val = 4096 + l.val; rw [e1]; omega

theorem iblk3_apply (t : Fin cfg0.N) (r : Fin 256) (k : Fin 1024) :
    (iblk m c 3 t : Vec Ideal S256x1024 .bf16) (ix2 r k) = aT m c (ix2 (tok t r) k) := by
  obtain ⟨-, -, -, ⟨e0, e1⟩, -⟩ := idx_facts t
  refine Eq.trans ?_ (congrFun (V_main_arg3 m c) (ix2 (tok t r) k))
  · unfold iblk
    rw [View.read_apply]
    show V m c main_arg3 _ = V m c main_arg3 _
    congr 1; funext a; apply Fin.ext
    match a with
    | ⟨0, _⟩ => show win0_3.index t (0 : Fin 2) * 256 + 1 * r.val = t.val * 256 + r.val; rw [e0]; omega
    | ⟨1, _⟩ => show win0_3.index t (1 : Fin 2) * 1024 + 1 * k.val = k.val; rw [e1]; omega

theorem iblk4_apply (t : Fin cfg0.N) (r : Fin 256) (k : Fin 1024) :
    (X0_4 m c t : Vec Ideal S256x1024 .bf16) (ix2 r k) = aP m c (ix2 (tok t r) ⟨7168 + k.val, by omega⟩) := by
  obtain ⟨-, -, -, -, ⟨e0, e1⟩, -⟩ := idx_facts t
  refine Eq.trans ?_ (congrFun (V_main_arg2 m c) (ix2 (tok t r) ⟨7168 + k.val, by omega⟩))
  · unfold X0_4 Pipeline.Window.fill
    rw [dif_pos (moved0_4 t _)]
    unfold iblk
    rw [View.read_apply]
    show V m c main_arg2 _ = V m c main_arg2 _
    congr 1; funext a; apply Fin.ext
    match a with
    | ⟨0, _⟩ => show win0_4.index t (0 : Fin 2) * 256 + 1 * r.val = t.val * 256 + r.val; rw [e0]; omega
    | ⟨1, _⟩ => show win0_4.index t (1 : Fin 2) * 1024 + 1 * k.val = 7168 + k.val; rw [e1]; omega

theorem iblk5_apply (t : Fin cfg0.N) (r : Fin 256) (k : Fin 1024) :
    (X0_5 m c t : Vec Ideal S256x1024 .bf16) (ix2 r k) = aP m c (ix2 (tok t r) ⟨8192 + k.val, by omega⟩) := by
  obtain ⟨-, -, -, -, -, ⟨e0, e1⟩, -⟩ := idx_facts t
  refine Eq.trans ?_ (congrFun (V_main_arg2 m c) (ix2 (tok t r) ⟨8192 + k.val, by omega⟩))
  · unfold X0_5 Pipeline.Window.fill
    rw [dif_pos (moved0_5 t _)]
    unfold iblk
    rw [View.read_apply]
    show V m c main_arg2 _ = V m c main_arg2 _
    congr 1; funext a; apply Fin.ext
    match a with
    | ⟨0, _⟩ => show win0_5.index t (0 : Fin 2) * 256 + 1 * r.val = t.val * 256 + r.val; rw [e0]; omega
    | ⟨1, _⟩ => show win0_5.index t (1 : Fin 2) * 1024 + 1 * k.val = 8192 + k.val; rw [e1]; omega

theorem iblk6_apply (t : Fin cfg0.N) (r : Fin 256) (k : Fin 1024) :
    (iblk m c 6 t : Vec Ideal S256x1024 .f32) (ix2 r k) = aX m c (ix2 (tok t r) k) := by
  obtain ⟨-, -, -, -, -, -, ⟨e0, e1⟩, -⟩ := idx_facts t
  refine Eq.trans ?_ (congrFun (V_main_arg4 m c) (ix2 (tok t r) k))
  · unfold iblk
    rw [View.read_apply]
    show V m c main_arg4 _ = V m c main_arg4 _
    congr 1; funext a; apply Fin.ext
    match a with
    | ⟨0, _⟩ => show win0_6.index t (0 : Fin 2) * 256 + 1 * r.val = t.val * 256 + r.val; rw [e0]; omega
    | ⟨1, _⟩ => show win0_6.index t (1 : Fin 2) * 1024 + 1 * k.val = k.val; rw [e1]; omega

theorem iblk7_apply (t : Fin cfg0.N) (d : Fin 128) :
    (iblk m c 7 t : Vec Ideal S1x128 .f32) (ix2 0 d) = aG m c (ix2 0 d) := by
  obtain ⟨-, -, -, -, -, -, -, ⟨e0, e1⟩, -⟩ := idx_facts t
  refine Eq.trans ?_ ((congrFun (V_v17 m c) (ix2 0 d)).trans ?_)
  · unfold iblk
    rw [View.read_apply]
    show V m c main_v17 _ = V m c main_v17 _
    congr 1; funext a; apply Fin.ext
    match a with
    | ⟨0, _⟩ => show win0_7.index t (0 : Fin 2) * 1 + 1 * 0 = 0; rw [e0]
    | ⟨1, _⟩ => show win0_7.index t (1 : Fin 2) * 128 + 1 * d.val = d.val; rw [e1]; omega
  · pointwise

theorem iblk8_apply (t : Fin cfg0.N) (l : Fin 2048) (k : Fin 1024) :
    (iblk m c 8 t : Vec Ideal S2048x1024 .bf16) (ix2 l k) = aWa m c (ix3 0 l k) := by
  obtain ⟨-, -, -, -, -, -, -, -, ⟨e0, e1⟩, -⟩ := idx_facts t
  refine Eq.trans ?_ ((congrFun (V_v19 m c) (ix2 l k)).trans ?_)
  · unfold iblk
    rw [View.read_apply]
    show V m c main_v19 _ = V m c main_v19 _
    congr 1; funext a; apply Fin.ext
    match a with
    | ⟨0, _⟩ => show win0_8.index t (0 : Fin 2) * 2048 + 1 * l.val = l.val; rw [e0]; omega
    | ⟨1, _⟩ => show win0_8.index t (1 : Fin 2) * 1024 + 1 * k.val = k.val; rw [e1]; omega
  · pointwise

theorem iblk9_apply (t : Fin cfg0.N) (l : Fin 1024) (k : Fin 1024) :
    (iblk m c 9 t : Vec Ideal S1024x1024 .bf16) (ix2 l k) = aWb m c (ix3 0 l k) := by
  obtain ⟨-, -, -, -, -, -, -, -, -, ⟨e0, e1⟩, -⟩ := idx_facts t
  refine Eq.trans ?_ ((congrFun (V_v21 m c) (ix2 l k)).trans ?_)
  · unfold iblk
    rw [View.read_apply]
    show V m c main_v21 _ = V m c main_v21 _
    congr 1; funext a; apply Fin.ext
    match a with
    | ⟨0, _⟩ => show win0_9.index t (0 : Fin 2) * 1024 + 1 * l.val = l.val; rw [e0]; omega
    | ⟨1, _⟩ => show win0_9.index t (1 : Fin 2) * 1024 + 1 * k.val = k.val; rw [e1]; omega
  · pointwise

theorem iblk10_apply (t : Fin cfg0.N) (l : Fin 1024) (k : Fin 1024) :
    (iblk m c 10 t : Vec Ideal S1024x1024 .bf16) (ix2 l k) = aWo m c (ix3 0 l k) := by
  obtain ⟨-, -, -, -, -, -, -, -, -, -, ⟨e0, e1⟩, -⟩ := idx_facts t
  refine Eq.trans ?_ ((congrFun (V_v23 m c) (ix2 l k)).trans ?_)
  · unfold iblk
    rw [View.read_apply]
    show V m c main_v23 _ = V m c main_v23 _
    congr 1; funext a; apply Fin.ext
    match a with
    | ⟨0, _⟩ => show win0_10.index t (0 : Fin 2) * 1024 + 1 * l.val = l.val; rw [e0]; omega
    | ⟨1, _⟩ => show win0_10.index t (1 : Fin 2) * 1024 + 1 * k.val = k.val; rw [e1]; omega
  · pointwise

theorem iblk11_apply (t : Fin cfg0.N) (k : Fin 1024) :
    (iblk m c 11 t : Vec Ideal S1x1024 .f32) (ix2 0 k) = aN m c (ix2 0 k) := by
  obtain ⟨-, -, -, -, -, -, -, -, -, -, -, ⟨e0, e1⟩, -⟩ := idx_facts t
  refine Eq.trans ?_ ((congrFun (V_v25 m c) (ix2 0 k)).trans ?_)
  · unfold iblk
    rw [View.read_apply]
    show V m c main_v25 _ = V m c main_v25 _
    congr 1; funext a; apply Fin.ext
    match a with
    | ⟨0, _⟩ => show win0_11.index t (0 : Fin 2) * 1 + 1 * 0 = 0; rw [e0]
    | ⟨1, _⟩ => show win0_11.index t (1 : Fin 2) * 1024 + 1 * k.val = k.val; rw [e1]; omega
  · pointwise

/-! ## The two blocks at a grid point -/

/-- The first result at a token. -/
def hRow (a b : FVec Ideal S16x32768x128 .f32) (p : FVec Ideal S32768x9728 .bf16) (t : FVec Ideal S32768x1024 .bf16) (x : FVec Ideal S32768x1024 .f32)
    (g : FVec Ideal S1x128 .f32) (wa : FVec Ideal S1x2048x1024 .f32) (wb wo : FVec Ideal S1x1024x1024 .f32) (R : Fin 32768) : Fin 1024 → EReal :=
  mix (fun j d => a (ix3 j R d)) (fun j d => b (ix3 j R d)) (fun d => g (ix2 0 d)) (fun l => p (ix2 R ⟨4096 + l.val, by omega⟩)) (fun k => t (ix2 R k))
    (fun k => p (ix2 R ⟨7168 + k.val, by omega⟩)) (fun k => p (ix2 R ⟨8192 + k.val, by omega⟩)) (fun k => x (ix2 R k))
    (fun l k => wa (ix3 0 l k)) (fun l k => wb (ix3 0 l k)) (fun l k => wo (ix3 0 l k))

abbrev aRow (R : Fin 32768) : Fin 1024 → EReal := hRow (aOf m c) (aOb m c) (aP m c) (aT m c) (aX m c) (aG m c) (aWa m c) (aWb m c) (aWo m c) R

theorem h_apply (t : Fin cfg0.N) (r : Fin 256) (n : Fin 1024) :
    hTile (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (X0_4 m c t) (X0_5 m c t) (iblk m c 6 t) (iblk m c 7 t) (iblk m c 8 t) (iblk m c 9 t) (iblk m c 10 t) (ix2 r n) = aRow m c (tok t r) n := by
  rw [hTile_apply]
  simp only [iblk0_apply, iblk1_apply, iblk2_apply, iblk3_apply, iblk4_apply, iblk5_apply, iblk6_apply, iblk7_apply, iblk8_apply, iblk9_apply, iblk10_apply]
  rfl

theorem xn_apply (t : Fin cfg0.N) (r : Fin 256) (n : Fin 1024) :
    xnTile (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (X0_2 m c t) (iblk m c 3 t) (X0_4 m c t) (X0_5 m c t) (iblk m c 6 t) (iblk m c 7 t) (iblk m c 8 t) (iblk m c 9 t) (iblk m c 10 t) (iblk m c 11 t) (ix2 r n) = scaled (aRow m c (tok t r)) (fun k => aN m c (ix2 0 k)) n := by
  rw [xnTile_apply]
  simp only [h_apply, iblk11_apply]

theorem out14 (t : Fin cfg0.N) (r : Fin 256) (n : Fin 1024) : (outsAt0 m c t).1 (ix2 r n) = aRow m c (tok t r) n := by
  unfold outsAt0
  rw [out_h]
  exact h_apply m c t r n

theorem out15 (t : Fin cfg0.N) (r : Fin 256) (n : Fin 1024) :
    (outsAt0 m c t).2.1 (ix2 r n) = scaled (aRow m c (tok t r)) (fun k => aN m c (ix2 0 k)) n := by
  unfold outsAt0
  rw [out_xn]
  exact xn_apply m c t r n

end Cert.Proof.Post

end
-- ==== Proof.Post.Value.lean ====
/-
  The mixer's two result arrays over the extended reals, and the reference's: the residual row after the gated branches, and
  that row normalized for the experts.
-/
module

public import proofs.«01_k».proof.Proof.Post.Blocks
public import proofs.«01_k».proof.Proof.Gen.Kernel4Ideal.Value
public import proofs.«01_k».proof.Proof.Gen.Reference4Ideal.Read

@[expose] public section

set_option maxRecDepth 16384

noncomputable section

namespace Cert.Proof.Post

open Cert.Kernel4Ideal Cert.Kernel4Ideal.Gen

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The kernel's arrays -/

section

variable (m : (ℓ : Loc nD τ sig) → Buf (Elt Ideal) ℓ) (ρ : Dev nD → PrngReg)

/-- The two result arrays of a device. -/
def G14 (c : Dev nD) : Buf (Elt Ideal) ((c : Thread nD τ).loc main_v26_0) := fun i => aRow m c (i 0) (i 1)
def G15 (c : Dev nD) : Buf (Elt Ideal) ((c : Thread nD τ).loc main_v26_1) := fun i => scaled (aRow m c (i 0)) (fun k => aN m c (ix2 0 k)) (i 1)

theorem flushed14 (c : Dev nD) (t : Fin cfg0.N) : (dats m 0 c).flushed 14 t = ((cfg0.win 14).blk t).view.read (Elt Ideal) (G14 m c) := by
  rw [Cert.Kernel4Ideal.Value.flushed14]
  obtain ⟨-, -, -, -, -, -, -, -, -, -, -, -, ⟨e0, e1⟩, -⟩ := idx_facts t
  funext y
  have hy0 : (y 0).val < 256 := (y 0).isLt
  have hy1 : (y 1).val < 1024 := (y 1).isLt
  have hb0 : ((cfg0.win 14).blk t).view.emb y 0 = tok t ⟨(y 0).val, hy0⟩ := Fin.ext (by
    show win0_14.index t (0 : Fin 2) * 256 + 1 * (y 0).val = t.val * 256 + (y 0).val
    rw [e0]; omega)
  have hb1 : ((cfg0.win 14).blk t).view.emb y 1 = (⟨(y 1).val, hy1⟩ : Fin 1024) := Fin.ext (by
    show win0_14.index t (1 : Fin 2) * 1024 + 1 * (y 1).val = (y 1).val
    rw [e1]; omega)
  rw [View.read_apply]
  have hx : (cfg0.win 14).xinj (grid0.coords t) y = ix2 (⟨(y 0).val, hy0⟩ : Fin 256) (⟨(y 1).val, hy1⟩ : Fin 1024) := by
    funext a
    match a with
    | ⟨0, _⟩ => rfl
    | ⟨1, _⟩ => rfl
  show (outsAt0 m c t).1 ((cfg0.win 14).xinj (grid0.coords t) y) = G14 m c (((cfg0.win 14).blk t).view.emb y)
  rw [hx]
  refine (out14 m c t ⟨(y 0).val, hy0⟩ ⟨(y 1).val, hy1⟩).trans ?_
  unfold G14
  rw [hb0, hb1]

theorem flushes14 : ∀ t : Fin cfg0.N, (cfg0.win 14).flush t = true := (by decide +kernel : ∀ t : Fin grid0.N, win0_14.flush t = true)

theorem mem_blk14 (t : Fin cfg0.N) (i : S32768x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v26_0).slice (win0_14.rect t)).set ↔ _
  rw [View.set_slice_whole, Rect.mem_set_unit]
  exact Iff.rfl

theorem covered14 (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  have hp : (i 0).val / 256 < cfg0.N := lt_of_lt_of_eq (show _ < 128 by omega) N_eq.symm
  refine ⟨⟨_, hp⟩, flushes14 _, ?_⟩
  rw [mem_blk14]
  obtain ⟨-, -, -, -, -, -, -, -, -, -, -, -, ⟨e0, e1⟩, -⟩ := idx_facts ⟨_, hp⟩
  dsimp only at e0 e1
  intro a
  match a with
  | ⟨0, _⟩ => show win0_14.index _ (0 : Fin 2) * 256 ≤ (i 0).val ∧ (i 0).val < win0_14.index _ (0 : Fin 2) * 256 + 256; omega
  | ⟨1, _⟩ => show win0_14.index _ (1 : Fin 2) * 1024 ≤ (i 1).val ∧ (i 1).val < win0_14.index _ (1 : Fin 2) * 1024 + 1024; omega

theorem final14 (c : Dev nD) : (dats m 0 c).arrAt 14 cfg0.N = G14 m c :=
  (dats m 0 c).arrAt_eq_of_cover 14 _ (fun t _ => flushed14 m c t) (fun i => covered14 i)

theorem flushed15 (c : Dev nD) (t : Fin cfg0.N) : (dats m 0 c).flushed 15 t = ((cfg0.win 15).blk t).view.read (Elt Ideal) (G15 m c) := by
  rw [Cert.Kernel4Ideal.Value.flushed15]
  obtain ⟨-, -, -, -, -, -, -, -, -, -, -, -, -, e0, e1⟩ := idx_facts t
  funext y
  have hy0 : (y 0).val < 256 := (y 0).isLt
  have hy1 : (y 1).val < 1024 := (y 1).isLt
  have hb0 : ((cfg0.win 15).blk t).view.emb y 0 = tok t ⟨(y 0).val, hy0⟩ := Fin.ext (by
    show win0_15.index t (0 : Fin 2) * 256 + 1 * (y 0).val = t.val * 256 + (y 0).val
    rw [e0]; omega)
  have hb1 : ((cfg0.win 15).blk t).view.emb y 1 = (⟨(y 1).val, hy1⟩ : Fin 1024) := Fin.ext (by
    show win0_15.index t (1 : Fin 2) * 1024 + 1 * (y 1).val = (y 1).val
    rw [e1]; omega)
  rw [View.read_apply]
  have hx : (cfg0.win 15).xinj (grid0.coords t) y = ix2 (⟨(y 0).val, hy0⟩ : Fin 256) (⟨(y 1).val, hy1⟩ : Fin 1024) := by
    funext a
    match a with
    | ⟨0, _⟩ => rfl
    | ⟨1, _⟩ => rfl
  show (outsAt0 m c t).2.1 ((cfg0.win 15).xinj (grid0.coords t) y) = G15 m c (((cfg0.win 15).blk t).view.emb y)
  rw [hx]
  refine (out15 m c t ⟨(y 0).val, hy0⟩ ⟨(y 1).val, hy1⟩).trans ?_
  unfold G15
  rw [hb0, hb1]

theorem flushes15 : ∀ t : Fin cfg0.N, (cfg0.win 15).flush t = true := (by decide +kernel : ∀ t : Fin grid0.N, win0_15.flush t = true)

theorem mem_blk15 (t : Fin cfg0.N) (i : S32768x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v26_1).slice (win0_15.rect t)).set ↔ _
  rw [View.set_slice_whole, Rect.mem_set_unit]
  exact Iff.rfl

theorem covered15 (i : S32768x1024.Idx) : ∃ t : Fin cfg0.N, (cfg0.win 15).flush t = true ∧ i ∈ ((cfg0.win 15).blk t).view.set := by
  have h0 : (i 0).val < 32768 := (i 0).isLt
  have h1 : (i 1).val < 1024 := (i 1).isLt
  have hp : (i 0).val / 256 < cfg0.N := lt_of_lt_of_eq (show _ < 128 by omega) N_eq.symm
  refine ⟨⟨_, hp⟩, flushes15 _, ?_⟩
  rw [mem_blk15]
  obtain ⟨-, -, -, -, -, -, -, -, -, -, -, -, -, e0, e1⟩ := idx_facts ⟨_, hp⟩
  dsimp only at e0 e1
  intro a
  match a with
  | ⟨0, _⟩ => show win0_15.index _ (0 : Fin 2) * 256 ≤ (i 0).val ∧ (i 0).val < win0_15.index _ (0 : Fin 2) * 256 + 256; omega
  | ⟨1, _⟩ => show win0_15.index _ (1 : Fin 2) * 1024 ≤ (i 1).val ∧ (i 1).val < win0_15.index _ (1 : Fin 2) * 1024 + 1024; omega

theorem final15 (c : Dev nD) : (dats m 0 c).arrAt 15 cfg0.N = G15 m c :=
  (dats m 0 c).arrAt_eq_of_cover 15 _ (fun t _ => flushed15 m c t) (fun i => covered15 i)

/-- The run: the result arrays end at `G14` and `G15`, every argument array as it was. -/
theorem run : θ_run defs (onTc (τ := τ) (main (F := Ideal))) ⟨m, fun _ => 0, ρ⟩ (fun r => ∀ c : Dev nD,
      r.2.mem ((c.tc : Thread nD τ).loc main_v26_0) = G14 m c
      ∧ r.2.mem ((c.tc : Thread nD τ).loc main_v26_1) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c).1.trans (final14 m c), (h c).2.1.trans (final15 m c), (h c).2.2.2⟩) (Cert.Kernel4Ideal.Value.run_blocks m ρ)

end

/-! ## The reference's arrays -/

section

open Cert.Reference4Ideal.Read

variable (a b : FVec Ideal S16x32768x128 .f32) (p : FVec Ideal S32768x9728 .bf16) (t : FVec Ideal S32768x1024 .bf16) (x : FVec Ideal S32768x1024 .f32)
    (g : FVec Ideal S1x128 .f32) (wa : FVec Ideal S1x2048x1024 .f32) (wb wo : FVec Ideal S1x1024x1024 .f32) (nf : FVec Ideal S1x1024 .f32)

/-- The two directions added, token first. -/
theorem ref_both (R : Fin 32768) (j : Fin 16) (d : Fin 128) : val_main_v5 (F := Ideal) a b (ix3 R j d) = a (ix3 j R d) + b (ix3 j R d) := by
  pointwise [val_main_v5, val_main_v4]

/-- A head's normalized output times the gain. -/
theorem ref_normed (R : Fin 32768) (j : Fin 16) (d : Fin 128) : val_main_v19 (F := Ideal) a b g (ix3 R j d)
    = rms (Ideal.ofBits FTy.f32 1124073472#32) (fun d => a (ix3 j R d) + b (ix3 j R d)) d * g (ix2 0 d) := by
  pointwise [val_main_v6, val_main_v7, val_main_v8, val_main_v9, val_main_v10, val_main_v11, val_main_v12, val_main_v13, val_main_v14, val_main_v15, val_main_v16, val_main_v17, val_main_v18, val_main_v19, val_main_cst, val_main_cst_0, val_main_cst_1]
  simp only [ref_both]
  rfl

/-- The gate of a head's output. -/
theorem ref_silu (R : Fin 32768) (j : Fin 16) (d : Fin 128) : val_main_v21 (F := Ideal) p (ix3 R j d)
    = p (ix2 R ⟨4096 + (j.val * 128 + d.val), by omega⟩) * sg (p (ix2 R ⟨4096 + (j.val * 128 + d.val), by omega⟩)) := by
  have e : val_main_v20 (F := Ideal) p (ix3 R j d) = p (ix2 R ⟨4096 + (j.val * 128 + d.val), by omega⟩) := by
    pointwise [val_main_v20, val_main_v1, val_main_v0]
  pointwise [val_main_v21, val_main_call0_v0, val_main_call0_v1, val_main_call0_v2, val_main_call0_v3, val_main_call0_v4, val_main_call0_v5, val_main_call0_cst, val_main_call0_cst_0]
  rw [e]
  rfl

/-- The gated heads side by side. -/
theorem ref_gated (R : Fin 32768) (l : Fin 2048) : val_main_v23 (F := Ideal) a b p g (ix2 R l)
    = gated (fun j d => a (ix3 j R d)) (fun j d => b (ix3 j R d)) (fun d => g (ix2 0 d)) (fun l => p (ix2 R ⟨4096 + l.val, by omega⟩)) l := by
  have hl := l.isLt
  have e : val_main_v23 (F := Ideal) a b p g (ix2 R l) = val_main_v22 (F := Ideal) a b p g (ix3 R (⟨l.val / 128, by omega⟩ : Fin 16) (⟨l.val % 128, by omega⟩ : Fin 128)) := by
    pointwise [val_main_v23]
  rw [e]
  pointwise [val_main_v22]
  rw [ref_normed, ref_silu]
  have hc : (⟨4096 + (l.val / 128 * 128 + l.val % 128), by omega⟩ : Fin 9728) = ⟨4096 + l.val, by omega⟩ := Fin.ext (by show 4096 + (l.val / 128 * 128 + l.val % 128) = 4096 + l.val; omega)
  rw [hc]
  rfl

theorem ref_sigA (R : Fin 32768) (k : Fin 1024) : val_main_v34 (F := Ideal) p (ix2 R k) = sg (p (ix2 R ⟨7168 + k.val, by omega⟩)) := by
  pointwise [val_main_v0, val_main_v2, val_main_v29, val_main_v30, val_main_v31, val_main_v32, val_main_v33, val_main_v34, val_main_cst_2, val_main_cst_3]
  rfl

theorem ref_sigB (R : Fin 32768) (k : Fin 1024) : val_main_v41 (F := Ideal) p (ix2 R k) = sg (p (ix2 R ⟨8192 + k.val, by omega⟩)) := by
  pointwise [val_main_v0, val_main_v3, val_main_v36, val_main_v37, val_main_v38, val_main_v39, val_main_v40, val_main_v41, val_main_cst_4, val_main_cst_5]
  rfl

/-- The two branches merged. -/
theorem ref_merged (R : Fin 32768) (k : Fin 1024) : val_main_v43 (F := Ideal) a b p t g wa wb (ix2 R k)
    = sg (p (ix2 R ⟨7168 + k.val, by omega⟩)) * branch (gated (fun j d => a (ix3 j R d)) (fun j d => b (ix3 j R d)) (fun d => g (ix2 0 d)) (fun l => p (ix2 R ⟨4096 + l.val, by omega⟩))) (fun l k => wa (ix3 0 l k)) k
      + sg (p (ix2 R ⟨8192 + k.val, by omega⟩)) * branch (fun k => t (ix2 R k)) (fun l k => wb (ix3 0 l k)) k := by
  pointwise [val_main_v43, val_main_v42, val_main_v35, val_main_v28, val_main_v27, val_main_v26, val_main_v25, val_main_v24]
  simp only [ref_sigA, ref_sigB, ref_gated]
  rfl

theorem ref_h (R : Fin 32768) (n : Fin 1024) : val_main_v46 (F := Ideal) a b p t x g wa wb wo (ix2 R n) = hRow a b p t x g wa wb wo R n := by
  pointwise [val_main_v46, val_main_v45, val_main_v44]
  simp only [ref_merged]
  rfl

theorem ref_xn (R : Fin 32768) (n : Fin 1024) : val_main_v61 (F := Ideal) a b p t x g wa wb wo nf (ix2 R n)
    = scaled (hRow a b p t x g wa wb wo R) (fun k => nf (ix2 0 k)) n := by
  pointwise [val_main_v61, val_main_v60, val_main_v59, val_main_v58, val_main_v57, val_main_v56, val_main_v55, val_main_v54, val_main_v53, val_main_v52, val_main_v51, val_main_v50, val_main_v49, val_main_v48, val_main_v47, val_main_cst_6, val_main_cst_7, val_main_cst_8]
  simp only [ref_h]
  rfl

theorem ref_h_all : val_main_v46 (F := Ideal) a b p t x g wa wb wo = fun i => hRow a b p t x g wa wb wo (i 0) (i 1) := by
  funext i
  obtain ⟨R, n, rfl⟩ : ∃ (R : Fin 32768) (n : Fin 1024), i = ix2 R n := ⟨i 0, i 1, eq_ix2 i⟩
  exact ref_h a b p t x g wa wb wo R n

theorem ref_xn_all : val_main_v61 (F := Ideal) a b p t x g wa wb wo nf
    = fun i => scaled (hRow a b p t x g wa wb wo (i 0)) (fun k => nf (ix2 0 k)) (i 1) := by
  funext i
  obtain ⟨R, n, rfl⟩ : ∃ (R : Fin 32768) (n : Fin 1024), i = ix2 R n := ⟨i 0, i 1, eq_ix2 i⟩
  exact ref_xn a b p t x g wa wb wo nf R n

end

end Cert.Proof.Post

end
-- ==== Proof.Post.Claim.lean ====
/-
  The claims about the mixer's output: that over the extended reals the call's two first results are the reference's, from
  any arguments, and that the reference's runs end.
-/
module

public import proofs.«01_k».proof.Proof.Post.Value
public import proofs.«01_k».proof.Proof.Gen.Reference4Ideal.Run
public import proofs.«01_k».proof.Defs
public import Idealize.ShloMosaic.Lib.Quiescent

@[expose] public section

noncomputable section

open Idealize.ShloMosaic Idealize.ShloMosaic.TcCoe Idealize.SL.Sem

namespace Cert.Proof.Post

/-- Over the extended reals the call and the reference end with the same two result arrays. -/
theorem algebraic : Cert.algebraic_Kernel4Ideal_Reference4Ideal := by
  intro m g m' g' _ hargs
  refine ⟨fun c => G14 m c, fun c => G15 m c, run m g, ?_⟩
  refine (θ_run Cert.Reference4Ideal.defs _ _).mono (fun r h c => ?_) (Cert.Reference4Ideal.Value.run m' g')
  obtain ⟨h1, h2, hrest⟩ := h c
  obtain ⟨e0, e1, e2, e3, e4, e5, e6, e7, e8, e9, e10, e11, e12, e13⟩ := hargs c
  refine ⟨h1.trans ?_, h2.trans ?_, hrest⟩
  · rw [e0, e1, e2, e3, e4, e5, e6, e7, e8]
    exact (Cert.Reference4Ideal.Read.val_main_v46_eq _ _ _ _ _ _ _ _ _).trans (ref_h_all _ _ _ _ _ _ _ _ _)
  · rw [Cert.Reference4Ideal.Read.val_main_v61_eq, e0, e1, e2, e3, e4, e5, e6, e7, e8, e9]
    exact ref_xn_all _ _ _ _ _ _ _ _ _ _

/-- Every run of the reference ends. -/
theorem refFrame : Cert.quiescent_Reference4Ideal := by
  intro m g _
  exact (θ_run Cert.Reference4Ideal.defs _ _).mono
    (fun r h => ⟨fun c => (h c).2.2, sem_eq_zero_of_no_sems (by decide) r.2⟩) (Cert.Reference4Ideal.Value.run (F := Ideal) m g)

end Cert.Proof.Post

end
-- ==== Proof.Prep.Body.lean ====
/-
  What the body of the attention's preparation leaves in its three output blocks, as the kernel's own functions of what it
  loads.

  The kernel treats the eight query heads one after another with the same operations, and so the two key heads: each head's
  value is one function of that head's columns.
-/
module

public import proofs.«01_k».proof.Proof.Gen.Kernel5Ideal.Frame
import all proofs.«01_k».proof.Proof.Gen.Kernel5Ideal.Frame.RunA

@[expose] public section

set_option maxRecDepth 16384

noncomputable section

namespace Cert.Proof.Prep

open Cert.Kernel5Ideal Cert.Kernel5Ideal.Gen

open Idealize.ShloMosaic Idealize.ShloMosaic.TcCoe

variable {F : FTy → Type} [FloatOps F]

theorem inbQ : ∀ (j : Fin 8) (a : Fin 2), (![0, 128 * j.val] : Fin 2 → ℕ) a + S512x128.size a ≤ S512x1024.size a := by decide
theorem inbK : ∀ (j : Fin 2) (a : Fin 2), (![0, 128 * j.val] : Fin 2 → ℕ) a + S512x128.size a ≤ S512x256.size a := by decide
theorem inbQo : ∀ (n : Fin 2) (j : Fin 8) (a : Fin 3), (![n.val, 128 * j.val, 0] : Fin 3 → ℕ) a + S1x128x256.size a ≤ S2x1024x256.size a := by decide
theorem inbVo : ∀ (j : Fin 2) (a : Fin 4), (![j.val, 0, 0, 0] : Fin 4 → ℕ) a + S1x1x128x512.size a ≤ S2x1x128x512.size a := by decide

variable (c : Dev nD) (i : grid0.Coords)
    (arg1 : Memref sig .tc .vmem S512x1024 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x1024x256 .bf16) (harg8 : arg8.IsWhole) (arg9 : Memref sig .tc .vmem S512x256 .bf16) (harg9 : arg9.IsWhole) (arg10 : Memref sig .tc .vmem S2x1x128x512 .bf16) (harg10 : arg10.IsWhole)
    (x0 : Vec F S512x1024 .bf16) (x1 : Vec F S512x256 .bf16) (x2 : Vec F S512x256 .bf16) (x3 : Vec F S512x128 .f32) (x4 : Vec F S512x128 .f32) (x5 : Vec F S1x128 .f32) (x6 : Vec F S1x128 .f32)

/-- The tile's cosines and signed sines, and the two gains. -/
def cosT : FVec F S512x128 .f32 := k0_pay3 (View.readAt (Elt F) arg4.view (Rect.unit (s := S512x128) ![0, 0] S512x128.size inb_S512x128_S512x128_0_0).toLoadRect (harg4.unread x3))
def sinT : FVec F S512x128 .f32 := k0_pay4 (View.readAt (Elt F) arg5.view (Rect.unit (s := S512x128) ![0, 0] S512x128.size inb_S512x128_S512x128_0_0).toLoadRect (harg5.unread x4))
def gq : Vec F S1x128 .f32 := View.readAt (Elt F) arg6.view (Rect.unit (s := S1x128) ![0, 0] S1x128.size inb_S1x128_S1x128_0_0).toLoadRect (harg6.unread x5)
def gk : Vec F S1x128 .f32 := View.readAt (Elt F) arg7.view (Rect.unit (s := S1x128) ![0, 0] S1x128.size inb_S1x128_S1x128_0_0).toLoadRect (harg7.unread x6)

/-- The columns of a query head, of a key head, of a value head. -/
def qCols (j : Fin 8) : Vec F S512x128 .bf16 := View.readAt (Elt F) arg1.view (Rect.unit (s := S512x1024) ![0, 128 * j.val] S512x128.size (inbQ j)).toLoadRect (harg1.unread x0)
def kCols (j : Fin 2) : Vec F S512x128 .bf16 := View.readAt (Elt F) arg2.view (Rect.unit (s := S512x256) ![0, 128 * j.val] S512x128.size (inbK j)).toLoadRect (harg2.unread x1)
def vCols (j : Fin 2) : Vec F S512x128 .bf16 := View.readAt (Elt F) arg3.view (Rect.unit (s := S512x256) ![0, 128 * j.val] S512x128.size (inbK j)).toLoadRect (harg3.unread x2)

/-- A query head after norm and rotary. -/
def qHead (j : Fin 8) : FVec F S512x128 .f32 := k0_pay40 (cosT arg4 harg4 x3) (sinT arg5 harg5 x4) (qCols arg1 harg1 x0 j) (gq arg6 harg6 x5)

/-- The two stores of a query head: the tile's first 256 tokens and its last 256. -/
def qPiece0 (j : Fin 8) : View.Piece (Elt F) S2x1024x256 .bf16 :=
  ⟨Rect.unit (s := S2x1024x256) ![(0 : Fin 2).val, 128 * j.val, 0] S1x128x256.size (inbQo 0 j), k0_pay42 (qHead arg1 harg1 arg4 harg4 arg5 harg5 arg6 harg6 x0 x3 x4 x5 j)⟩
def qPiece1 (j : Fin 8) : View.Piece (Elt F) S2x1024x256 .bf16 :=
  ⟨Rect.unit (s := S2x1024x256) ![(1 : Fin 2).val, 128 * j.val, 0] S1x128x256.size (inbQo 1 j), k0_pay43 (qHead arg1 harg1 arg4 harg4 arg5 harg5 arg6 harg6 x0 x3 x4 x5 j)⟩
/-- The store of a key head. -/
def kPiece (j : Fin 2) : View.Piece (Elt F) S512x256 .bf16 :=
  ⟨Rect.unit (s := S512x256) ![0, 128 * j.val] S512x128.size (inbK j), k0_pay1 (k0_pay56 (cosT arg4 harg4 x3) (sinT arg5 harg5 x4) (kCols arg2 harg2 x1 j) (gk arg7 harg7 x6))⟩
/-- The store of a value head. -/
def vPiece (j : Fin 2) : View.Piece (Elt F) S2x1x128x512 .bf16 :=
  ⟨Rect.unit (s := S2x1x128x512) ![j.val, 0, 0, 0] S1x1x128x512.size (inbVo j), k0_pay2 (vCols arg3 harg3 x2 j)⟩

set_option maxHeartbeats 4000000 in
theorem run_q : (kernelRun0_A c i arg1 harg1 arg2 harg2 arg3 harg3 arg4 harg4 arg5 harg5 arg6 harg6 arg7 harg7 arg8 harg8 arg9 harg9 arg10 harg10 x0 x1 x2 x3 x4 x5 x6).1
    = [qPiece1 arg1 harg1 arg4 harg4 arg5 harg5 arg6 harg6 x0 x3 x4 x5 7, qPiece0 arg1 harg1 arg4 harg4 arg5 harg5 arg6 harg6 x0 x3 x4 x5 7, qPiece1 arg1 harg1 arg4 harg4 arg5 harg5 arg6 harg6 x0 x3 x4 x5 6, qPiece0 arg1 harg1 arg4 harg4 arg5 harg5 arg6 harg6 x0 x3 x4 x5 6, qPiece1 arg1 harg1 arg4 harg4 arg5 harg5 arg6 harg6 x0 x3 x4 x5 5, qPiece0 arg1 harg1 arg4 harg4 arg5 harg5 arg6 harg6 x0 x3 x4 x5 5, qPiece1 arg1 harg1 arg4 harg4 arg5 harg5 arg6 harg6 x0 x3 x4 x5 4, qPiece0 arg1 harg1 arg4 harg4 arg5 harg5 arg6 harg6 x0 x3 x4 x5 4, qPiece1 arg1 harg1 arg4 harg4 arg5 harg5 arg6 harg6 x0 x3 x4 x5 3, qPiece0 arg1 harg1 arg4 harg4 arg5 harg5 arg6 harg6 x0 x3 x4 x5 3, qPiece1 arg1 harg1 arg4 harg4 arg5 harg5 arg6 harg6 x0 x3 x4 x5 2, qPiece0 arg1 harg1 arg4 harg4 arg5 harg5 arg6 harg6 x0 x3 x4 x5 2, qPiece1 arg1 harg1 arg4 harg4 arg5 harg5 arg6 harg6 x0 x3 x4 x5 1, qPiece0 arg1 harg1 arg4 harg4 arg5 harg5 arg6 harg6 x0 x3 x4 x5 1, qPiece1 arg1 harg1 arg4 harg4 arg5 harg5 arg6 harg6 x0 x3 x4 x5 0, qPiece0 arg1 harg1 arg4 harg4 arg5 harg5 arg6 harg6 x0 x3 x4 x5 0] := by
  unfold kernelRun0_A; rfl

set_option maxHeartbeats 4000000 in
theorem run_k : (kernelRun0_A c i arg1 harg1 arg2 harg2 arg3 harg3 arg4 harg4 arg5 harg5 arg6 harg6 arg7 harg7 arg8 harg8 arg9 harg9 arg10 harg10 x0 x1 x2 x3 x4 x5 x6).2.1
    = [kPiece arg2 harg2 arg4 harg4 arg5 harg5 arg7 harg7 x1 x3 x4 x6 1, kPiece arg2 harg2 arg4 harg4 arg5 harg5 arg7 harg7 x1 x3 x4 x6 0] := by
  unfold kernelRun0_A; rfl

set_option maxHeartbeats 4000000 in
theorem run_v : (kernelRun0_A c i arg1 harg1 arg2 harg2 arg3 harg3 arg4 harg4 arg5 harg5 arg6 harg6 arg7 harg7 arg8 harg8 arg9 harg9 arg10 harg10 x0 x1 x2 x3 x4 x5 x6).2.2.1
    = [vPiece arg3 harg3 x2 1, vPiece arg3 harg3 x2 0] := by
  unfold kernelRun0_A; rfl

end Cert.Proof.Prep

end
-- ==== Proof.Prep.Maths.lean ====
/-
  One head of one token, in mathematics, and the kernel's operations on a block read at an index as it.

  A head's 128 features are normalized and scaled (`normed`), then turned by the token's two angles (`rope`): the first 64
  features by its row's, the last 64 by its column's. Within a half, feature `i` of the first 32 and feature `i` of the last
  32 are a pair, turned by the `i`-th frequency.
-/
module

public import proofs.«01_k».proof.Proof.Prep.Body
public import proofs.«01_k».proof.Proof.Post.Maths

@[expose] public section

set_option maxRecDepth 16384

noncomputable section

open Idealize.ShloMosaic Idealize.ShloMosaic.TcCoe Idealize.SL.Sem

namespace Cert.Proof.Prep

open Cert.Kernel5Ideal Cert.Kernel5Ideal.Gen

/-! ## One head, in mathematics -/

/-- A head's normalized features times the gain. -/
def normed (y g : Fin 128 → EReal) (d : Fin 128) : EReal := Post.rms (Ideal.ofBits FTy.f32 1124073472#32) y d * g d

/-- The `i`-th frequency: 10000 to the power of minus `i / 32`, as the programs compute it. -/
def freq (i : Fin 32) : EReal :=
  Ideal.pow (Ideal.ofBits FTy.f32 1176256512#32)
    (Ideal.div (-(Ideal.ofBits FTy.f32 1073741824#32 * FloatOps.sitofp (F := Ideal) FTy.f32 (BitVec.ofNat 32 i.val))) (Ideal.ofBits FTy.f32 1115684864#32))

/-- A feature's angle: its half's coordinate times its frequency. -/
def angle (r c : EReal) (d : Fin 128) : EReal := (if d.val < 64 then r else c) * freq ⟨d.val % 32, by omega⟩

/-- The features turned pair by pair. -/
def rope (y : Fin 128 → EReal) (r c : EReal) (d : Fin 128) : EReal :=
  if h : d.val % 64 < 32 then y d * Ideal.cos (angle r c d) - y ⟨d.val + 32, by omega⟩ * Ideal.sin (angle r c d)
  else y ⟨d.val - 32, by omega⟩ * Ideal.sin (angle r c d) + y d * Ideal.cos (angle r c d)

/-- The sine with the sign the kernel's table gives it. -/
def signed (r c : EReal) (d : Fin 128) : EReal := if d.val % 64 < 32 then -Ideal.sin (angle r c d) else Ideal.sin (angle r c d)

/-- The kernel's form: each feature times the cosine, plus its partner, fetched by rotating the lanes, times the signed sine. -/
theorem rope_eq (y : Fin 128 → EReal) (r c : EReal) (d : Fin 128) :
    y d * Ideal.cos (angle r c d)
      + (if d.val % 64 < 32 then y ⟨(d.val + 128 - 96) % 128, Nat.mod_lt _ (by omega)⟩ else y ⟨(d.val + 128 - 32) % 128, Nat.mod_lt _ (by omega)⟩) * signed r c d
      = rope y r c d := by
  have hd := d.isLt
  unfold rope signed
  by_cases h : d.val % 64 < 32
  · rw [if_pos h, if_pos h, dif_pos h, mul_neg, sub_eq_add_neg]
    have e : (⟨(d.val + 128 - 96) % 128, Nat.mod_lt _ (by omega)⟩ : Fin 128) = ⟨d.val + 32, by omega⟩ := Fin.ext (by show (d.val + 128 - 96) % 128 = d.val + 32; omega)
    rw [e]
  · rw [if_neg h, if_neg h, dif_neg h, add_comm]
    have e : (⟨(d.val + 128 - 32) % 128, Nat.mod_lt _ (by omega)⟩ : Fin 128) = ⟨d.val - 32, by omega⟩ := Fin.ext (by show (d.val + 128 - 32) % 128 = d.val - 32; omega)
    rw [e]

/-! ## The kernel's operations on a block -/

/-- The kernel's test of a lane: whether it lies in the first half of its 64. -/
theorem lane_select (d : Fin 128) (a b : EReal) :
    Scalar.select
          (IntOp.cmpi CmpIPredicate.slt
            (Scalar.select
              (IntOp.andi
                (IntOp.xori
                  (IntOp.cmpi CmpIPredicate.slt
                    (IntOp.remsi ArithUnit.vector (BitVec.ofNat 32 d.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 d.val)
                    (Scalar.select (Scalar.cmpi CmpIPredicate.eq 64#32 0#32) 1#32 64#32))
                  0#32))
              (IntOp.addi
                (IntOp.remsi ArithUnit.vector (BitVec.ofNat 32 d.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 d.val)
                (Scalar.select (Scalar.cmpi CmpIPredicate.eq 64#32 0#32) 1#32 64#32)))
            32#32) a b = if d.val % 64 < 32 then a else b := by
  have e : ∀ d : Fin 128,
          (IntOp.cmpi CmpIPredicate.slt
            (Scalar.select
              (IntOp.andi
                (IntOp.xori
                  (IntOp.cmpi CmpIPredicate.slt
                    (IntOp.remsi ArithUnit.vector (BitVec.ofNat 32 d.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 d.val)
                    (Scalar.select (Scalar.cmpi CmpIPredicate.eq 64#32 0#32) 1#32 64#32))
                  0#32))
              (IntOp.addi
                (IntOp.remsi ArithUnit.vector (BitVec.ofNat 32 d.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 d.val)
                (Scalar.select (Scalar.cmpi CmpIPredicate.eq 64#32 0#32) 1#32 64#32)))
            32#32) = if d.val % 64 < 32 then 1#1 else 0#1 := by decide +kernel
  rw [e]
  by_cases h : d.val % 64 < 32
  · rw [if_pos h, if_pos h]; rfl
  · rw [if_neg h, if_neg h]; rfl

theorem pay40_apply (cs sn : FVec Ideal S512x128 .f32) (x : Vec Ideal S512x128 .bf16) (g : Vec Ideal S1x128 .f32) (r c : EReal) (s : Fin 512) (d : Fin 128)
    (hc : cs (ix2 s d) = Ideal.cos (angle r c d)) (hs : sn (ix2 s d) = signed r c d) :
    k0_pay40 cs sn x g (ix2 s d) = rope (normed (fun d => x (ix2 s d)) (fun d => g (ix2 0 d))) r c d := by
  pointwise [k0_pay40]
  rw [lane_select, hc, hs]
  exact rope_eq (normed (fun d => x (ix2 s d)) (fun d => g (ix2 0 d))) r c d

theorem pay56_apply (cs sn : FVec Ideal S512x128 .f32) (x : Vec Ideal S512x128 .bf16) (g : Vec Ideal S1x128 .f32) (r c : EReal) (s : Fin 512) (d : Fin 128)
    (hc : cs (ix2 s d) = Ideal.cos (angle r c d)) (hs : sn (ix2 s d) = signed r c d) :
    k0_pay1 (k0_pay56 cs sn x g) (ix2 s d) = rope (normed (fun d => x (ix2 s d)) (fun d => g (ix2 0 d))) r c d := by
  pointwise [k0_pay1, k0_pay56]
  rw [lane_select, hc, hs]
  exact rope_eq (normed (fun d => x (ix2 s d)) (fun d => g (ix2 0 d))) r c d

theorem pay42_apply (q : FVec Ideal S512x128 .f32) (d : Fin 128) (s : Fin 256) :
    k0_pay42 q (ix3 (0 : Fin 1) d s) = q (ix2 ⟨s.val, by omega⟩ d) := by
  pointwise [k0_pay42, k0_pay41]

theorem pay43_apply (q : FVec Ideal S512x128 .f32) (d : Fin 128) (s : Fin 256) :
    k0_pay43 q (ix3 (0 : Fin 1) d s) = q (ix2 ⟨256 + s.val, by omega⟩ d) := by
  pointwise [k0_pay43, k0_pay41]

theorem pay2_apply (v : Vec Ideal S512x128 .bf16) (d : Fin 128) (s : Fin 512) :
    k0_pay2 v (ix4 (0 : Fin 1) (0 : Fin 1) d s) = v (ix2 s d) := by
  pointwise [k0_pay2]

theorem pay3_apply (v : Vec Ideal S512x128 .f32) (s : Fin 512) (d : Fin 128) : k0_pay3 v (ix2 s d) = v (ix2 s d) := by
  pointwise [k0_pay3]

theorem pay4_apply (v : Vec Ideal S512x128 .f32) (s : Fin 512) (d : Fin 128) : k0_pay4 v (ix2 s d) = v (ix2 s d) := by
  pointwise [k0_pay4]

end Cert.Proof.Prep

end
-- ==== Proof.Prep.Blocks.lean ====
/-
  What one grid point of the attention's preparation leaves in its three blocks, read at an index, in terms of the arrays the
  call was given. The grid is 64 tiles of 512 tokens, 16 to a sequence.
-/
module

public import proofs.«01_k».proof.Proof.Prep.Maths

@[expose] public section

set_option maxRecDepth 16384

noncomputable section

open Idealize.ShloMosaic Idealize.ShloMosaic.TcCoe Idealize.SL.Sem

namespace Cert.Proof.Prep

open Cert.Kernel5Ideal Cert.Kernel5Ideal.Gen

/-! ## The body's blocks -/

/-- A block of query heads, from its values by head, row of the tile and feature: two halves of 256 rows, each stored by
    column first. -/
def qLaid (f : Fin 8 → Fin 512 → Fin 128 → EReal) (n : Fin 2) (l : Fin 1024) (s : Fin 256) : EReal :=
  f ⟨l.val / 128, by omega⟩ ⟨n.val * 256 + s.val, by omega⟩ ⟨l.val % 128, by omega⟩

/-- A block of key heads: rows of the tile, the heads' features side by side. -/
def kLaid (f : Fin 2 → Fin 512 → Fin 128 → EReal) (s : Fin 512) (l : Fin 256) : EReal :=
  f ⟨l.val / 128, by omega⟩ s ⟨l.val % 128, by omega⟩

section

variable (c : Dev nD) (i : grid0.Coords)
    (arg1 : Memref sig .tc .vmem S512x1024 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x1024x256 .bf16) (harg8 : arg8.IsWhole) (arg9 : Memref sig .tc .vmem S512x256 .bf16) (harg9 : arg9.IsWhole) (arg10 : Memref sig .tc .vmem S2x1x128x512 .bf16) (harg10 : arg10.IsWhole)
    (x0 : Vec Ideal S512x1024 .bf16) (x1 : Vec Ideal S512x256 .bf16) (x2 : Vec Ideal S512x256 .bf16) (x3 : Vec Ideal S512x128 .f32) (x4 : Vec Ideal S512x128 .f32) (x5 : Vec Ideal S1x128 .f32) (x6 : Vec Ideal S1x128 .f32)
    (ro co : Fin 512 → EReal)

/-- A query head's values, from the tile's columns, the gain and the tokens' coordinates. -/
def qVal (j : Fin 8) (s : Fin 512) (d : Fin 128) : EReal :=
  rope (normed (fun d => x0 (ix2 s ⟨j.val * 128 + d.val, by omega⟩)) (fun d => x5 (ix2 0 d))) (ro s) (co s) d

/-- A key head's values. -/
def kVal (j : Fin 2) (s : Fin 512) (d : Fin 128) : EReal :=
  rope (normed (fun d => x1 (ix2 s ⟨j.val * 128 + d.val, by omega⟩)) (fun d => x6 (ix2 0 d))) (ro s) (co s) d

theorem cosT_apply (s : Fin 512) (d : Fin 128) : cosT arg4 harg4 x3 (ix2 s d) = x3 (ix2 s d) := by
  unfold cosT
  rw [View.readAt_full, harg4.read_unread, pay3_apply]

theorem sinT_apply (s : Fin 512) (d : Fin 128) : sinT arg5 harg5 x4 (ix2 s d) = x4 (ix2 s d) := by
  unfold sinT
  rw [View.readAt_full, harg5.read_unread, pay4_apply]

theorem gq_eq : gq arg6 harg6 x5 = x5 := by
  unfold gq
  rw [View.readAt_full, harg6.read_unread]

theorem gk_eq : gk arg7 harg7 x6 = x6 := by
  unfold gk
  rw [View.readAt_full, harg7.read_unread]

theorem qCols_apply (j : Fin 8) (s : Fin 512) (d : Fin 128) : qCols arg1 harg1 x0 j (ix2 s d) = x0 (ix2 s ⟨j.val * 128 + d.val, by omega⟩) := by
  unfold qCols
  rw [View.readAt_apply, harg1.read_unread]
  congr 1; funext a; apply Fin.ext
  match a with
  | ⟨0, _⟩ => show 0 + 1 * s.val = s.val; omega
  | ⟨1, _⟩ => show 128 * j.val + 1 * d.val = j.val * 128 + d.val; omega

theorem kCols_apply (j : Fin 2) (s : Fin 512) (d : Fin 128) : kCols arg2 harg2 x1 j (ix2 s d) = x1 (ix2 s ⟨j.val * 128 + d.val, by omega⟩) := by
  unfold kCols
  rw [View.readAt_apply, harg2.read_unread]
  congr 1; funext a; apply Fin.ext
  match a with
  | ⟨0, _⟩ => show 0 + 1 * s.val = s.val; omega
  | ⟨1, _⟩ => show 128 * j.val + 1 * d.val = j.val * 128 + d.val; omega

theorem vCols_apply (j : Fin 2) (s : Fin 512) (d : Fin 128) : vCols arg3 harg3 x2 j (ix2 s d) = x2 (ix2 s ⟨j.val * 128 + d.val, by omega⟩) := by
  unfold vCols
  rw [View.readAt_apply, harg3.read_unread]
  congr 1; funext a; apply Fin.ext
  match a with
  | ⟨0, _⟩ => show 0 + 1 * s.val = s.val; omega
  | ⟨1, _⟩ => show 128 * j.val + 1 * d.val = j.val * 128 + d.val; omega

variable (hc : ∀ s d, x3 (ix2 s d) = Ideal.cos (angle (ro s) (co s) d)) (hs : ∀ s d, x4 (ix2 s d) = signed (ro s) (co s) d)

include hc hs in
theorem qHead_apply (j : Fin 8) (s : Fin 512) (d : Fin 128) :
    qHead arg1 harg1 arg4 harg4 arg5 harg5 arg6 harg6 x0 x3 x4 x5 j (ix2 s d) = qVal x0 x5 ro co j s d := by
  unfold qHead
  rw [pay40_apply _ _ _ _ (ro s) (co s) s d ((cosT_apply ..).trans (hc s d)) ((sinT_apply ..).trans (hs s d)), gq_eq]
  exact congrArg (fun y => rope (normed y fun d => x5 (ix2 0 d)) (ro s) (co s) d) (funext fun d => qCols_apply arg1 harg1 x0 j s d)

include hc hs in
theorem qPiece0_apply (j : Fin 8) (x : S1x128x256.Idx) :
    (qPiece0 arg1 harg1 arg4 harg4 arg5 harg5 arg6 harg6 x0 x3 x4 x5 j).2 x
      = (fun y : S2x1024x256.Idx => qLaid (qVal x0 x5 ro co) (y 0) (y 1) (y 2)) ((qPiece0 arg1 harg1 arg4 harg4 arg5 harg5 arg6 harg6 x0 x3 x4 x5 j).1.emb x) := by
  obtain ⟨z, d, s, rfl⟩ : ∃ (z : Fin 1) (d : Fin 128) (s : Fin 256), x = ix3 z d s := ⟨x 0, x 1, x 2, eq_ix3 x⟩
  obtain rfl : z = 0 := Fin.ext (by omega)
  have hd := d.isLt
  refine (pay42_apply _ d s).trans ((qHead_apply arg1 harg1 arg4 harg4 arg5 harg5 arg6 harg6 x0 x3 x4 x5 ro co hc hs j _ d).trans ?_)
  show _ = qVal x0 x5 ro co ⟨(128 * j.val + 1 * d.val) / 128, _⟩ ⟨(0 + 1 * 0) * 256 + (0 + 1 * s.val), _⟩ ⟨(128 * j.val + 1 * d.val) % 128, _⟩
  congr 1
  · exact Fin.ext (by show j.val = (128 * j.val + 1 * d.val) / 128; omega)
  · exact Fin.ext (by show s.val = (0 + 1 * 0) * 256 + (0 + 1 * s.val); omega)
  · exact Fin.ext (by show d.val = (128 * j.val + 1 * d.val) % 128; omega)

include hc hs in
theorem qPiece1_apply (j : Fin 8) (x : S1x128x256.Idx) :
    (qPiece1 arg1 harg1 arg4 harg4 arg5 harg5 arg6 harg6 x0 x3 x4 x5 j).2 x
      = (fun y : S2x1024x256.Idx => qLaid (qVal x0 x5 ro co) (y 0) (y 1) (y 2)) ((qPiece1 arg1 harg1 arg4 harg4 arg5 harg5 arg6 harg6 x0 x3 x4 x5 j).1.emb x) := by
  obtain ⟨z, d, s, rfl⟩ : ∃ (z : Fin 1) (d : Fin 128) (s : Fin 256), x = ix3 z d s := ⟨x 0, x 1, x 2, eq_ix3 x⟩
  obtain rfl : z = 0 := Fin.ext (by omega)
  have hd := d.isLt
  refine (pay43_apply _ d s).trans ((qHead_apply arg1 harg1 arg4 harg4 arg5 harg5 arg6 harg6 x0 x3 x4 x5 ro co hc hs j _ d).trans ?_)
  show _ = qVal x0 x5 ro co ⟨(128 * j.val + 1 * d.val) / 128, _⟩ ⟨(1 + 1 * 0) * 256 + (0 + 1 * s.val), _⟩ ⟨(128 * j.val + 1 * d.val) % 128, _⟩
  congr 1
  · exact Fin.ext (by show j.val = (128 * j.val + 1 * d.val) / 128; omega)
  · exact Fin.ext (by show 256 + s.val = (1 + 1 * 0) * 256 + (0 + 1 * s.val); omega)
  · exact Fin.ext (by show d.val = (128 * j.val + 1 * d.val) % 128; omega)

include hc hs in
theorem kPiece_apply (j : Fin 2) (x : S512x128.Idx) :
    (kPiece arg2 harg2 arg4 harg4 arg5 harg5 arg7 harg7 x1 x3 x4 x6 j).2 x
      = (fun y : S512x256.Idx => kLaid (kVal x1 x6 ro co) (y 0) (y 1)) ((kPiece arg2 harg2 arg4 harg4 arg5 harg5 arg7 harg7 x1 x3 x4 x6 j).1.emb x) := by
  obtain ⟨s, d, rfl⟩ : ∃ (s : Fin 512) (d : Fin 128), x = ix2 s d := ⟨x 0, x 1, eq_ix2 x⟩
  have hd := d.isLt
  have e : (kPiece arg2 harg2 arg4 harg4 arg5 harg5 arg7 harg7 x1 x3 x4 x6 j).2 (ix2 s d) = kVal x1 x6 ro co j s d := by
    refine (pay56_apply _ _ _ _ (ro s) (co s) s d ((cosT_apply ..).trans (hc s d)) ((sinT_apply ..).trans (hs s d))).trans ?_
    rw [gk_eq]
    exact congrArg (fun y => rope (normed y fun d => x6 (ix2 0 d)) (ro s) (co s) d) (funext fun d => kCols_apply arg2 harg2 x1 j s d)
  refine e.trans ?_
  show _ = kVal x1 x6 ro co ⟨(128 * j.val + 1 * d.val) / 128, _⟩ ⟨0 + 1 * s.val, _⟩ ⟨(128 * j.val + 1 * d.val) % 128, _⟩
  congr 1
  · exact Fin.ext (by show j.val = (128 * j.val + 1 * d.val) / 128; omega)
  · exact Fin.ext (by show s.val = 0 + 1 * s.val; omega)
  · exact Fin.ext (by show d.val = (128 * j.val + 1 * d.val) % 128; omega)

theorem vPiece_apply (j : Fin 2) (x : S1x1x128x512.Idx) :
    (vPiece arg3 harg3 x2 j).2 x
      = (fun y : S2x1x128x512.Idx => x2 (ix2 (y 3) ⟨(y 0).val * 128 + (y 2).val, by have : (y 0).val < 2 := (y 0).isLt; have : (y 2).val < 128 := (y 2).isLt; omega⟩)) ((vPiece arg3 harg3 x2 j).1.emb x) := by
  obtain ⟨z, z', d, s, rfl⟩ : ∃ (z z' : Fin 1) (d : Fin 128) (s : Fin 512), x = ix4 z z' d s := ⟨x 0, x 1, x 2, x 3, eq_ix4 x⟩
  obtain rfl : z = 0 := Fin.ext (by omega)
  obtain rfl : z' = 0 := Fin.ext (by omega)
  refine (pay2_apply _ d s).trans ((vCols_apply arg3 harg3 x2 j s d).trans ?_)
  show _ = x2 (ix2 (⟨0 + 1 * s.val, _⟩ : Fin 512) ⟨(j.val + 1 * 0) * 128 + (0 + 1 * d.val), _⟩)
  apply congrArg
  apply congrArg₂
  · exact Fin.ext (by show s.val = 0 + 1 * s.val; omega)
  · exact Fin.ext (by show j.val * 128 + d.val = (j.val + 1 * 0) * 128 + (0 + 1 * d.val); omega)

set_option maxHeartbeats 1000000 in
include hc hs in
/-- What the body leaves in the queries' buffer. -/
theorem out_q (y : S2x1024x256.Idx) :
    out0_A_7 c i arg1 harg1 arg2 harg2 arg3 harg3 arg4 harg4 arg5 harg5 arg6 harg6 arg7 harg7 arg8 harg8 arg9 harg9 arg10 harg10 x0 x1 x2 x3 x4 x5 x6 y
      = qLaid (qVal x0 x5 ro co) (y 0) (y 1) (y 2) := by
  unfold out0_A_7
  refine View.read_writes_apply_of_pieces _ _ (fun y : S2x1024x256.Idx => qLaid (qVal x0 x5 ro co) (y 0) (y 1) (y 2)) _ ?_ y (cover0_A_7 c i arg1 harg1 arg2 harg2 arg3 harg3 arg4 harg4 arg5 harg5 arg6 harg6 arg7 harg7 arg8 harg8 arg9 harg9 arg10 harg10 x0 x1 x2 x3 x4 x5 x6 y)
  rw [run_q]
  have h0 := qPiece0_apply arg1 harg1 arg4 harg4 arg5 harg5 arg6 harg6 x0 x3 x4 x5 ro co hc hs
  have h1 := qPiece1_apply arg1 harg1 arg4 harg4 arg5 harg5 arg6 harg6 x0 x3 x4 x5 ro co hc hs
  exact List.forall_mem_cons.2 ⟨h1 7, List.forall_mem_cons.2 ⟨h0 7, List.forall_mem_cons.2 ⟨h1 6, List.forall_mem_cons.2 ⟨h0 6, List.forall_mem_cons.2 ⟨h1 5, List.forall_mem_cons.2 ⟨h0 5, List.forall_mem_cons.2 ⟨h1 4, List.forall_mem_cons.2 ⟨h0 4, List.forall_mem_cons.2 ⟨h1 3, List.forall_mem_cons.2 ⟨h0 3, List.forall_mem_cons.2 ⟨h1 2, List.forall_mem_cons.2 ⟨h0 2, List.forall_mem_cons.2 ⟨h1 1, List.forall_mem_cons.2 ⟨h0 1, List.forall_mem_cons.2 ⟨h1 0, List.forall_mem_cons.2 ⟨h0 0, fun _ h => absurd h List.not_mem_nil⟩⟩⟩⟩⟩⟩⟩⟩⟩⟩⟩⟩⟩⟩⟩⟩

include hc hs in
/-- What the body leaves in the keys' buffer. -/
theorem out_k (y : S512x256.Idx) :
    out0_A_8 c i arg1 harg1 arg2 harg2 arg3 harg3 arg4 harg4 arg5 harg5 arg6 harg6 arg7 harg7 arg8 harg8 arg9 harg9 arg10 harg10 x0 x1 x2 x3 x4 x5 x6 y
      = kLaid (kVal x1 x6 ro co) (y 0) (y 1) := by
  unfold out0_A_8
  refine View.read_writes_apply_of_pieces _ _ (fun y : S512x256.Idx => kLaid (kVal x1 x6 ro co) (y 0) (y 1)) _ ?_ y (cover0_A_8 c i arg1 harg1 arg2 harg2 arg3 harg3 arg4 harg4 arg5 harg5 arg6 harg6 arg7 harg7 arg8 harg8 arg9 harg9 arg10 harg10 x0 x1 x2 x3 x4 x5 x6 y)
  rw [run_k]
  intro p hp
  simp only [List.mem_cons, List.not_mem_nil, or_false] at hp
  rcases hp with rfl | rfl
  all_goals exact kPiece_apply arg2 harg2 arg4 harg4 arg5 harg5 arg7 harg7 x1 x3 x4 x6 ro co hc hs _

/-- What the body leaves in the values' buffer. -/
theorem out_v (y : S2x1x128x512.Idx) :
    out0_A_9 c i arg1 harg1 arg2 harg2 arg3 harg3 arg4 harg4 arg5 harg5 arg6 harg6 arg7 harg7 arg8 harg8 arg9 harg9 arg10 harg10 x0 x1 x2 x3 x4 x5 x6 y
      = x2 (ix2 (y 3) ⟨(y 0).val * 128 + (y 2).val, by have : (y 0).val < 2 := (y 0).isLt; have : (y 2).val < 128 := (y 2).isLt; omega⟩) := by
  unfold out0_A_9
  refine View.read_writes_apply_of_pieces _ _ (fun y : S2x1x128x512.Idx => x2 (ix2 (y 3) ⟨(y 0).val * 128 + (y 2).val, by have : (y 0).val < 2 := (y 0).isLt; have : (y 2).val < 128 := (y 2).isLt; omega⟩)) _ ?_ y (cover0_A_9 c i arg1 harg1 arg2 harg2 arg3 harg3 arg4 harg4 arg5 harg5 arg6 harg6 arg7 harg7 arg8 harg8 arg9 harg9 arg10 harg10 x0 x1 x2 x3 x4 x5 x6 y)
  rw [run_v]
  intro p hp
  simp only [List.mem_cons, List.not_mem_nil, or_false] at hp
  rcases hp with rfl | rfl
  all_goals exact vPiece_apply arg3 harg3 x2 _

end

/-! ## The arrays the blocks come from -/

/-- A head's features at a token, normalized and turned by the token's coordinates in its sequence of 8192. -/
def turned (y : Fin 128 → EReal) (g : FVec Ideal S1x128 .f32) (ro co : FVec Ideal S8192 .f32) (R : Fin 32768) (d : Fin 128) : EReal :=
  rope (normed y (fun d => g (ix2 0 d))) (ro (ix1 ⟨R.val % 8192, by omega⟩)) (co (ix1 ⟨R.val % 8192, by omega⟩)) d

/-- The three results: the queries by tile of 256 tokens and column, the keys by token and column, the values by head, tile
    of 512 tokens and feature. -/
def qRes (p : FVec Ideal S32768x9728 .bf16) (g : FVec Ideal S1x128 .f32) (ro co : FVec Ideal S8192 .f32) (T : Fin 128) (l : Fin 1024) (s : Fin 256) : EReal :=
  turned (fun d => p (ix2 (⟨T.val * 256 + s.val, by omega⟩ : Fin 32768) ⟨6144 + (l.val / 128 * 128 + d.val), by omega⟩)) g ro co ⟨T.val * 256 + s.val, by omega⟩ ⟨l.val % 128, by omega⟩

def kRes (p : FVec Ideal S32768x9728 .bf16) (g : FVec Ideal S1x128 .f32) (ro co : FVec Ideal S8192 .f32) (R : Fin 32768) (l : Fin 256) : EReal :=
  turned (fun d => p (ix2 R ⟨9216 + (l.val / 128 * 128 + d.val), by omega⟩)) g ro co R ⟨l.val % 128, by omega⟩

def vRes (p : FVec Ideal S32768x9728 .bf16) (j : Fin 2) (T : Fin 64) (d : Fin 128) (s : Fin 512) : EReal :=
  p (ix2 (⟨T.val * 512 + s.val, by omega⟩ : Fin 32768) ⟨9472 + (j.val * 128 + d.val), by omega⟩)

variable (m : (ℓ : Loc nD τ sig) → Buf (Elt Ideal) ℓ) (c : Dev nD)

/-- The call's arguments, as arrays. -/
abbrev aP : FVec Ideal S32768x9728 .bf16 := m ((c : Thread nD τ).loc main_arg0)
abbrev aGq : FVec Ideal S1x128 .f32 := m ((c : Thread nD τ).loc main_arg1)
abbrev aGk : FVec Ideal S1x128 .f32 := m ((c : Thread nD τ).loc main_arg2)
abbrev aRo : FVec Ideal S8192 .f32 := m ((c : Thread nD τ).loc main_arg3)
abbrev aCo : FVec Ideal S8192 .f32 := m ((c : Thread nD τ).loc main_arg4)

/-- The frequencies and the angles as the call computes them. -/
def tFreq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

def tAngle (a : FVec Ideal S8192 .f32) : FVec Ideal S8192x32 .f32 :=
  mulf (broadcastInDim S8192x32 ![0, 1] bcast_S8192x1_S8192x32_0_1 (broadcastInDim S8192x1 ![0] bcast_S8192_S8192x1_0 a))
    (broadcastInDim S8192x32 ![0, 1] bcast_S1x32_S8192x32_0_1 (broadcastInDim S1x32 ![1] bcast_S32_S1x32_1 tFreq))

theorem tAngle_apply (a : FVec Ideal S8192 .f32) (s : Fin 8192) (i : Fin 32) : tAngle a (ix2 s i) = a (ix1 s) * freq i := by
  pointwise [tAngle, tFreq]
  rfl

theorem V_v22 : (V m c main_v22 : Vec Ideal S8192x128 .f32) = concatenate S8192x128 1 [⟨S8192x32, Host.cos (tAngle (aRo m c))⟩, ⟨S8192x32, Host.cos (tAngle (aRo m c))⟩, ⟨S8192x32, Host.cos (tAngle (aCo m c))⟩, ⟨S8192x32, Host.cos (tAngle (aCo m c))⟩] concatenates_S8192x32_S8192x32_S8192x32_S8192x32_S8192x128_d1 := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem V_v29 : (V m c main_v29 : Vec Ideal S8192x128 .f32) = concatenate S8192x128 1 [⟨S8192x32, Host.negf (Host.sin (tAngle (aRo m c)))⟩, ⟨S8192x32, Host.sin (tAngle (aRo m c))⟩, ⟨S8192x32, Host.negf (Host.sin (tAngle (aCo m c)))⟩, ⟨S8192x32, Host.sin (tAngle (aCo m c))⟩] concatenates_S8192x32_S8192x32_S8192x32_S8192x32_S8192x128_d1 := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem V_v31 : (V m c main_v31 : Vec Ideal S1x128 .f32) = broadcastInDim S1x128 ![1] bcast_S128_S1x128_1 (fun i => shapeCast S128 (aGq m c) shapeCasts_S1x128_S128 i) := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem V_v33 : (V m c main_v33 : Vec Ideal S1x128 .f32) = broadcastInDim S1x128 ![1] bcast_S128_S1x128_1 (fun i => shapeCast S128 (aGk m c) shapeCasts_S1x128_S128 i) := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem cosines_apply (s : Fin 8192) (d : Fin 128) : (V m c main_v22 : Vec Ideal S8192x128 .f32) (ix2 s d) = Ideal.cos (angle (aRo m c (ix1 s)) (aCo m c (ix1 s)) d) := by
  rw [V_v22]
  pointwise
  have hd := d.isLt
  unfold angle
  by_cases h1 : d.val < 32
  · rw [dif_pos h1, tAngle_apply, if_pos (by omega : d.val < 64)]
    congr 3; exact Fin.ext (by show d.val = d.val % 32; omega)
  rw [dif_neg h1]
  by_cases h2 : d.val - 32 < 32
  · rw [dif_pos h2, tAngle_apply, if_pos (by omega : d.val < 64)]
    congr 3; exact Fin.ext (by show d.val - 32 = d.val % 32; omega)
  rw [dif_neg h2]
  by_cases h3 : d.val - 32 - 32 < 32
  · rw [dif_pos h3, tAngle_apply, if_neg (by omega : ¬ d.val < 64)]
    congr 3; exact Fin.ext (by show d.val - 32 - 32 = d.val % 32; omega)
  · rw [dif_neg h3, tAngle_apply, if_neg (by omega : ¬ d.val < 64)]
    congr 3; exact Fin.ext (by show d.val - 32 - 32 - 32 = d.val % 32; omega)

theorem sines_apply (s : Fin 8192) (d : Fin 128) : (V m c main_v29 : Vec Ideal S8192x128 .f32) (ix2 s d) = signed (aRo m c (ix1 s)) (aCo m c (ix1 s)) d := by
  rw [V_v29]
  pointwise
  have hd := d.isLt
  unfold signed angle
  by_cases h1 : d.val < 32
  · rw [dif_pos h1, tAngle_apply, if_pos (by omega : d.val % 64 < 32), if_pos (by omega : d.val < 64)]
    congr 4; exact Fin.ext (by show d.val = d.val % 32; omega)
  rw [dif_neg h1]
  by_cases h2 : d.val - 32 < 32
  · rw [dif_pos h2, tAngle_apply, if_neg (by omega : ¬ d.val % 64 < 32), if_pos (by omega : d.val < 64)]
    congr 3; exact Fin.ext (by show d.val - 32 = d.val % 32; omega)
  rw [dif_neg h2]
  by_cases h3 : d.val - 32 - 32 < 32
  · rw [dif_pos h3, tAngle_apply, if_pos (by omega : d.val % 64 < 32), if_neg (by omega : ¬ d.val < 64)]
    congr 4; exact Fin.ext (by show d.val - 32 - 32 = d.val % 32; omega)
  · rw [dif_neg h3, tAngle_apply, if_neg (by omega : ¬ d.val % 64 < 32), if_neg (by omega : ¬ d.val < 64)]
    congr 3; exact Fin.ext (by show d.val - 32 - 32 - 32 = d.val % 32; omega)

/-! ## The blocks at a grid point -/

theorem N_eq : cfg0.N = 64 := by decide +kernel

/-- The printed index maps over the grid. -/
theorem idx_facts : ∀ t : Fin cfg0.N,
    (win0_0.index t (0 : Fin 2) = t.val ∧ win0_0.index t (1 : Fin 2) = 6)
    ∧ (win0_1.index t (0 : Fin 2) = t.val ∧ win0_1.index t (1 : Fin 2) = 36)
    ∧ (win0_2.index t (0 : Fin 2) = t.val ∧ win0_2.index t (1 : Fin 2) = 37)
    ∧ (win0_3.index t (0 : Fin 2) = t.val % 16 ∧ win0_3.index t (1 : Fin 2) = 0)
    ∧ (win0_4.index t (0 : Fin 2) = t.val % 16 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0)
    ∧ (win0_8.index t (0 : Fin 2) = t.val ∧ win0_8.index t (1 : Fin 2) = 0)
    ∧ (win0_9.index t (0 : Fin 4) = 0 ∧ win0_9.index t (1 : Fin 4) = t.val ∧ win0_9.index t (2 : Fin 4) = 0 ∧ win0_9.index t (3 : Fin 4) = 0) :=
  (by decide +kernel : ∀ t : Fin grid0.N, _)

/-- Row `s` of tile `t`, as a token. -/
def tok (t : Fin cfg0.N) (s : Fin 512) : Fin 32768 := ⟨t.val * 512 + s.val, by have := t.isLt; have := N_eq; omega⟩

/-- Its position in its sequence. -/
def pos (t : Fin cfg0.N) (s : Fin 512) : Fin 8192 := ⟨(tok t s).val % 8192, by omega⟩

theorem iblk0_apply (t : Fin cfg0.N) (s : Fin 512) (l : Fin 1024) :
    (X0_0 m c t : Vec Ideal S512x1024 .bf16) (ix2 s l) = aP m c (ix2 (tok t s) ⟨6144 + l.val, by omega⟩) := by
  obtain ⟨⟨e0, e1⟩, -⟩ := idx_facts t
  refine Eq.trans ?_ (congrFun (V_main_arg0 m c) (ix2 (tok t s) ⟨6144 + l.val, by omega⟩))
  · unfold X0_0 Pipeline.Window.fill
    rw [dif_pos (moved0_0 t _)]
    unfold iblk
    rw [View.read_apply]
    show V m c main_arg0 _ = V m c main_arg0 _
    congr 1; funext a; apply Fin.ext
    match a with
    | ⟨0, _⟩ => show win0_0.index t (0 : Fin 2) * 512 + 1 * s.val = t.val * 512 + s.val; rw [e0]; omega
    | ⟨1, _⟩ => show win0_0.index t (1 : Fin 2) * 1024 + 1 * l.val = 6144 + l.val; rw [e1]; omega

theorem iblk1_apply (t : Fin cfg0.N) (s : Fin 512) (l : Fin 256) :
    (iblk m c 1 t : Vec Ideal S512x256 .bf16) (ix2 s l) = aP m c (ix2 (tok t s) ⟨9216 + l.val, by omega⟩) := by
  obtain ⟨-, ⟨e0, e1⟩, -⟩ := idx_facts t
  refine Eq.trans ?_ (congrFun (V_main_arg0 m c) (ix2 (tok t s) ⟨9216 + l.val, by omega⟩))
  · unfold iblk
    rw [View.read_apply]
    show V m c main_arg0 _ = V m c main_arg0 _
    congr 1; funext a; apply Fin.ext
    match a with
    | ⟨0, _⟩ => show win0_1.index t (0 : Fin 2) * 512 + 1 * s.val = t.val * 512 + s.val; rw [e0]; omega
    | ⟨1, _⟩ => show win0_1.index t (1 : Fin 2) * 256 + 1 * l.val = 9216 + l.val; rw [e1]; omega

theorem iblk2_apply (t : Fin cfg0.N) (s : Fin 512) (l : Fin 256) :
    (iblk m c 2 t : Vec Ideal S512x256 .bf16) (ix2 s l) = aP m c (ix2 (tok t s) ⟨9472 + l.val, by omega⟩) := by
  obtain ⟨-, -, ⟨e0, e1⟩, -⟩ := idx_facts t
  refine Eq.trans ?_ (congrFun (V_main_arg0 m c) (ix2 (tok t s) ⟨9472 + l.val, by omega⟩))
  · unfold iblk
    rw [View.read_apply]
    show V m c main_arg0 _ = V m c main_arg0 _
    congr 1; funext a; apply Fin.ext
    match a with
    | ⟨0, _⟩ => show win0_2.index t (0 : Fin 2) * 512 + 1 * s.val = t.val * 512 + s.val; rw [e0]; omega
    | ⟨1, _⟩ => show win0_2.index t (1 : Fin 2) * 256 + 1 * l.val = 9472 + l.val; rw [e1]; omega

theorem iblk3_apply (t : Fin cfg0.N) (s : Fin 512) (d : Fin 128) :
    (iblk m c 3 t : Vec Ideal S512x128 .f32) (ix2 s d) = Ideal.cos (angle (aRo m c (ix1 (pos t s))) (aCo m c (ix1 (pos t s))) d) := by
  obtain ⟨-, -, -, ⟨e0, e1⟩, -⟩ := idx_facts t
  refine Eq.trans ?_ (cosines_apply m c (pos t s) d)
  · unfold iblk
    rw [View.read_apply]
    show V m c main_v22 _ = V m c main_v22 _
    congr 1; funext a; apply Fin.ext
    match a with
    | ⟨0, _⟩ => show win0_3.index t (0 : Fin 2) * 512 + 1 * s.val = (t.val * 512 + s.val) % 8192; rw [e0]; omega
    | ⟨1, _⟩ => show win0_3.index t (1 : Fin 2) * 128 + 1 * d.val = d.val; rw [e1]; omega

theorem iblk4_apply (t : Fin cfg0.N) (s : Fin 512) (d : Fin 128) :
    (iblk m c 4 t : Vec Ideal S512x128 .f32) (ix2 s d) = signed (aRo m c (ix1 (pos t s))) (aCo m c (ix1 (pos t s))) d := by
  obtain ⟨-, -, -, -, ⟨e0, e1⟩, -⟩ := idx_facts t
  refine Eq.trans ?_ (sines_apply m c (pos t s) d)
  · unfold iblk
    rw [View.read_apply]
    show V m c main_v29 _ = V m c main_v29 _
    congr 1; funext a; apply Fin.ext
    match a with
    | ⟨0, _⟩ => show win0_4.index t (0 : Fin 2) * 512 + 1 * s.val = (t.val * 512 + s.val) % 8192; rw [e0]; omega
    | ⟨1, _⟩ => show win0_4.index t (1 : Fin 2) * 128 + 1 * d.val = d.val; rw [e1]; omega

theorem iblk5_apply (t : Fin cfg0.N) (d : Fin 128) : (iblk m c 5 t : Vec Ideal S1x128 .f32) (ix2 0 d) = aGq m c (ix2 0 d) := by
  obtain ⟨-, -, -, -, -, ⟨e0, e1⟩, -⟩ := idx_facts t
  refine Eq.trans ?_ ((congrFun (V_v31 m c) (ix2 0 d)).trans ?_)
  · unfold iblk
    rw [View.read_apply]
    show V m c main_v31 _ = V m c main_v31 _
    congr 1; funext a; apply Fin.ext
    match a with
    | ⟨0, _⟩ => show win0_5.index t (0 : Fin 2) * 1 + 1 * 0 = 0; rw [e0]
    | ⟨1, _⟩ => show win0_5.index t (1 : Fin 2) * 128 + 1 * d.val = d.val; rw [e1]; omega
  · pointwise

theorem iblk6_apply (t : Fin cfg0.N) (d : Fin 128) : (iblk m c 6 t : Vec Ideal S1x128 .f32) (ix2 0 d) = aGk m c (ix2 0 d) := by
  obtain ⟨-, -, -, -, -, -, ⟨e0, e1⟩, -⟩ := idx_facts t
  refine Eq.trans ?_ ((congrFun (V_v33 m c) (ix2 0 d)).trans ?_)
  · unfold iblk
    rw [View.read_apply]
    show V m c main_v33 _ = V m c main_v33 _
    congr 1; funext a; apply Fin.ext
    match a with
    | ⟨0, _⟩ => show win0_6.index t (0 : Fin 2) * 1 + 1 * 0 = 0; rw [e0]
    | ⟨1, _⟩ => show win0_6.index t (1 : Fin 2) * 128 + 1 * d.val = d.val; rw [e1]; omega
  · pointwise

/-! ## The results at a grid point -/

theorem out7 (t : Fin cfg0.N) (n : Fin 2) (l : Fin 1024) (s : Fin 256) :
    (outsAt0 m c t).1 (ix3 n l s) = qRes (aP m c) (aGq m c) (aRo m c) (aCo m c) ⟨t.val * 2 + n.val, by have := t.isLt; have := N_eq; omega⟩ l s := by
  unfold outsAt0
  dsimp only
  refine (out_q c (grid0.coords t) _ _ _ _ _ _ _ _ _ _ _ _ _ _ _ _ _ _ _ _ _ _ _ _ _ _ _ (fun s => aRo m c (ix1 (pos t s))) (fun s => aCo m c (ix1 (pos t s)))
    (iblk3_apply m c t) (iblk4_apply m c t) (ix3 n l s)).trans ?_
  show rope (normed (fun d => (X0_0 m c t : Vec Ideal S512x1024 .bf16) (ix2 (⟨n.val * 256 + s.val, by omega⟩ : Fin 512) ⟨l.val / 128 * 128 + d.val, by omega⟩))
    (fun d => (iblk m c 5 t : Vec Ideal S1x128 .f32) (ix2 0 d))) (aRo m c (ix1 (pos t ⟨n.val * 256 + s.val, by omega⟩))) (aCo m c (ix1 (pos t ⟨n.val * 256 + s.val, by omega⟩))) ⟨l.val % 128, by omega⟩ = _
  simp only [iblk0_apply, iblk5_apply]
  have e : tok t ⟨n.val * 256 + s.val, by omega⟩ = (⟨(t.val * 2 + n.val) * 256 + s.val, by have := t.isLt; have := N_eq; omega⟩ : Fin 32768) :=
    Fin.ext (by show t.val * 512 + (n.val * 256 + s.val) = (t.val * 2 + n.val) * 256 + s.val; omega)
  unfold qRes turned pos
  simp only [e]

theorem out8 (t : Fin cfg0.N) (s : Fin 512) (l : Fin 256) :
    (outsAt0 m c t).2.1 (ix2 s l) = kRes (aP m c) (aGk m c) (aRo m c) (aCo m c) (tok t s) l := by
  unfold outsAt0
  dsimp only
  refine (out_k c (grid0.coords t) _ _ _ _ _ _ _ _ _ _ _ _ _ _ _ _ _ _ _ _ _ _ _ _ _ _ _ (fun s => aRo m c (ix1 (pos t s))) (fun s => aCo m c (ix1 (pos t s)))
    (iblk3_apply m c t) (iblk4_apply m c t) (ix2 s l)).trans ?_
  show rope (normed (fun d => (iblk m c 1 t : Vec Ideal S512x256 .bf16) (ix2 s ⟨l.val / 128 * 128 + d.val, by omega⟩))
    (fun d => (iblk m c 6 t : Vec Ideal S1x128 .f32) (ix2 0 d))) (aRo m c (ix1 (pos t s))) (aCo m c (ix1 (pos t s))) ⟨l.val % 128, by omega⟩ = _
  simp only [iblk1_apply, iblk6_apply]
  rfl

theorem out9 (t : Fin cfg0.N) (j : Fin 2) (d : Fin 128) (s : Fin 512) :
    (outsAt0 m c t).2.2 (ix4 j (0 : Fin 1) d s) = vRes (aP m c) j ⟨t.val, by have := t.isLt; have := N_eq; omega⟩ d s := by
  unfold outsAt0
  dsimp only
  refine (out_v c (grid0.coords t) _ _ _ _ _ _ _ _ _ _ _ _ _ _ _ _ _ _ _ _ _ _ _ _ _ _ _ (ix4 j (0 : Fin 1) d s)).trans ?_
  exact iblk2_apply m c t s ⟨j.val * 128 + d.val, by omega⟩

end Cert.Proof.Prep

end
-- ==== Proof.Prep.Value.lean ====
/-
  The three result arrays over the extended reals, and the reference's: the queries and keys normalized and turned, and the
  values, each in the layout the attention call takes.
-/
module

public import proofs.«01_k».proof.Proof.Prep.Blocks
public import proofs.«01_k».proof.Proof.Gen.Kernel5Ideal.Value
public import proofs.«01_k».proof.Proof.Gen.Reference5Ideal.Read

@[expose] public section

set_option maxRecDepth 16384

noncomputable section

namespace Cert.Proof.Prep

open Cert.Kernel5Ideal Cert.Kernel5Ideal.Gen

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The kernel's arrays -/

section

variable (m : (ℓ : Loc nD τ sig) → Buf (Elt Ideal) ℓ) (ρ : Dev nD → PrngReg)

/-- The three result arrays of a device. -/
def G7 (c : Dev nD) : Buf (Elt Ideal) ((c : Thread nD τ).loc main_v34_0) := fun i => qRes (aP m c) (aGq m c) (aRo m c) (aCo m c) (i 0) (i 1) (i 2)
def G8 (c : Dev nD) : Buf (Elt Ideal) ((c : Thread nD τ).loc main_v34_1) := fun i => kRes (aP m c) (aGk m c) (aRo m c) (aCo m c) (i 0) (i 1)
def G9 (c : Dev nD) : Buf (Elt Ideal) ((c : Thread nD τ).loc main_v34_2) := fun i => vRes (aP m c) (i 0) (i 1) (i 2) (i 3)

theorem flushed7 (c : Dev nD) (t : Fin cfg0.N) : (dats m 0 c).flushed 7 t = ((cfg0.win 7).blk t).view.read (Elt Ideal) (G7 m c) := by
  rw [Cert.Kernel5Ideal.Value.flushed7]
  obtain ⟨-, -, -, -, -, -, -, ⟨e0, e1, e2⟩, -⟩ := idx_facts t
  have ht : t.val < 64 := lt_of_lt_of_eq t.isLt N_eq
  funext y
  have hy0 : (y 0).val < 2 := (y 0).isLt
  have hy1 : (y 1).val < 1024 := (y 1).isLt
  have hy2 : (y 2).val < 256 := (y 2).isLt
  have hb0 : ((cfg0.win 7).blk t).view.emb y 0 = (⟨t.val * 2 + (y 0).val, by omega⟩ : Fin 128) := Fin.ext (by
    show win0_7.index t (0 : Fin 3) * 2 + 1 * (y 0).val = t.val * 2 + (y 0).val
    rw [e0]; omega)
  have hb1 : ((cfg0.win 7).blk t).view.emb y 1 = (⟨(y 1).val, hy1⟩ : Fin 1024) := Fin.ext (by
    show win0_7.index t (1 : Fin 3) * 1024 + 1 * (y 1).val = (y 1).val
    rw [e1]; omega)
  have hb2 : ((cfg0.win 7).blk t).view.emb y 2 = (⟨(y 2).val, hy2⟩ : Fin 256) := Fin.ext (by
    show win0_7.index t (2 : Fin 3) * 256 + 1 * (y 2).val = (y 2).val
    rw [e2]; omega)
  rw [View.read_apply]
  have hx : (cfg0.win 7).xinj (grid0.coords t) y = ix3 (⟨(y 0).val, hy0⟩ : Fin 2) (⟨(y 1).val, hy1⟩ : Fin 1024) (⟨(y 2).val, hy2⟩ : Fin 256) := by
    funext a
    match a with
    | ⟨0, _⟩ => rfl
    | ⟨1, _⟩ => rfl
    | ⟨2, _⟩ => rfl
  show (outsAt0 m c t).1 ((cfg0.win 7).xinj (grid0.coords t) y) = G7 m c (((cfg0.win 7).blk t).view.emb y)
  rw [hx]
  refine (out7 m c t ⟨(y 0).val, hy0⟩ ⟨(y 1).val, hy1⟩ ⟨(y 2).val, hy2⟩).trans ?_
  unfold G7
  rw [hb0, hb1, hb2]

theorem flushes7 : ∀ t : Fin cfg0.N, (cfg0.win 7).flush t = true := (by decide +kernel : ∀ t : Fin grid0.N, win0_7.flush t = true)

theorem mem_blk7 (t : Fin cfg0.N) (i : S128x1024x256.Idx) :
    i ∈ ((cfg0.win 7).blk t).view.set ↔ ∀ a : Fin 3, win0_7.index t a * S2x1024x256.size a ≤ (i a).val ∧ (i a).val < win0_7.index t a * S2x1024x256.size a + S2x1024x256.size a := by
  show i ∈ ((View.whole main_v34_0).slice (win0_7.rect t)).set ↔ _
  rw [View.set_slice_whole, Rect.mem_set_unit]
  exact Iff.rfl

theorem covered7 (i : S128x1024x256.Idx) : ∃ t : Fin cfg0.N, (cfg0.win 7).flush t = true ∧ i ∈ ((cfg0.win 7).blk t).view.set := by
  have h0 : (i 0).val < 128 := (i 0).isLt
  have h1 : (i 1).val < 1024 := (i 1).isLt
  have h2 : (i 2).val < 256 := (i 2).isLt
  have hp : (i 0).val / 2 < cfg0.N := lt_of_lt_of_eq (show _ < 64 by omega) N_eq.symm
  refine ⟨⟨_, hp⟩, flushes7 _, ?_⟩
  rw [mem_blk7]
  obtain ⟨-, -, -, -, -, -, -, ⟨e0, e1, e2⟩, -⟩ := idx_facts ⟨_, hp⟩
  dsimp only at e0 e1 e2
  intro a
  match a with
  | ⟨0, _⟩ => show win0_7.index _ (0 : Fin 3) * 2 ≤ (i 0).val ∧ (i 0).val < win0_7.index _ (0 : Fin 3) * 2 + 2; omega
  | ⟨1, _⟩ => show win0_7.index _ (1 : Fin 3) * 1024 ≤ (i 1).val ∧ (i 1).val < win0_7.index _ (1 : Fin 3) * 1024 + 1024; omega
  | ⟨2, _⟩ => show win0_7.index _ (2 : Fin 3) * 256 ≤ (i 2).val ∧ (i 2).val < win0_7.index _ (2 : Fin 3) * 256 + 256; omega

theorem final7 (c : Dev nD) : (dats m 0 c).arrAt 7 cfg0.N = G7 m c :=
  (dats m 0 c).arrAt_eq_of_cover 7 _ (fun t _ => flushed7 m c t) (fun i => covered7 i)

theorem flushed8 (c : Dev nD) (t : Fin cfg0.N) : (dats m 0 c).flushed 8 t = ((cfg0.win 8).blk t).view.read (Elt Ideal) (G8 m c) := by
  rw [Cert.Kernel5Ideal.Value.flushed8]
  obtain ⟨-, -, -, -, -, -, -, -, ⟨e0, e1⟩, -⟩ := idx_facts t
  have ht : t.val < 64 := lt_of_lt_of_eq t.isLt N_eq
  funext y
  have hy0 : (y 0).val < 512 := (y 0).isLt
  have hy1 : (y 1).val < 256 := (y 1).isLt
  have hb0 : ((cfg0.win 8).blk t).view.emb y 0 = tok t ⟨(y 0).val, hy0⟩ := Fin.ext (by
    show win0_8.index t (0 : Fin 2) * 512 + 1 * (y 0).val = t.val * 512 + (y 0).val
    rw [e0]; omega)
  have hb1 : ((cfg0.win 8).blk t).view.emb y 1 = (⟨(y 1).val, hy1⟩ : Fin 256) := Fin.ext (by
    show win0_8.index t (1 : Fin 2) * 256 + 1 * (y 1).val = (y 1).val
    rw [e1]; omega)
  rw [View.read_apply]
  have hx : (cfg0.win 8).xinj (grid0.coords t) y = ix2 (⟨(y 0).val, hy0⟩ : Fin 512) (⟨(y 1).val, hy1⟩ : Fin 256) := by
    funext a
    match a with
    | ⟨0, _⟩ => rfl
    | ⟨1, _⟩ => rfl
  show (outsAt0 m c t).2.1 ((cfg0.win 8).xinj (grid0.coords t) y) = G8 m c (((cfg0.win 8).blk t).view.emb y)
  rw [hx]
  refine (out8 m c t ⟨(y 0).val, hy0⟩ ⟨(y 1).val, hy1⟩).trans ?_
  unfold G8
  rw [hb0, hb1]

theorem flushes8 : ∀ t : Fin cfg0.N, (cfg0.win 8).flush t = true := (by decide +kernel : ∀ t : Fin grid0.N, win0_8.flush t = true)

theorem mem_blk8 (t : Fin cfg0.N) (i : S32768x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v34_1).slice (win0_8.rect t)).set ↔ _
  rw [View.set_slice_whole, Rect.mem_set_unit]
  exact Iff.rfl

theorem covered8 (i : S32768x256.Idx) : ∃ t : Fin cfg0.N, (cfg0.win 8).flush t = true ∧ i ∈ ((cfg0.win 8).blk t).view.set := by
  have h0 : (i 0).val < 32768 := (i 0).isLt
  have h1 : (i 1).val < 256 := (i 1).isLt
  have hp : (i 0).val / 512 < cfg0.N := lt_of_lt_of_eq (show _ < 64 by omega) N_eq.symm
  refine ⟨⟨_, hp⟩, flushes8 _, ?_⟩
  rw [mem_blk8]
  obtain ⟨-, -, -, -, -, -, -, -, ⟨e0, e1⟩, -⟩ := idx_facts ⟨_, hp⟩
  dsimp only at e0 e1
  intro a
  match a with
  | ⟨0, _⟩ => show win0_8.index _ (0 : Fin 2) * 512 ≤ (i 0).val ∧ (i 0).val < win0_8.index _ (0 : Fin 2) * 512 + 512; omega
  | ⟨1, _⟩ => show win0_8.index _ (1 : Fin 2) * 256 ≤ (i 1).val ∧ (i 1).val < win0_8.index _ (1 : Fin 2) * 256 + 256; omega

theorem final8 (c : Dev nD) : (dats m 0 c).arrAt 8 cfg0.N = G8 m c :=
  (dats m 0 c).arrAt_eq_of_cover 8 _ (fun t _ => flushed8 m c t) (fun i => covered8 i)

theorem flushed9 (c : Dev nD) (t : Fin cfg0.N) : (dats m 0 c).flushed 9 t = ((cfg0.win 9).blk t).view.read (Elt Ideal) (G9 m c) := by
  rw [Cert.Kernel5Ideal.Value.flushed9]
  obtain ⟨-, -, -, -, -, -, -, -, -, e0, e1, e2, e3⟩ := idx_facts t
  have ht : t.val < 64 := lt_of_lt_of_eq t.isLt N_eq
  funext y
  have hy0 : (y 0).val < 2 := (y 0).isLt
  have hy1 : (y 1).val < 1 := (y 1).isLt
  have hy2 : (y 2).val < 128 := (y 2).isLt
  have hy3 : (y 3).val < 512 := (y 3).isLt
  have hb0 : ((cfg0.win 9).blk t).view.emb y 0 = (⟨(y 0).val, hy0⟩ : Fin 2) := Fin.ext (by
    show win0_9.index t (0 : Fin 4) * 2 + 1 * (y 0).val = (y 0).val
    rw [e0]; omega)
  have hb1 : ((cfg0.win 9).blk t).view.emb y 1 = (⟨t.val, ht⟩ : Fin 64) := Fin.ext (by
    show win0_9.index t (1 : Fin 4) * 1 + 1 * (y 1).val = t.val
    rw [e1]; omega)
  have hb2 : ((cfg0.win 9).blk t).view.emb y 2 = (⟨(y 2).val, hy2⟩ : Fin 128) := Fin.ext (by
    show win0_9.index t (2 : Fin 4) * 128 + 1 * (y 2).val = (y 2).val
    rw [e2]; omega)
  have hb3 : ((cfg0.win 9).blk t).view.emb y 3 = (⟨(y 3).val, hy3⟩ : Fin 512) := Fin.ext (by
    show win0_9.index t (3 : Fin 4) * 512 + 1 * (y 3).val = (y 3).val
    rw [e3]; omega)
  rw [View.read_apply]
  have hx : (cfg0.win 9).xinj (grid0.coords t) y = ix4 (⟨(y 0).val, hy0⟩ : Fin 2) (0 : Fin 1) (⟨(y 2).val, hy2⟩ : Fin 128) (⟨(y 3).val, hy3⟩ : Fin 512) := by
    funext a
    match a with
    | ⟨0, _⟩ => rfl
    | ⟨1, _⟩ => exact Fin.ext (by show (y 1).val = 0; omega)
    | ⟨2, _⟩ => rfl
    | ⟨3, _⟩ => rfl
  show (outsAt0 m c t).2.2 ((cfg0.win 9).xinj (grid0.coords t) y) = G9 m c (((cfg0.win 9).blk t).view.emb y)
  rw [hx]
  refine (out9 m c t ⟨(y 0).val, hy0⟩ ⟨(y 2).val, hy2⟩ ⟨(y 3).val, hy3⟩).trans ?_
  unfold G9
  rw [hb0, hb1, hb2, hb3]

theorem flushes9 : ∀ t : Fin cfg0.N, (cfg0.win 9).flush t = true := (by decide +kernel : ∀ t : Fin grid0.N, win0_9.flush t = true)

theorem mem_blk9 (t : Fin cfg0.N) (i : S2x64x128x512.Idx) :
    i ∈ ((cfg0.win 9).blk t).view.set ↔ ∀ a : Fin 4, win0_9.index t a * S2x1x128x512.size a ≤ (i a).val ∧ (i a).val < win0_9.index t a * S2x1x128x512.size a + S2x1x128x512.size a := by
  show i ∈ ((View.whole main_v34_2).slice (win0_9.rect t)).set ↔ _
  rw [View.set_slice_whole, Rect.mem_set_unit]
  exact Iff.rfl

theorem covered9 (i : S2x64x128x512.Idx) : ∃ t : Fin cfg0.N, (cfg0.win 9).flush t = true ∧ i ∈ ((cfg0.win 9).blk t).view.set := by
  have h0 : (i 0).val < 2 := (i 0).isLt
  have h1 : (i 1).val < 64 := (i 1).isLt
  have h2 : (i 2).val < 128 := (i 2).isLt
  have h3 : (i 3).val < 512 := (i 3).isLt
  have hp : (i 1).val < cfg0.N := lt_of_lt_of_eq (show _ < 64 by omega) N_eq.symm
  refine ⟨⟨_, hp⟩, flushes9 _, ?_⟩
  rw [mem_blk9]
  obtain ⟨-, -, -, -, -, -, -, -, -, e0, e1, e2, e3⟩ := idx_facts ⟨_, hp⟩
  dsimp only at e0 e1 e2 e3
  intro a
  match a with
  | ⟨0, _⟩ => show win0_9.index _ (0 : Fin 4) * 2 ≤ (i 0).val ∧ (i 0).val < win0_9.index _ (0 : Fin 4) * 2 + 2; omega
  | ⟨1, _⟩ => show win0_9.index _ (1 : Fin 4) * 1 ≤ (i 1).val ∧ (i 1).val < win0_9.index _ (1 : Fin 4) * 1 + 1; omega
  | ⟨2, _⟩ => show win0_9.index _ (2 : Fin 4) * 128 ≤ (i 2).val ∧ (i 2).val < win0_9.index _ (2 : Fin 4) * 128 + 128; omega
  | ⟨3, _⟩ => show win0_9.index _ (3 : Fin 4) * 512 ≤ (i 3).val ∧ (i 3).val < win0_9.index _ (3 : Fin 4) * 512 + 512; omega

theorem final9 (c : Dev nD) : (dats m 0 c).arrAt 9 cfg0.N = G9 m c :=
  (dats m 0 c).arrAt_eq_of_cover 9 _ (fun t _ => flushed9 m c t) (fun i => covered9 i)

/-- The run: the result arrays end at `G7`, `G8` and `G9`, every argument array as it was. -/
theorem run : θ_run defs (onTc (τ := τ) (main (F := Ideal))) ⟨m, fun _ => 0, ρ⟩ (fun r => ∀ c : Dev nD,
      r.2.mem ((c.tc : Thread nD τ).loc main_v34_0) = G7 m c
      ∧ r.2.mem ((c.tc : Thread nD τ).loc main_v34_1) = G8 m c
      ∧ r.2.mem ((c.tc : Thread nD τ).loc main_v34_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1.trans (final7 m c), (h c).2.1.trans (final8 m c), (h c).2.2.1.trans (final9 m c), (h c).2.2.2⟩) (Cert.Kernel5Ideal.Value.run_blocks m ρ)

end

/-! ## The reference's arrays -/

section

open Cert.Reference5Ideal.Read

variable (p : FVec Ideal S32768x9728 .bf16) (g : FVec Ideal S1x128 .f32) (r c : FVec Ideal S8192 .f32)

theorem ref_freq (i : Fin 32) : val_main_v17 (F := Ideal) (ix1 i) = freq i := by
  pointwise [val_main_v8, val_main_v9, val_main_v10, val_main_v11, val_main_v12, val_main_v13, val_main_v14, val_main_v15, val_main_v16, val_main_v17, val_main_cst, val_main_cst_0, val_main_cst_1, val_main_cst_2]
  rfl

/-! The angles of a token's row and column, for the queries and for the keys. -/

theorem ref_row_q (s : Fin 8192) (i : Fin 32) : val_main_v37 (F := Ideal) r (ix2 s i) = r (ix1 s) * freq i := by
  pointwise [val_main_v33, val_main_v34, val_main_v35, val_main_v36, val_main_v37]
  rw [ref_freq]

theorem ref_col_q (s : Fin 8192) (i : Fin 32) : val_main_v64 (F := Ideal) c (ix2 s i) = c (ix1 s) * freq i := by
  pointwise [val_main_v60, val_main_v61, val_main_v62, val_main_v63, val_main_v64]
  rw [ref_freq]

theorem ref_row_k (s : Fin 8192) (i : Fin 32) : val_main_v107 (F := Ideal) r (ix2 s i) = r (ix1 s) * freq i := by
  pointwise [val_main_v103, val_main_v104, val_main_v105, val_main_v106, val_main_v107]
  rw [ref_freq]

theorem ref_col_k (s : Fin 8192) (i : Fin 32) : val_main_v134 (F := Ideal) c (ix2 s i) = c (ix1 s) * freq i := by
  pointwise [val_main_v130, val_main_v131, val_main_v132, val_main_v133, val_main_v134]
  rw [ref_freq]

/-! The normalized heads. -/

theorem ref_norm_q (b : Fin 4) (s : Fin 8192) (h : Fin 8) (d : Fin 128) : val_main_v31 (F := Ideal) p g (ix4 b s h d)
    = normed (fun d => p (ix2 (⟨b.val * 8192 + s.val, by omega⟩ : Fin 32768) ⟨6144 + (h.val * 128 + d.val), by omega⟩)) (fun d => g (ix2 0 d)) d := by
  have e : ∀ d : Fin 128, val_main_v3 (F := Ideal) p (ix4 b s h d) = p (ix2 (⟨b.val * 8192 + s.val, by omega⟩ : Fin 32768) ⟨6144 + (h.val * 128 + d.val), by omega⟩) := by
    intro d
    pointwise [val_main_v0, val_main_v1, val_main_v2, val_main_v3]
  pointwise [val_main_v18, val_main_v19, val_main_v20, val_main_v21, val_main_v22, val_main_v23, val_main_v24, val_main_v25, val_main_v26, val_main_v27, val_main_v28, val_main_v29, val_main_v30, val_main_v31, val_main_cst_3, val_main_cst_4, val_main_cst_5]
  simp only [e]
  rfl

theorem ref_norm_k (b : Fin 4) (s : Fin 8192) (h : Fin 2) (d : Fin 128) : val_main_v101 (F := Ideal) p g (ix4 b s h d)
    = normed (fun d => p (ix2 (⟨b.val * 8192 + s.val, by omega⟩ : Fin 32768) ⟨9216 + (h.val * 128 + d.val), by omega⟩)) (fun d => g (ix2 0 d)) d := by
  have e : ∀ d : Fin 128, val_main_v5 (F := Ideal) p (ix4 b s h d) = p (ix2 (⟨b.val * 8192 + s.val, by omega⟩ : Fin 32768) ⟨9216 + (h.val * 128 + d.val), by omega⟩) := by
    intro d
    pointwise [val_main_v0, val_main_v1, val_main_v4, val_main_v5]
  pointwise [val_main_v88, val_main_v89, val_main_v90, val_main_v91, val_main_v92, val_main_v93, val_main_v94, val_main_v95, val_main_v96, val_main_v97, val_main_v98, val_main_v99, val_main_v100, val_main_v101, val_main_cst_6, val_main_cst_7, val_main_cst_8]
  simp only [e]
  rfl

/-- The four quarters side by side are the head turned. -/
theorem quarters_eq (y : Fin 128 → EReal) (r c : EReal) (d : Fin 128) :
    (if h : d.val < 64 then
      if h' : d.val < 32 then
        y d * Ideal.cos (r * freq ⟨d.val, h'⟩) - y ⟨32 + d.val, by omega⟩ * Ideal.sin (r * freq ⟨d.val, h'⟩)
      else
        y ⟨d.val - 32, by omega⟩ * Ideal.sin (r * freq ⟨d.val - 32, by omega⟩) + y ⟨32 + (d.val - 32), by omega⟩ * Ideal.cos (r * freq ⟨d.val - 32, by omega⟩)
    else
      if h' : d.val - 64 < 32 then
        y ⟨64 + (d.val - 64), by omega⟩ * Ideal.cos (c * freq ⟨d.val - 64, h'⟩) - y ⟨64 + (32 + (d.val - 64)), by omega⟩ * Ideal.sin (c * freq ⟨d.val - 64, h'⟩)
      else
        y ⟨64 + (d.val - 64 - 32), by omega⟩ * Ideal.sin (c * freq ⟨d.val - 64 - 32, by omega⟩) + y ⟨64 + (32 + (d.val - 64 - 32)), by omega⟩ * Ideal.cos (c * freq ⟨d.val - 64 - 32, by omega⟩))
      = rope y r c d := by
  have hd := d.isLt
  have hy : ∀ (n k : ℕ) (h : n < 128) (h' : k < 128), n = k → y ⟨n, h⟩ = y ⟨k, h'⟩ := fun n k h h' e => congrArg y (Fin.ext e)
  have hf : ∀ (n : ℕ) (h : n < 32), n = d.val % 32 → freq ⟨n, h⟩ = freq ⟨d.val % 32, by omega⟩ := fun n h e => congrArg freq (Fin.ext e)
  unfold rope angle
  by_cases h1 : d.val < 64
  · rw [dif_pos h1, if_pos h1]
    by_cases h2 : d.val < 32
    · rw [dif_pos h2, dif_pos (by omega : d.val % 64 < 32), hf (d.val) (by omega) (by omega), hy (32 + d.val) (d.val + 32) (by omega) (by omega) (by omega)]
    · rw [dif_neg h2, dif_neg (by omega : ¬ d.val % 64 < 32), hf (d.val - 32) (by omega) (by omega), hy (32 + (d.val - 32)) (d.val) (by omega) (by omega) (by omega)]
  · rw [dif_neg h1, if_neg h1]
    by_cases h2 : d.val - 64 < 32
    · rw [dif_pos h2, dif_pos (by omega : d.val % 64 < 32), hf (d.val - 64) (by omega) (by omega), hy (64 + (d.val - 64)) (d.val) (by omega) (by omega) (by omega), hy (64 + (32 + (d.val - 64))) (d.val + 32) (by omega) (by omega) (by omega)]
    · rw [dif_neg h2, dif_neg (by omega : ¬ d.val % 64 < 32), hf (d.val - 64 - 32) (by omega) (by omega), hy (64 + (d.val - 64 - 32)) (d.val - 32) (by omega) (by omega) (by omega), hy (64 + (32 + (d.val - 64 - 32))) (d.val) (by omega) (by omega) (by omega)]

theorem ref_turn_q (b : Fin 4) (s : Fin 8192) (h : Fin 8) (d : Fin 128) : val_main_v87 (F := Ideal) p g r c (ix4 b s h d)
    = rope (normed (fun d => p (ix2 (⟨b.val * 8192 + s.val, by omega⟩ : Fin 32768) ⟨6144 + (h.val * 128 + d.val), by omega⟩)) (fun d => g (ix2 0 d))) (r (ix1 s)) (c (ix1 s)) d := by
  pointwise [val_main_v32, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87]
  simp only [ref_norm_q, ref_row_q, ref_col_q]
  exact quarters_eq _ _ _ d

theorem ref_turn_k (b : Fin 4) (s : Fin 8192) (h : Fin 2) (d : Fin 128) : val_main_v157 (F := Ideal) p g r c (ix4 b s h d)
    = rope (normed (fun d => p (ix2 (⟨b.val * 8192 + s.val, by omega⟩ : Fin 32768) ⟨9216 + (h.val * 128 + d.val), by omega⟩)) (fun d => g (ix2 0 d))) (r (ix1 s)) (c (ix1 s)) d := by
  pointwise [val_main_v102, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157]
  simp only [ref_norm_k, ref_row_k, ref_col_k]
  exact quarters_eq _ _ _ d

theorem ref_q_all : val_main_v159 (F := Ideal) p g r c = fun i => qRes p g r c (i 0) (i 1) (i 2) := by
  funext i
  obtain ⟨T, l, s, rfl⟩ : ∃ (T : Fin 128) (l : Fin 1024) (s : Fin 256), i = ix3 T l s := ⟨i 0, i 1, i 2, eq_ix3 i⟩
  have hT := T.isLt
  have hs := s.isLt
  pointwise [val_main_v159, val_main_v158]
  rw [ref_turn_q]
  have e : (⟨T.val / 32 * 8192 + (T.val % 32 * 256 + s.val), by omega⟩ : Fin 32768) = ⟨T.val * 256 + s.val, by omega⟩ := Fin.ext (by show T.val / 32 * 8192 + (T.val % 32 * 256 + s.val) = T.val * 256 + s.val; omega)
  have e' : (⟨T.val % 32 * 256 + s.val, by omega⟩ : Fin 8192) = ⟨(T.val * 256 + s.val) % 8192, by omega⟩ := Fin.ext (by show T.val % 32 * 256 + s.val = (T.val * 256 + s.val) % 8192; omega)
  simp only [e, e']
  rfl

theorem ref_k_all : val_main_v163 (F := Ideal) p g r c = fun i => kRes p g r c (i 0) (i 1) := by
  funext i
  obtain ⟨R, l, rfl⟩ : ∃ (R : Fin 32768) (l : Fin 256), i = ix2 R l := ⟨i 0, i 1, eq_ix2 i⟩
  have hR := R.isLt
  pointwise [val_main_v163]
  rw [ref_turn_k]
  have e : (⟨R.val / 8192 * 8192 + R.val % 8192, by omega⟩ : Fin 32768) = R := Fin.ext (by show R.val / 8192 * 8192 + R.val % 8192 = R.val; omega)
  simp only [e]
  rfl

theorem ref_v_all : val_main_v162 (F := Ideal) p = fun i => vRes p (i 0) (i 1) (i 2) (i 3) := by
  funext i
  obtain ⟨j, T, d, s, rfl⟩ : ∃ (j : Fin 2) (T : Fin 64) (d : Fin 128) (s : Fin 512), i = ix4 j T d s := ⟨i 0, i 1, i 2, i 3, eq_ix4 i⟩
  have hT := T.isLt
  have hs := s.isLt
  pointwise [val_main_v162, val_main_v161, val_main_v160, val_main_v7, val_main_v6, val_main_v1, val_main_v0]
  have e : (⟨T.val / 16 * 8192 + (T.val % 16 * 512 + s.val), by omega⟩ : Fin 32768) = ⟨T.val * 512 + s.val, by omega⟩ := Fin.ext (by show T.val / 16 * 8192 + (T.val % 16 * 512 + s.val) = T.val * 512 + s.val; omega)
  rw [e]
  rfl

end

end Cert.Proof.Prep

end
-- ==== Proof.Prep.Claim.lean ====
/-
  The claims about the queries, keys and values of the attention layer: that over the extended reals the call's three results
  are the reference's, from any arguments, and that the reference's runs end.
-/
module

public import proofs.«01_k».proof.Proof.Prep.Value
public import proofs.«01_k».proof.Proof.Gen.Reference5Ideal.Run
public import proofs.«01_k».proof.Defs
public import Idealize.ShloMosaic.Lib.Quiescent

@[expose] public section

noncomputable section

open Idealize.ShloMosaic Idealize.ShloMosaic.TcCoe Idealize.SL.Sem

namespace Cert.Proof.Prep

/-- Over the extended reals the call and the reference end with the same three result arrays. -/
theorem algebraic : Cert.algebraic_Kernel5Ideal_Reference5Ideal := by
  intro m g m' g' _ hargs
  refine ⟨fun c => G7 m c, fun c => G8 m c, fun c => G9 m c, run m g, ?_⟩
  refine (θ_run Cert.Reference5Ideal.defs _ _).mono (fun r h c => ?_) (Cert.Reference5Ideal.Value.run m' g')
  obtain ⟨h1, h2, h3, hrest⟩ := h c
  obtain ⟨e0, e1, e2, e3, e4⟩ := hargs c
  refine ⟨h1.trans ?_, h2.trans ?_, h3.trans ?_, hrest⟩
  · rw [Cert.Reference5Ideal.Read.val_main_v159_eq, e0, e1, e3, e4]
    exact ref_q_all _ _ _ _
  · rw [Cert.Reference5Ideal.Read.val_main_v163_eq, e0, e2, e3, e4]
    exact ref_k_all _ _ _ _
  · rw [e0]
    exact (Cert.Reference5Ideal.Read.val_main_v162_eq _).trans (ref_v_all _)

/-- Every run of the reference ends. -/
theorem refFrame : Cert.quiescent_Reference5Ideal := by
  intro m g _
  exact (θ_run Cert.Reference5Ideal.defs _ _).mono
    (fun r h => ⟨fun c => (h c).2.2.2, sem_eq_zero_of_no_sems (by decide) r.2⟩) (Cert.Reference5Ideal.Value.run (F := Ideal) m g)

end Cert.Proof.Prep

end
-- ==== Proof.Meta.Blocks.lean ====
/-
  What the meta tokens' keys call leaves in its block, read at an index, in terms of the arrays it was given. Its grid is one
  point: the 16 meta tokens, each with two key heads, treated as the preparation call treats its key heads.
-/
module

public import proofs.«01_k».proof.Proof.Prep.Value
public import proofs.«01_k».proof.Proof.Gen.Kernel6Ideal.Frame
public import Idealize.ShloMosaic.Lib.Pipeline.ValueKit.Tiles

@[expose] public section

set_option maxRecDepth 16384

noncomputable section

open Idealize.ShloMosaic Idealize.ShloMosaic.TcCoe Idealize.SL.Sem

namespace Cert.Proof.Meta

open Cert.Kernel6Ideal Cert.Kernel6Ideal.Gen

open Cert.Proof.Prep (normed freq angle rope signed lane_select rope_eq)

/-! ## The body's block -/

/-- What is stored of the first head, and of the second. -/
theorem head0_apply (x0 : Vec Ideal S16x128 .bf16) (x1 x2 : Vec Ideal S16x128 .f32) (x3 : Vec Ideal S1x128 .f32) (r c : EReal) (s : Fin 16) (d : Fin 128)
    (hc : x1 (ix2 s d) = Ideal.cos (angle r c d)) (hs : x2 (ix2 s d) = signed r c d) :
    k0_pay7 (k0_pay2 x1) (k0_pay3 x2) k0_pay4 (k0_pay5 x0 x3) (k0_pay6 x0 x3) (ix2 s d)
      = rope (normed (fun d => x0 (ix2 s d)) (fun d => x3 (ix2 0 d))) r c d := by
  pointwise [k0_pay7, k0_pay2, k0_pay3, k0_pay4, k0_pay5, k0_pay6]
  rw [lane_select, hc, hs]
  exact rope_eq (normed (fun d => x0 (ix2 s d)) (fun d => x3 (ix2 0 d))) r c d

theorem head1_apply (x0 : Vec Ideal S16x128 .bf16) (x1 x2 : Vec Ideal S16x128 .f32) (x3 : Vec Ideal S1x128 .f32) (r c : EReal) (s : Fin 16) (d : Fin 128)
    (hc : x1 (ix2 s d) = Ideal.cos (angle r c d)) (hs : x2 (ix2 s d) = signed r c d) :
    k0_pay1 (k0_pay8 x3) (k0_pay9 x1) (k0_pay10 x2) k0_pay11 (k0_pay12 x0) (k0_pay13 x0) (ix2 s d)
      = rope (normed (fun d => x0 (ix2 s d)) (fun d => x3 (ix2 0 d))) r c d := by
  pointwise [k0_pay1, k0_pay8, k0_pay9, k0_pay10, k0_pay11, k0_pay12, k0_pay13]
  rw [lane_select, hc, hs]
  exact rope_eq (normed (fun d => x0 (ix2 s d)) (fun d => x3 (ix2 0 d))) r c d

section

variable (x0 : Vec Ideal S16x256 .bf16) (x1 x2 : Vec Ideal S16x128 .f32) (x3 : Vec Ideal S1x128 .f32) (ro co : Fin 16 → EReal)

/-- The keys of a meta token, the heads' features side by side, from the block's columns, the gain and the coordinates. -/
def keys (s : Fin 16) (l : Fin 256) : EReal :=
  rope (normed (fun d => x0 (ix2 s ⟨l.val / 128 * 128 + d.val, by omega⟩)) (fun d => x3 (ix2 0 d))) (ro s) (co s) ⟨l.val % 128, by omega⟩

theorem cols0_apply (s : Fin 16) (d : Fin 128) : View.ld x0 r0_0 (ix2 s d) = x0 (ix2 s ⟨d.val, by omega⟩) :=
  View.ld_unit_apply_of x0 _ _ _ (ix2 s d) (ix2 s ⟨d.val, by omega⟩) fun a => by
    match a with
    | ⟨0, _⟩ => show s.val = 0 + s.val; omega
    | ⟨1, _⟩ => show d.val = 0 + d.val; omega

theorem cols1_apply (s : Fin 16) (d : Fin 128) : View.ld x0 r0_3 (ix2 s d) = x0 (ix2 s ⟨128 + d.val, by omega⟩) :=
  View.ld_unit_apply_of x0 _ _ _ (ix2 s d) (ix2 s ⟨128 + d.val, by omega⟩) fun a => by
    match a with
    | ⟨0, _⟩ => show s.val = 0 + s.val; omega
    | ⟨1, _⟩ => show 128 + d.val = 128 + d.val; omega

theorem table_eq (x : Vec Ideal S16x128 .f32) : View.ld x r0_2 = x :=
  View.ld_unit_zero (funext fun a => by
    match a with
    | ⟨0, _⟩ => rfl
    | ⟨1, _⟩ => rfl) _ x

theorem gain_eq (x : Vec Ideal S1x128 .f32) : View.ld x r0_1 = x :=
  View.ld_unit_zero (funext fun a => by
    match a with
    | ⟨0, _⟩ => rfl
    | ⟨1, _⟩ => rfl) _ x

variable (hc : ∀ s d, x1 (ix2 s d) = Ideal.cos (angle (ro s) (co s) d)) (hs : ∀ s d, x2 (ix2 s d) = signed (ro s) (co s) d)

include hc hs in
/-- What the body leaves in the keys' buffer. -/
theorem out_keys (s : Fin 16) (l : Fin 256) : out0_4 x0 x1 x2 x3 (ix2 s l) = keys x0 x3 ro co s l := by
  unfold out0_4
  rw [table_eq, table_eq, gain_eq]
  refine View.canon_eq_of_allAt _ _ _ (cover0_4 _ _ _) ?_
  refine List.forall_mem_cons.2 ⟨?_, List.forall_mem_cons.2 ⟨?_, fun _ h => absurd h List.not_mem_nil⟩⟩
  · intro x hx
    obtain ⟨s', d, rfl⟩ : ∃ (s' : Fin 16) (d : Fin 128), x = ix2 s' d := ⟨x 0, x 1, eq_ix2 x⟩
    have hd := d.isLt
    obtain rfl : s' = s := Fin.ext (by
      have h : 0 + 1 * s'.val = s.val := congrArg (fun i : S16x256.Idx => (i 0).val) hx
      omega)
    have hl : 128 + 1 * d.val = l.val := congrArg (fun i : S16x256.Idx => (i 1).val) hx
    refine (head1_apply _ _ _ _ (ro s') (co s') s' d (hc s' d) (hs s' d)).trans ?_
    have e0 : l.val / 128 = 1 := by omega
    have e1 : (⟨l.val % 128, by omega⟩ : Fin 128) = d := Fin.ext (by show l.val % 128 = d.val; omega)
    unfold keys
    simp only [e0, e1, Nat.one_mul]
    exact congrArg (fun y => rope (normed y fun d => x3 (ix2 0 d)) (ro s') (co s') d) (funext fun d => cols1_apply x0 s' d)
  · intro x hx
    obtain ⟨s', d, rfl⟩ : ∃ (s' : Fin 16) (d : Fin 128), x = ix2 s' d := ⟨x 0, x 1, eq_ix2 x⟩
    have hd := d.isLt
    obtain rfl : s' = s := Fin.ext (by
      have h : 0 + 1 * s'.val = s.val := congrArg (fun i : S16x256.Idx => (i 0).val) hx
      omega)
    have hl : 0 + 1 * d.val = l.val := congrArg (fun i : S16x256.Idx => (i 1).val) hx
    refine (head0_apply _ _ _ _ (ro s') (co s') s' d (hc s' d) (hs s' d)).trans ?_
    have e0 : l.val / 128 = 0 := by omega
    have e1 : (⟨l.val % 128, by omega⟩ : Fin 128) = d := Fin.ext (by show l.val % 128 = d.val; omega)
    unfold keys
    simp only [e0, e1, Nat.zero_mul, Nat.zero_add]
    exact congrArg (fun y => rope (normed y fun d => x3 (ix2 0 d)) (ro s') (co s') d) (funext fun d => cols0_apply x0 s' d)

end

/-! ## The arrays the block comes from -/

/-- The result: the keys by meta token and column. -/
def kRes (p : FVec Ideal S16x9728 .bf16) (g : FVec Ideal S1x128 .f32) (ro co : FVec Ideal S16 .f32) (s : Fin 16) (l : Fin 256) : EReal :=
  rope (normed (fun d => p (ix2 s ⟨9216 + (l.val / 128 * 128 + d.val), by omega⟩)) (fun d => g (ix2 0 d))) (ro (ix1 s)) (co (ix1 s)) ⟨l.val % 128, by omega⟩

variable (m : (ℓ : Loc nD τ sig) → Buf (Elt Ideal) ℓ) (c : Dev nD)

/-- The call's arguments, as arrays. -/
abbrev aP : FVec Ideal S16x9728 .bf16 := m ((c : Thread nD τ).loc main_arg0)
abbrev aG : FVec Ideal S1x128 .f32 := m ((c : Thread nD τ).loc main_arg1)
abbrev aRo : FVec Ideal S16 .f32 := m ((c : Thread nD τ).loc main_arg2)
abbrev aCo : FVec Ideal S16 .f32 := m ((c : Thread nD τ).loc main_arg3)

/-- The frequencies and the angles as the call computes them. -/
def tFreq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

def tAngle (a : FVec Ideal S16 .f32) : FVec Ideal S16x32 .f32 :=
  mulf (broadcastInDim S16x32 ![0, 1] bcast_S16x1_S16x32_0_1 (broadcastInDim S16x1 ![0] bcast_S16_S16x1_0 a))
    (broadcastInDim S16x32 ![0, 1] bcast_S1x32_S16x32_0_1 (broadcastInDim S1x32 ![1] bcast_S32_S1x32_1 tFreq))

theorem tAngle_apply (a : FVec Ideal S16 .f32) (s : Fin 16) (i : Fin 32) : tAngle a (ix2 s i) = a (ix1 s) * freq i := by
  pointwise [tAngle, tFreq]
  rfl

theorem V_v22 : (V m c main_v22 : Vec Ideal S16x128 .f32) = concatenate S16x128 1 [⟨S16x32, Host.cos (tAngle (aRo m c))⟩, ⟨S16x32, Host.cos (tAngle (aRo m c))⟩, ⟨S16x32, Host.cos (tAngle (aCo m c))⟩, ⟨S16x32, Host.cos (tAngle (aCo m c))⟩] concatenates_S16x32_S16x32_S16x32_S16x32_S16x128_d1 := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem V_v29 : (V m c main_v29 : Vec Ideal S16x128 .f32) = concatenate S16x128 1 [⟨S16x32, Host.negf (Host.sin (tAngle (aRo m c)))⟩, ⟨S16x32, Host.sin (tAngle (aRo m c))⟩, ⟨S16x32, Host.negf (Host.sin (tAngle (aCo m c)))⟩, ⟨S16x32, Host.sin (tAngle (aCo m c))⟩] concatenates_S16x32_S16x32_S16x32_S16x32_S16x128_d1 := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem V_v31 : (V m c main_v31 : Vec Ideal S1x128 .f32) = broadcastInDim S1x128 ![1] bcast_S128_S1x128_1 (fun i => shapeCast S128 (aG m c) shapeCasts_S1x128_S128 i) := by
  show StableHlo.after hostOps0 _ _ = _
  simp only [hostOps0, StableHlo.TRef.binary, StableHlo.TRef.nullary, StableHlo.TRef.unary, StableHlo.TRef.toBuf, StableHlo.TRef.ofBuf, cast_eq]
  after_results_simp
  rfl

theorem cosines_apply (s : Fin 16) (d : Fin 128) : (V m c main_v22 : Vec Ideal S16x128 .f32) (ix2 s d) = Ideal.cos (angle (aRo m c (ix1 s)) (aCo m c (ix1 s)) d) := by
  rw [V_v22]
  pointwise
  have hd := d.isLt
  unfold angle
  by_cases h1 : d.val < 32
  · rw [dif_pos h1, tAngle_apply, if_pos (by omega : d.val < 64)]
    congr 3; exact Fin.ext (by show d.val = d.val % 32; omega)
  rw [dif_neg h1]
  by_cases h2 : d.val - 32 < 32
  · rw [dif_pos h2, tAngle_apply, if_pos (by omega : d.val < 64)]
    congr 3; exact Fin.ext (by show d.val - 32 = d.val % 32; omega)
  rw [dif_neg h2]
  by_cases h3 : d.val - 32 - 32 < 32
  · rw [dif_pos h3, tAngle_apply, if_neg (by omega : ¬ d.val < 64)]
    congr 3; exact Fin.ext (by show d.val - 32 - 32 = d.val % 32; omega)
  · rw [dif_neg h3, tAngle_apply, if_neg (by omega : ¬ d.val < 64)]
    congr 3; exact Fin.ext (by show d.val - 32 - 32 - 32 = d.val % 32; omega)

theorem sines_apply (s : Fin 16) (d : Fin 128) : (V m c main_v29 : Vec Ideal S16x128 .f32) (ix2 s d) = signed (aRo m c (ix1 s)) (aCo m c (ix1 s)) d := by
  rw [V_v29]
  pointwise
  have hd := d.isLt
  unfold signed angle
  by_cases h1 : d.val < 32
  · rw [dif_pos h1, tAngle_apply, if_pos (by omega : d.val % 64 < 32), if_pos (by omega : d.val < 64)]
    congr 4; exact Fin.ext (by show d.val = d.val % 32; omega)
  rw [dif_neg h1]
  by_cases h2 : d.val - 32 < 32
  · rw [dif_pos h2, tAngle_apply, if_neg (by omega : ¬ d.val % 64 < 32), if_pos (by omega : d.val < 64)]
    congr 3; exact Fin.ext (by show d.val - 32 = d.val % 32; omega)
  rw [dif_neg h2]
  by_cases h3 : d.val - 32 - 32 < 32
  · rw [dif_pos h3, tAngle_apply, if_pos (by omega : d.val % 64 < 32), if_neg (by omega : ¬ d.val < 64)]
    congr 4; exact Fin.ext (by show d.val - 32 - 32 = d.val % 32; omega)
  · rw [dif_neg h3, tAngle_apply, if_neg (by omega : ¬ d.val % 64 < 32), if_neg (by omega : ¬ d.val < 64)]
    congr 3; exact Fin.ext (by show d.val - 32 - 32 - 32 = d.val % 32; omega)

/-! ## The blocks at the grid's point -/

theorem N_eq : cfg0.N = 1 := by decide +kernel

/-- The printed index maps over the grid. -/
theorem idx_facts : ∀ t : Fin cfg0.N,
    (win0_0.index t (0 : Fin 2) = 0 ∧ win0_0.index t (1 : Fin 2) = 36)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem iblk0_apply (t : Fin cfg0.N) (s : Fin 16) (l : Fin 256) :
    (iblk m c 0 t : Vec Ideal S16x256 .bf16) (ix2 s l) = aP m c (ix2 s ⟨9216 + l.val, by omega⟩) := by
  obtain ⟨⟨e0, e1⟩, -⟩ := idx_facts t
  refine Eq.trans ?_ (congrFun (V_main_arg0 m c) (ix2 s ⟨9216 + l.val, by omega⟩))
  · unfold iblk
    rw [View.read_apply]
    show V m c main_arg0 _ = V m c main_arg0 _
    congr 1; funext a; apply Fin.ext
    match a with
    | ⟨0, _⟩ => show win0_0.index t (0 : Fin 2) * 16 + 1 * s.val = s.val; rw [e0]; omega
    | ⟨1, _⟩ => show win0_0.index t (1 : Fin 2) * 256 + 1 * l.val = 9216 + l.val; rw [e1]; omega

theorem iblk1_apply (t : Fin cfg0.N) (s : Fin 16) (d : Fin 128) :
    (iblk m c 1 t : Vec Ideal S16x128 .f32) (ix2 s d) = Ideal.cos (angle (aRo m c (ix1 s)) (aCo m c (ix1 s)) d) := by
  obtain ⟨-, ⟨e0, e1⟩, -⟩ := idx_facts t
  refine Eq.trans ?_ (cosines_apply m c s d)
  · unfold iblk
    rw [View.read_apply]
    show V m c main_v22 _ = V m c main_v22 _
    congr 1; funext a; apply Fin.ext
    match a with
    | ⟨0, _⟩ => show win0_1.index t (0 : Fin 2) * 16 + 1 * s.val = s.val; rw [e0]; omega
    | ⟨1, _⟩ => show win0_1.index t (1 : Fin 2) * 128 + 1 * d.val = d.val; rw [e1]; omega

theorem iblk2_apply (t : Fin cfg0.N) (s : Fin 16) (d : Fin 128) :
    (iblk m c 2 t : Vec Ideal S16x128 .f32) (ix2 s d) = signed (aRo m c (ix1 s)) (aCo m c (ix1 s)) d := by
  obtain ⟨-, -, ⟨e0, e1⟩, -⟩ := idx_facts t
  refine Eq.trans ?_ (sines_apply m c s d)
  · unfold iblk
    rw [View.read_apply]
    show V m c main_v29 _ = V m c main_v29 _
    congr 1; funext a; apply Fin.ext
    match a with
    | ⟨0, _⟩ => show win0_2.index t (0 : Fin 2) * 16 + 1 * s.val = s.val; rw [e0]; omega
    | ⟨1, _⟩ => show win0_2.index t (1 : Fin 2) * 128 + 1 * d.val = d.val; rw [e1]; omega

theorem iblk3_apply (t : Fin cfg0.N) (d : Fin 128) : (iblk m c 3 t : Vec Ideal S1x128 .f32) (ix2 0 d) = aG m c (ix2 0 d) := by
  obtain ⟨-, -, -, ⟨e0, e1⟩, -⟩ := idx_facts t
  refine Eq.trans ?_ ((congrFun (V_v31 m c) (ix2 0 d)).trans ?_)
  · unfold iblk
    rw [View.read_apply]
    show V m c main_v31 _ = V m c main_v31 _
    congr 1; funext a; apply Fin.ext
    match a with
    | ⟨0, _⟩ => show win0_3.index t (0 : Fin 2) * 1 + 1 * 0 = 0; rw [e0]
    | ⟨1, _⟩ => show win0_3.index t (1 : Fin 2) * 128 + 1 * d.val = d.val; rw [e1]; omega
  · pointwise

theorem out4 (t : Fin cfg0.N) (s : Fin 16) (l : Fin 256) :
    out0_4 (iblk m c 0 t) (iblk m c 1 t) (iblk m c 2 t) (iblk m c 3 t) (ix2 s l) = kRes (aP m c) (aG m c) (aRo m c) (aCo m c) s l := by
  refine (out_keys _ _ _ _ (fun s => aRo m c (ix1 s)) (fun s => aCo m c (ix1 s)) (iblk1_apply m c t) (iblk2_apply m c t) s l).trans ?_
  unfold keys
  simp only [iblk0_apply, iblk3_apply]
  rfl

end Cert.Proof.Meta

end
-- ==== Proof.Meta.Value.lean ====
/-
  The meta tokens' keys over the extended reals, and the reference's: normalized and turned.
-/
module

public import proofs.«01_k».proof.Proof.Meta.Blocks
public import proofs.«01_k».proof.Proof.Gen.Kernel6Ideal.Value
public import proofs.«01_k».proof.Proof.Gen.Reference6Ideal.Read

@[expose] public section

set_option maxRecDepth 16384

noncomputable section

namespace Cert.Proof.Meta

open Cert.Kernel6Ideal Cert.Kernel6Ideal.Gen

open Cert.Proof.Prep (normed freq angle rope quarters_eq)

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The kernel's array -/

section

variable (m : (ℓ : Loc nD τ sig) → Buf (Elt Ideal) ℓ) (ρ : Dev nD → PrngReg)

/-- The result array of a device. -/
def G4 (c : Dev nD) : Buf (Elt Ideal) ((c : Thread nD τ).loc main_v32) := fun i => kRes (aP m c) (aG m c) (aRo m c) (aCo m c) (i 0) (i 1)

theorem flushed4 (c : Dev nD) (t : Fin cfg0.N) : (dats m 0 c).flushed 4 t = ((cfg0.win 4).blk t).view.read (Elt Ideal) (G4 m c) := by
  rw [Cert.Kernel6Ideal.Value.flushed4]
  obtain ⟨-, -, -, -, e0, e1⟩ := idx_facts t
  funext y
  have hy0 : (y 0).val < 16 := (y 0).isLt
  have hy1 : (y 1).val < 256 := (y 1).isLt
  have hb0 : ((cfg0.win 4).blk t).view.emb y 0 = (⟨(y 0).val, hy0⟩ : Fin 16) := Fin.ext (by
    show win0_4.index t (0 : Fin 2) * 16 + 1 * (y 0).val = (y 0).val
    rw [e0]; omega)
  have hb1 : ((cfg0.win 4).blk t).view.emb y 1 = (⟨(y 1).val, hy1⟩ : Fin 256) := Fin.ext (by
    show win0_4.index t (1 : Fin 2) * 256 + 1 * (y 1).val = (y 1).val
    rw [e1]; omega)
  rw [View.read_apply]
  have hx : (cfg0.win 4).xinj (grid0.coords t) y = ix2 (⟨(y 0).val, hy0⟩ : Fin 16) (⟨(y 1).val, hy1⟩ : Fin 256) := by
    funext a
    match a with
    | ⟨0, _⟩ => rfl
    | ⟨1, _⟩ => rfl
  show out0_4 (iblk m c 0 t) (iblk m c 1 t) (iblk m c 2 t) (iblk m c 3 t) ((cfg0.win 4).xinj (grid0.coords t) y) = G4 m c (((cfg0.win 4).blk t).view.emb y)
  rw [hx]
  refine (out4 m c t ⟨(y 0).val, hy0⟩ ⟨(y 1).val, hy1⟩).trans ?_
  unfold G4
  rw [hb0, hb1]

theorem flushes4 : ∀ t : Fin cfg0.N, (cfg0.win 4).flush t = true := (by decide +kernel : ∀ t : Fin grid0.N, win0_4.flush t = true)

theorem mem_blk4 (t : Fin cfg0.N) (i : S16x256.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v32).slice (win0_4.rect t)).set ↔ _
  rw [View.set_slice_whole, Rect.mem_set_unit]
  exact Iff.rfl

theorem covered4 (i : S16x256.Idx) : ∃ t : Fin cfg0.N, (cfg0.win 4).flush t = true ∧ i ∈ ((cfg0.win 4).blk t).view.set := by
  have h0 : (i 0).val < 16 := (i 0).isLt
  have h1 : (i 1).val < 256 := (i 1).isLt
  have hp : 0 < cfg0.N := lt_of_lt_of_eq (show 0 < 1 by omega) N_eq.symm
  refine ⟨⟨_, hp⟩, flushes4 _, ?_⟩
  rw [mem_blk4]
  obtain ⟨-, -, -, -, e0, e1⟩ := idx_facts ⟨_, hp⟩
  intro a
  match a with
  | ⟨0, _⟩ => show win0_4.index _ (0 : Fin 2) * 16 ≤ (i 0).val ∧ (i 0).val < win0_4.index _ (0 : Fin 2) * 16 + 16; omega
  | ⟨1, _⟩ => show win0_4.index _ (1 : Fin 2) * 256 ≤ (i 1).val ∧ (i 1).val < win0_4.index _ (1 : Fin 2) * 256 + 256; omega

theorem final4 (c : Dev nD) : (dats m 0 c).arrAt 4 cfg0.N = G4 m c :=
  (dats m 0 c).arrAt_eq_of_cover 4 _ (fun t _ => flushed4 m c t) (fun i => covered4 i)

/-- The run: the result array ends at `G4`, every argument array as it was. -/
theorem run : θ_run defs (onTc (τ := τ) (main (F := Ideal))) ⟨m, fun _ => 0, ρ⟩ (fun r => ∀ c : Dev nD,
      r.2.mem ((c.tc : Thread nD τ).loc main_v32) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final4 m c), (h c).2⟩) (Cert.Kernel6Ideal.Value.run_blocks m ρ)

end

/-! ## The reference's array -/

section

open Cert.Reference6Ideal.Read

variable (p : FVec Ideal S16x9728 .bf16) (g : FVec Ideal S1x128 .f32) (r c : FVec Ideal S16 .f32)

theorem ref_freq (i : Fin 32) : val_main_v12 (F := Ideal) (ix1 i) = freq i := by
  pointwise [val_main_v3, val_main_v4, val_main_v5, val_main_v6, val_main_v7, val_main_v8, val_main_v9, val_main_v10, val_main_v11, val_main_v12, val_main_cst, val_main_cst_0, val_main_cst_1, val_main_cst_2]
  rfl

/-! The angles of a meta token's row and column. -/

theorem ref_row (s : Fin 16) (i : Fin 32) : val_main_v32 (F := Ideal) r (ix2 s i) = r (ix1 s) * freq i := by
  pointwise [val_main_v28, val_main_v29, val_main_v30, val_main_v31, val_main_v32]
  rw [ref_freq]

theorem ref_col (s : Fin 16) (i : Fin 32) : val_main_v55 (F := Ideal) c (ix2 s i) = c (ix1 s) * freq i := by
  pointwise [val_main_v51, val_main_v52, val_main_v53, val_main_v54, val_main_v55]
  rw [ref_freq]

/-! The normalized heads. -/

theorem ref_norm (s : Fin 16) (h : Fin 2) (d : Fin 128) : val_main_v26 (F := Ideal) p g (ix3 s h d)
    = normed (fun d => p (ix2 s ⟨9216 + (h.val * 128 + d.val), by omega⟩)) (fun d => g (ix2 0 d)) d := by
  have e : ∀ d : Fin 128, val_main_v2 (F := Ideal) p (ix3 s h d) = p (ix2 s ⟨9216 + (h.val * 128 + d.val), by omega⟩) := by
    intro d
    pointwise [val_main_v0, val_main_v1, val_main_v2]
  pointwise [val_main_v13, val_main_v14, val_main_v15, val_main_v16, val_main_v17, val_main_v18, val_main_v19, val_main_v20, val_main_v21, val_main_v22, val_main_v23, val_main_v24, val_main_v25, val_main_v26, val_main_cst_3, val_main_cst_4, val_main_cst_5]
  simp only [e]
  rfl

/-- The heads turned. -/
theorem ref_turn (s : Fin 16) (h : Fin 2) (d : Fin 128) : val_main_v73 (F := Ideal) p g r c (ix3 s h d)
    = rope (normed (fun d => p (ix2 s ⟨9216 + (h.val * 128 + d.val), by omega⟩)) (fun d => g (ix2 0 d))) (r (ix1 s)) (c (ix1 s)) d := by
  pointwise [val_main_v27, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73]
  simp only [ref_norm, ref_row, ref_col]
  exact quarters_eq _ _ _ d

theorem ref_all : val_main_v75 (F := Ideal) p g r c = fun i => kRes p g r c (i 0) (i 1) := by
  funext i
  obtain ⟨s, l, rfl⟩ : ∃ (s : Fin 16) (l : Fin 256), i = ix2 s l := ⟨i 0, i 1, eq_ix2 i⟩
  pointwise [val_main_v75, val_main_v74]
  rw [ref_turn]
  rfl

end

end Cert.Proof.Meta

end
-- ==== Proof.Meta.Claim.lean ====
/-
  The claims about the meta tokens' keys: that over the extended reals the call's result is the reference's, from any
  arguments, and that the reference's runs end.
-/
module

public import proofs.«01_k».proof.Proof.Meta.Value
public import proofs.«01_k».proof.Proof.Gen.Reference6Ideal.Run
public import proofs.«01_k».proof.Defs
public import Idealize.ShloMosaic.Lib.Quiescent

@[expose] public section

noncomputable section

open Idealize.ShloMosaic Idealize.ShloMosaic.TcCoe Idealize.SL.Sem

namespace Cert.Proof.Meta

/-- Over the extended reals the call and the reference end with the same result array. -/
theorem algebraic : Cert.algebraic_Kernel6Ideal_Reference6Ideal := by
  intro m g m' g' _ hargs
  refine ⟨fun c => G4 m c, run m g, ?_⟩
  refine (θ_run Cert.Reference6Ideal.defs _ _).mono (fun r h c => ?_) (Cert.Reference6Ideal.Value.run m' g')
  obtain ⟨h1, hrest⟩ := h c
  obtain ⟨e0, e1, e2, e3⟩ := hargs c
  refine ⟨h1.trans ?_, hrest⟩
  rw [Cert.Reference6Ideal.Read.val_main_v75_eq, e0, e1, e2, e3]
  exact ref_all _ _ _ _

/-- Every run of the reference ends. -/
theorem refFrame : Cert.quiescent_Reference6Ideal := by
  intro m g _
  exact (θ_run Cert.Reference6Ideal.defs _ _).mono
    (fun r h => ⟨fun c => (h c).2, sem_eq_zero_of_no_sems (by decide) r.2⟩) (Cert.Reference6Ideal.Value.run (F := Ideal) m g)

end Cert.Proof.Meta

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Flash.Frame
public import proofs.«01_k».proof.Proof.FlashBits.Frame
public import proofs.«01_k».proof.Proof.Moe.Claim
public import proofs.«01_k».proof.Proof.Flash.Claim
public import proofs.«01_k».proof.Proof.Inproj.Claim
public import proofs.«01_k».proof.Proof.Post.Claim
public import proofs.«01_k».proof.Proof.Prep.Claim
public import proofs.«01_k».proof.Proof.Meta.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's reference runs to its end and leaves its arguments and the semaphores as they were. -/
theorem refFrame : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Proof.Flash.preFacts,
  fun m ρ _ => Cert.Proof.FlashBits.frame m ρ, fun m ρ _ => Cert.Proof.Flash.frame m ρ, fun m ρ _ => Cert.Proof.Flash.frame m ρ,
  refFrame, fun m ρ _ => refFrame m ρ trivial,
  fun m ρ _ => Cert.Kernel2.Gen.frame m ρ, fun m ρ _ => Cert.Kernel2Ideal.Gen.frame m ρ, Cert.Proof.Moe.refFrame,
  Cert.Proof.Inproj.frameBits, fun m ρ _ => Cert.Proof.Inproj.frame m ρ, Cert.Proof.Inproj.refFrame,
  fun m ρ _ => Cert.Kernel4.Gen.frame m ρ, fun m ρ _ => Cert.Kernel4Ideal.Gen.frame m ρ, Cert.Proof.Post.refFrame,
  fun m ρ _ => Cert.Kernel5.Gen.frame m ρ, fun m ρ _ => Cert.Kernel5Ideal.Gen.frame m ρ, Cert.Proof.Prep.refFrame,
  fun m ρ _ => Cert.Kernel6.Gen.frame m ρ, fun m ρ _ => Cert.Kernel6Ideal.Gen.frame m ρ, Cert.Proof.Meta.refFrame,
  ⟨IdealRules.named_const.statement Cert.KernelIdeal.κ "scale_log2e" .f32 _ _ rfl,
   IdealRules.named_const.statement Cert.KernelIdeal.κ "mask" .f32 _ _ rfl⟩,
  Cert.Proof.Flash.algebraic,
  trivial, Cert.Proof.Moe.algebraic,
  trivial, Cert.Proof.Inproj.algebraic,
  trivial, Cert.Proof.Post.algebraic,
  trivial, Cert.Proof.Prep.algebraic,
  trivial, Cert.Proof.Meta.algebraic⟩

end Cert.Proof

end
